-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v723)) (v2 : (c : Dev Cert.KernelIdeal.nD) → Buf (Elt Ideal) ((c.tc : Thread Cert.KernelIdeal.nD Cert.KernelIdeal.τ).loc Cert.KernelIdeal.main_v724)) (v3 : (c : Dev Cert.KernelIdeal.nD) → Buf (Elt Ideal) ((c.tc : Thread Cert.KernelIdeal.nD Cert.KernelIdeal.τ).loc Cert.KernelIdeal.main_v725)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v723) = v1 c
          ∧ r.2.mem ((c.tc : Thread Cert.KernelIdeal.nD Cert.KernelIdeal.τ).loc Cert.KernelIdeal.main_v724) = v2 c
          ∧ r.2.mem ((c.tc : Thread Cert.KernelIdeal.nD Cert.KernelIdeal.τ).loc Cert.KernelIdeal.main_v725) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v936) = v1 c
          ∧ r.2.mem ((c.tc : Thread Cert.ReferenceIdeal.nD Cert.ReferenceIdeal.τ).loc Cert.ReferenceIdeal.main_v937) = v2 c
          ∧ r.2.mem ((c.tc : Thread Cert.ReferenceIdeal.nD Cert.ReferenceIdeal.τ).loc Cert.ReferenceIdeal.main_v938) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x131072x4 : Shape := ⟨3, ![8, 131072, 4]⟩
abbrev S1 : Shape := ⟨1, ![1]⟩
abbrev S8x4x131072 : Shape := ⟨3, ![8, 4, 131072]⟩
abbrev S8x1x131072 : Shape := ⟨3, ![8, 1, 131072]⟩
abbrev S1x4x131072 : Shape := ⟨3, ![1, 4, 131072]⟩
abbrev S1x1x131072 : Shape := ⟨3, ![1, 1, 131072]⟩
abbrev S4x131072 : Shape := ⟨2, ![4, 131072]⟩
abbrev S1x131072 : Shape := ⟨2, ![1, 131072]⟩
abbrev S131072 : Shape := ⟨1, ![131072]⟩
abbrev S8x131072 : Shape := ⟨2, ![8, 131072]⟩
abbrev S1x131072x4 : Shape := ⟨3, ![1, 131072, 4]⟩
abbrev S131072x4 : Shape := ⟨2, ![131072, 4]⟩
abbrev S_ : Shape := ⟨0, ![]⟩
abbrev S131072x1 : Shape := ⟨2, ![131072, 1]⟩
abbrev S131071 : Shape := ⟨1, ![131071]⟩
abbrev S20000x5x4 : Shape := ⟨3, ![20000, 5, 4]⟩
abbrev S131072x2 : Shape := ⟨2, ![131072, 2]⟩
abbrev S20000 : Shape := ⟨1, ![20000]⟩
abbrev S131072x3 : Shape := ⟨2, ![131072, 3]⟩
abbrev S20000x3 : Shape := ⟨2, ![20000, 3]⟩
abbrev S20000x4 : Shape := ⟨2, ![20000, 4]⟩
abbrev S160000x5x4 : Shape := ⟨3, ![160000, 5, 4]⟩
abbrev S160000x4 : Shape := ⟨2, ![160000, 4]⟩
abbrev S160000 : Shape := ⟨1, ![160000]⟩

abbrev nBuf : Space → Nat
  | .hbm => 1671
  | .vmem => 4
  | .smem => 0
  | _ => 0

abbrev hbmTy0_0 (i : Nat) : BufTy := match i % 128 with
  | 0 => ⟨S8x131072x4, .f32⟩
  | 1 => ⟨S1, .i1⟩
  | 2 => ⟨S1, .i1⟩
  | 3 => ⟨S1, .i1⟩
  | 4 => ⟨S1, .i1⟩
  | 5 => ⟨S1, .i1⟩
  | 6 => ⟨S1, .i1⟩
  | 7 => ⟨S1, .i1⟩
  | 8 => ⟨S1, .i1⟩
  | 9 => ⟨S8x4x131072, .f32⟩
  | 10 => ⟨S8x1x131072, .i32⟩
  | 11 => ⟨S8x131072, .i32⟩
  | 12 => ⟨S1x131072x4, .f32⟩
  | 13 => ⟨S131072x4, .f32⟩
  | 14 => ⟨S1x131072, .i32⟩
  | 15 => ⟨S131072, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x4, .f32⟩
  | 37 => ⟨S_, .i32⟩
  | 38 => ⟨S131072, .i32⟩
  | 39 => ⟨S131072, .i1⟩
  | 40 => ⟨S131071, .i32⟩
  | 41 => ⟨S131071, .i32⟩
  | 42 => ⟨S131071, .i1⟩
  | 43 => ⟨S131072, .i1⟩
  | 44 => ⟨S131072, .i1⟩
  | 45 => ⟨S131072, .i32⟩
  | 46 => ⟨S_, .i32⟩
  | 47 => ⟨S_, .i32⟩
  | 48 => ⟨S131072, .i32⟩
  | 49 => ⟨S_, .i32⟩
  | 50 => ⟨S131072, .i32⟩
  | 51 => ⟨S131072, .i32⟩
  | 52 => ⟨S131072, .i32⟩
  | 53 => ⟨S_, .i32⟩
  | 54 => ⟨S_, .i32⟩
  | 55 => ⟨S131072, .i32⟩
  | 56 => ⟨S131072, .i32⟩
  | 57 => ⟨S_, .i32⟩
  | 58 => ⟨S_, .i32⟩
  | 59 => ⟨S131072, .i32⟩
  | 60 => ⟨S131072, .i32⟩
  | 61 => ⟨S_, .i32⟩
  | 62 => ⟨S131072, .i32⟩
  | 63 => ⟨S131072, .i1⟩
  | 64 => ⟨S131072, .i1⟩
  | 65 => ⟨S_, .i32⟩
  | 66 => ⟨S131072, .i32⟩
  | 67 => ⟨S131072, .i1⟩
  | 68 => ⟨S131072, .i1⟩
  | 69 => ⟨S_, .i32⟩
  | 70 => ⟨S131072, .i32⟩
  | 71 => ⟨S131072, .i1⟩
  | 72 => ⟨S131072, .i1⟩
  | 73 => ⟨S_, .i32⟩
  | 74 => ⟨S_, .i32⟩
  | 75 => ⟨S131072, .i32⟩
  | 76 => ⟨S131072, .i32⟩
  | 77 => ⟨S_, .i32⟩
  | 78 => ⟨S_, .i32⟩
  | 79 => ⟨S131072, .i32⟩
  | 80 => ⟨S131072, .i32⟩
  | 81 => ⟨S_, .f32⟩
  | 82 => ⟨S20000x5x4, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072x1, .i32⟩
  | 99 => ⟨S131072x2, .i32⟩
  | 100 => ⟨S20000x5x4, .f32⟩
  | 101 => ⟨S_, .i32⟩
  | 102 => ⟨S20000, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S20000, .i32⟩
  | 113 => ⟨S_, .i32⟩
  | 114 => ⟨S_, .i32⟩
  | 115 => ⟨S131072, .i32⟩
  | 116 => ⟨S131072, .i32⟩
  | 117 => ⟨S131072, .i32⟩
  | 118 => ⟨S_, .i32⟩
  | 119 => ⟨S131072, .i32⟩
  | 120 => ⟨S131072, .i1⟩
  | 121 => ⟨S131072, .i32⟩
  | 122 => ⟨S131072, .i32⟩
  | 123 => ⟨S_, .i32⟩
  | 124 => ⟨S131072, .i32⟩
  | 125 => ⟨S131072, .i1⟩
  | 126 => ⟨S131072, .i1⟩
  | 127 => ⟨S_, .i32⟩
  | _ => ⟨S8x131072x4, .f32⟩

abbrev hbmTy0_1 (i : Nat) : BufTy := match i % 128 with
  | 0 => ⟨S131072, .i32⟩
  | 1 => ⟨S131072, .i32⟩
  | 2 => ⟨S131072, .i32⟩
  | 3 => ⟨S_, .i32⟩
  | 4 => ⟨S_, .i32⟩
  | 5 => ⟨S131072, .i32⟩
  | 6 => ⟨S131072, .i32⟩
  | 7 => ⟨S131072, .i32⟩
  | 8 => ⟨S_, .i32⟩
  | 9 => ⟨S131072, .i32⟩
  | 10 => ⟨S131072, .i1⟩
  | 11 => ⟨S131072, .i32⟩
  | 12 => ⟨S131072, .i32⟩
  | 13 => ⟨S_, .i32⟩
  | 14 => ⟨S131072, .i32⟩
  | 15 => ⟨S131072, .i1⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i1⟩
  | 35 => ⟨S_, .i32⟩
  | 36 => ⟨S_, .i1⟩
  | 37 => ⟨S131072, .i1⟩
  | 38 => ⟨S131072, .i1⟩
  | 39 => ⟨S131072, .i1⟩
  | 40 => ⟨S131072, .i32⟩
  | 41 => ⟨S131072, .i32⟩
  | 42 => ⟨S131072, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i1⟩
  | 57 => ⟨S_, .i32⟩
  | 58 => ⟨S_, .i1⟩
  | 59 => ⟨S131072, .i1⟩
  | 60 => ⟨S131072, .i1⟩
  | 61 => ⟨S131072, .i1⟩
  | 62 => ⟨S131072, .i32⟩
  | 63 => ⟨S131072, .i32⟩
  | 64 => ⟨S131072, .i32⟩
  | 65 => ⟨S131072x1, .i32⟩
  | 66 => ⟨S131072x1, .i32⟩
  | 67 => ⟨S131072x1, .i32⟩
  | 68 => ⟨S131072x3, .i32⟩
  | 69 => ⟨S_, .i32⟩
  | 70 => ⟨S131072, .i32⟩
  | 71 => ⟨S131072, .i1⟩
  | 72 => ⟨S131072, .i1⟩
  | 73 => ⟨S_, .i32⟩
  | 74 => ⟨S_, .i32⟩
  | 75 => ⟨S131072, .i32⟩
  | 76 => ⟨S131072, .i32⟩
  | 77 => ⟨S_, .i32⟩
  | 78 => ⟨S20000x3, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S20000x3, .i32⟩
  | 88 => ⟨S_, .i32⟩
  | 89 => ⟨S_, .i32⟩
  | 90 => ⟨S20000x4, .i32⟩
  | 91 => ⟨S1x131072x4, .f32⟩
  | 92 => ⟨S131072x4, .f32⟩
  | 93 => ⟨S1x131072, .i32⟩
  | 94 => ⟨S131072, .i32⟩
  | 95 => ⟨S131072, .i32⟩
  | 96 => ⟨S131072, .i32⟩
  | 97 => ⟨S131072, .i32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S131072x4, .f32⟩
  | 116 => ⟨S_, .i32⟩
  | 117 => ⟨S131072, .i32⟩
  | 118 => ⟨S131072, .i1⟩
  | 119 => ⟨S131071, .i32⟩
  | 120 => ⟨S131071, .i32⟩
  | 121 => ⟨S131071, .i1⟩
  | 122 => ⟨S131072, .i1⟩
  | 123 => ⟨S131072, .i1⟩
  | 124 => ⟨S131072, .i32⟩
  | 125 => ⟨S_, .i32⟩
  | 126 => ⟨S_, .i32⟩
  | 127 => ⟨S131072, .i32⟩
  | _ => ⟨S8x131072x4, .f32⟩

abbrev hbmTy0_2 (i : Nat) : BufTy := match i % 128 with
  | 0 => ⟨S_, .i32⟩
  | 1 => ⟨S131072, .i32⟩
  | 2 => ⟨S131072, .i32⟩
  | 3 => ⟨S131072, .i32⟩
  | 4 => ⟨S_, .i32⟩
  | 5 => ⟨S_, .i32⟩
  | 6 => ⟨S131072, .i32⟩
  | 7 => ⟨S131072, .i32⟩
  | 8 => ⟨S_, .i32⟩
  | 9 => ⟨S_, .i32⟩
  | 10 => ⟨S131072, .i32⟩
  | 11 => ⟨S131072, .i32⟩
  | 12 => ⟨S_, .i32⟩
  | 13 => ⟨S131072, .i32⟩
  | 14 => ⟨S131072, .i1⟩
  | 15 => ⟨S131072, .i1⟩
  | 16 => ⟨S_, .i32⟩
  | 17 => ⟨S131072, .i32⟩
  | 18 => ⟨S131072, .i1⟩
  | 19 => ⟨S131072, .i1⟩
  | 20 => ⟨S_, .i32⟩
  | 21 => ⟨S131072, .i32⟩
  | 22 => ⟨S131072, .i1⟩
  | 23 => ⟨S131072, .i1⟩
  | 24 => ⟨S_, .i32⟩
  | 25 => ⟨S_, .i32⟩
  | 26 => ⟨S131072, .i32⟩
  | 27 => ⟨S131072, .i32⟩
  | 28 => ⟨S_, .i32⟩
  | 29 => ⟨S_, .i32⟩
  | 30 => ⟨S131072, .i32⟩
  | 31 => ⟨S131072, .i32⟩
  | 32 => ⟨S_, .f32⟩
  | 33 => ⟨S20000x5x4, .f32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x1, .i32⟩
  | 50 => ⟨S131072x2, .i32⟩
  | 51 => ⟨S20000x5x4, .f32⟩
  | 52 => ⟨S_, .i32⟩
  | 53 => ⟨S20000, .i32⟩
  | 54 => ⟨S131072, .i32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S131072x1, .i32⟩
  | 63 => ⟨S20000, .i32⟩
  | 64 => ⟨S_, .i32⟩
  | 65 => ⟨S_, .i32⟩
  | 66 => ⟨S131072, .i32⟩
  | 67 => ⟨S131072, .i32⟩
  | 68 => ⟨S131072, .i32⟩
  | 69 => ⟨S_, .i32⟩
  | 70 => ⟨S131072, .i32⟩
  | 71 => ⟨S131072, .i1⟩
  | 72 => ⟨S131072, .i32⟩
  | 73 => ⟨S131072, .i32⟩
  | 74 => ⟨S_, .i32⟩
  | 75 => ⟨S131072, .i32⟩
  | 76 => ⟨S131072, .i1⟩
  | 77 => ⟨S131072, .i1⟩
  | 78 => ⟨S_, .i32⟩
  | 79 => ⟨S131072, .i32⟩
  | 80 => ⟨S131072, .i32⟩
  | 81 => ⟨S131072, .i32⟩
  | 82 => ⟨S_, .i32⟩
  | 83 => ⟨S_, .i32⟩
  | 84 => ⟨S131072, .i32⟩
  | 85 => ⟨S131072, .i32⟩
  | 86 => ⟨S131072, .i32⟩
  | 87 => ⟨S_, .i32⟩
  | 88 => ⟨S131072, .i32⟩
  | 89 => ⟨S131072, .i1⟩
  | 90 => ⟨S131072, .i32⟩
  | 91 => ⟨S131072, .i32⟩
  | 92 => ⟨S_, .i32⟩
  | 93 => ⟨S131072, .i32⟩
  | 94 => ⟨S131072, .i1⟩
  | 95 => ⟨S131072, .i1⟩
  | 96 => ⟨S_, .i32⟩
  | 97 => ⟨S131072, .i32⟩
  | 98 => ⟨S131072, .i32⟩
  | 99 => ⟨S131072, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i1⟩
  | 114 => ⟨S_, .i32⟩
  | 115 => ⟨S_, .i1⟩
  | 116 => ⟨S131072, .i1⟩
  | 117 => ⟨S131072, .i1⟩
  | 118 => ⟨S131072, .i1⟩
  | 119 => ⟨S131072, .i32⟩
  | 120 => ⟨S131072, .i32⟩
  | 121 => ⟨S131072, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8x131072x4, .f32⟩

abbrev hbmTy0_3 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i1⟩
  | 8 => ⟨S_, .i32⟩
  | 9 => ⟨S_, .i1⟩
  | 10 => ⟨S131072, .i1⟩
  | 11 => ⟨S131072, .i1⟩
  | 12 => ⟨S131072, .i1⟩
  | 13 => ⟨S131072, .i32⟩
  | 14 => ⟨S131072, .i32⟩
  | 15 => ⟨S131072, .i32⟩
  | 16 => ⟨S131072x1, .i32⟩
  | 17 => ⟨S131072x1, .i32⟩
  | 18 => ⟨S131072x1, .i32⟩
  | 19 => ⟨S131072x3, .i32⟩
  | 20 => ⟨S_, .i32⟩
  | 21 => ⟨S131072, .i32⟩
  | 22 => ⟨S131072, .i1⟩
  | 23 => ⟨S131072, .i1⟩
  | 24 => ⟨S_, .i32⟩
  | 25 => ⟨S_, .i32⟩
  | 26 => ⟨S131072, .i32⟩
  | 27 => ⟨S131072, .i32⟩
  | 28 => ⟨S_, .i32⟩
  | 29 => ⟨S20000x3, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S20000x3, .i32⟩
  | 39 => ⟨S_, .i32⟩
  | 40 => ⟨S_, .i32⟩
  | 41 => ⟨S20000x4, .i32⟩
  | 42 => ⟨S1x131072x4, .f32⟩
  | 43 => ⟨S131072x4, .f32⟩
  | 44 => ⟨S1x131072, .i32⟩
  | 45 => ⟨S131072, .i32⟩
  | 46 => ⟨S131072, .i32⟩
  | 47 => ⟨S131072, .i32⟩
  | 48 => ⟨S131072, .i32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S131072x1, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x4, .f32⟩
  | 67 => ⟨S_, .i32⟩
  | 68 => ⟨S131072, .i32⟩
  | 69 => ⟨S131072, .i1⟩
  | 70 => ⟨S131071, .i32⟩
  | 71 => ⟨S131071, .i32⟩
  | 72 => ⟨S131071, .i1⟩
  | 73 => ⟨S131072, .i1⟩
  | 74 => ⟨S131072, .i1⟩
  | 75 => ⟨S131072, .i32⟩
  | 76 => ⟨S_, .i32⟩
  | 77 => ⟨S_, .i32⟩
  | 78 => ⟨S131072, .i32⟩
  | 79 => ⟨S_, .i32⟩
  | 80 => ⟨S131072, .i32⟩
  | 81 => ⟨S131072, .i32⟩
  | 82 => ⟨S131072, .i32⟩
  | 83 => ⟨S_, .i32⟩
  | 84 => ⟨S_, .i32⟩
  | 85 => ⟨S131072, .i32⟩
  | 86 => ⟨S131072, .i32⟩
  | 87 => ⟨S_, .i32⟩
  | 88 => ⟨S_, .i32⟩
  | 89 => ⟨S131072, .i32⟩
  | 90 => ⟨S131072, .i32⟩
  | 91 => ⟨S_, .i32⟩
  | 92 => ⟨S131072, .i32⟩
  | 93 => ⟨S131072, .i1⟩
  | 94 => ⟨S131072, .i1⟩
  | 95 => ⟨S_, .i32⟩
  | 96 => ⟨S131072, .i32⟩
  | 97 => ⟨S131072, .i1⟩
  | 98 => ⟨S131072, .i1⟩
  | 99 => ⟨S_, .i32⟩
  | 100 => ⟨S131072, .i32⟩
  | 101 => ⟨S131072, .i1⟩
  | 102 => ⟨S131072, .i1⟩
  | 103 => ⟨S_, .i32⟩
  | 104 => ⟨S_, .i32⟩
  | 105 => ⟨S131072, .i32⟩
  | 106 => ⟨S131072, .i32⟩
  | 107 => ⟨S_, .i32⟩
  | 108 => ⟨S_, .i32⟩
  | 109 => ⟨S131072, .i32⟩
  | 110 => ⟨S131072, .i32⟩
  | 111 => ⟨S_, .f32⟩
  | 112 => ⟨S20000x5x4, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S8x131072x4, .f32⟩

abbrev hbmTy0_4 (i : Nat) : BufTy := match i % 128 with
  | 0 => ⟨S131072x1, .i32⟩
  | 1 => ⟨S131072x2, .i32⟩
  | 2 => ⟨S20000x5x4, .f32⟩
  | 3 => ⟨S_, .i32⟩
  | 4 => ⟨S20000, .i32⟩
  | 5 => ⟨S131072, .i32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S20000, .i32⟩
  | 15 => ⟨S_, .i32⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S131072, .i32⟩
  | 24 => ⟨S131072, .i32⟩
  | 25 => ⟨S_, .i32⟩
  | 26 => ⟨S131072, .i32⟩
  | 27 => ⟨S131072, .i1⟩
  | 28 => ⟨S131072, .i1⟩
  | 29 => ⟨S_, .i32⟩
  | 30 => ⟨S131072, .i32⟩
  | 31 => ⟨S131072, .i32⟩
  | 32 => ⟨S131072, .i32⟩
  | 33 => ⟨S_, .i32⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S131072, .i32⟩
  | 42 => ⟨S131072, .i32⟩
  | 43 => ⟨S_, .i32⟩
  | 44 => ⟨S131072, .i32⟩
  | 45 => ⟨S131072, .i1⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S131072, .i32⟩
  | 58 => ⟨S131072, .i32⟩
  | 59 => ⟨S_, .i32⟩
  | 60 => ⟨S131072, .i32⟩
  | 61 => ⟨S131072, .i1⟩
  | 62 => ⟨S_, .i32⟩
  | 63 => ⟨S131072, .i32⟩
  | 64 => ⟨S131072, .i1⟩
  | 65 => ⟨S_, .i32⟩
  | 66 => ⟨S_, .i1⟩
  | 67 => ⟨S131072, .i1⟩
  | 68 => ⟨S131072, .i1⟩
  | 69 => ⟨S131072, .i1⟩
  | 70 => ⟨S131072, .i32⟩
  | 71 => ⟨S131072, .i32⟩
  | 72 => ⟨S131072, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S131072, .i32⟩
  | 80 => ⟨S131072, .i32⟩
  | 81 => ⟨S_, .i32⟩
  | 82 => ⟨S131072, .i32⟩
  | 83 => ⟨S131072, .i1⟩
  | 84 => ⟨S_, .i32⟩
  | 85 => ⟨S131072, .i32⟩
  | 86 => ⟨S131072, .i1⟩
  | 87 => ⟨S_, .i32⟩
  | 88 => ⟨S_, .i1⟩
  | 89 => ⟨S131072, .i1⟩
  | 90 => ⟨S131072, .i1⟩
  | 91 => ⟨S131072, .i1⟩
  | 92 => ⟨S131072, .i32⟩
  | 93 => ⟨S131072, .i32⟩
  | 94 => ⟨S131072, .i32⟩
  | 95 => ⟨S131072x1, .i32⟩
  | 96 => ⟨S131072x1, .i32⟩
  | 97 => ⟨S131072x1, .i32⟩
  | 98 => ⟨S131072x3, .i32⟩
  | 99 => ⟨S_, .i32⟩
  | 100 => ⟨S131072, .i32⟩
  | 101 => ⟨S131072, .i1⟩
  | 102 => ⟨S131072, .i1⟩
  | 103 => ⟨S_, .i32⟩
  | 104 => ⟨S_, .i32⟩
  | 105 => ⟨S131072, .i32⟩
  | 106 => ⟨S131072, .i32⟩
  | 107 => ⟨S_, .i32⟩
  | 108 => ⟨S20000x3, .i32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S20000x3, .i32⟩
  | 118 => ⟨S_, .i32⟩
  | 119 => ⟨S_, .i32⟩
  | 120 => ⟨S20000x4, .i32⟩
  | 121 => ⟨S1x131072x4, .f32⟩
  | 122 => ⟨S131072x4, .f32⟩
  | 123 => ⟨S1x131072, .i32⟩
  | 124 => ⟨S131072, .i32⟩
  | 125 => ⟨S131072, .i32⟩
  | 126 => ⟨S131072, .i32⟩
  | 127 => ⟨S131072, .i32⟩
  | _ => ⟨S8x131072x4, .f32⟩

abbrev hbmTy0_5 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S131072x4, .f32⟩
  | 18 => ⟨S_, .i32⟩
  | 19 => ⟨S131072, .i32⟩
  | 20 => ⟨S131072, .i1⟩
  | 21 => ⟨S131071, .i32⟩
  | 22 => ⟨S131071, .i32⟩
  | 23 => ⟨S131071, .i1⟩
  | 24 => ⟨S131072, .i1⟩
  | 25 => ⟨S131072, .i1⟩
  | 26 => ⟨S131072, .i32⟩
  | 27 => ⟨S_, .i32⟩
  | 28 => ⟨S_, .i32⟩
  | 29 => ⟨S131072, .i32⟩
  | 30 => ⟨S_, .i32⟩
  | 31 => ⟨S131072, .i32⟩
  | 32 => ⟨S131072, .i32⟩
  | 33 => ⟨S131072, .i32⟩
  | 34 => ⟨S_, .i32⟩
  | 35 => ⟨S_, .i32⟩
  | 36 => ⟨S131072, .i32⟩
  | 37 => ⟨S131072, .i32⟩
  | 38 => ⟨S_, .i32⟩
  | 39 => ⟨S_, .i32⟩
  | 40 => ⟨S131072, .i32⟩
  | 41 => ⟨S131072, .i32⟩
  | 42 => ⟨S_, .i32⟩
  | 43 => ⟨S131072, .i32⟩
  | 44 => ⟨S131072, .i1⟩
  | 45 => ⟨S131072, .i1⟩
  | 46 => ⟨S_, .i32⟩
  | 47 => ⟨S131072, .i32⟩
  | 48 => ⟨S131072, .i1⟩
  | 49 => ⟨S131072, .i1⟩
  | 50 => ⟨S_, .i32⟩
  | 51 => ⟨S131072, .i32⟩
  | 52 => ⟨S131072, .i1⟩
  | 53 => ⟨S131072, .i1⟩
  | 54 => ⟨S_, .i32⟩
  | 55 => ⟨S_, .i32⟩
  | 56 => ⟨S131072, .i32⟩
  | 57 => ⟨S131072, .i32⟩
  | 58 => ⟨S_, .i32⟩
  | 59 => ⟨S_, .i32⟩
  | 60 => ⟨S131072, .i32⟩
  | 61 => ⟨S131072, .i32⟩
  | 62 => ⟨S_, .f32⟩
  | 63 => ⟨S20000x5x4, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S20000x5x4, .f32⟩
  | 82 => ⟨S_, .i32⟩
  | 83 => ⟨S20000, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S20000, .i32⟩
  | 94 => ⟨S_, .i32⟩
  | 95 => ⟨S_, .i32⟩
  | 96 => ⟨S131072, .i32⟩
  | 97 => ⟨S131072, .i32⟩
  | 98 => ⟨S131072, .i32⟩
  | 99 => ⟨S_, .i32⟩
  | 100 => ⟨S131072, .i32⟩
  | 101 => ⟨S131072, .i1⟩
  | 102 => ⟨S131072, .i32⟩
  | 103 => ⟨S131072, .i32⟩
  | 104 => ⟨S_, .i32⟩
  | 105 => ⟨S131072, .i32⟩
  | 106 => ⟨S131072, .i1⟩
  | 107 => ⟨S131072, .i1⟩
  | 108 => ⟨S_, .i32⟩
  | 109 => ⟨S131072, .i32⟩
  | 110 => ⟨S131072, .i32⟩
  | 111 => ⟨S131072, .i32⟩
  | 112 => ⟨S_, .i32⟩
  | 113 => ⟨S_, .i32⟩
  | 114 => ⟨S131072, .i32⟩
  | 115 => ⟨S131072, .i32⟩
  | 116 => ⟨S131072, .i32⟩
  | 117 => ⟨S_, .i32⟩
  | 118 => ⟨S131072, .i32⟩
  | 119 => ⟨S131072, .i1⟩
  | 120 => ⟨S131072, .i32⟩
  | 121 => ⟨S131072, .i32⟩
  | 122 => ⟨S_, .i32⟩
  | 123 => ⟨S131072, .i32⟩
  | 124 => ⟨S131072, .i1⟩
  | 125 => ⟨S131072, .i1⟩
  | 126 => ⟨S_, .i32⟩
  | 127 => ⟨S131072, .i32⟩
  | _ => ⟨S8x131072x4, .f32⟩

abbrev hbmTy0_6 (i : Nat) : BufTy := match i % 128 with
  | 0 => ⟨S131072, .i32⟩
  | 1 => ⟨S131072, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i1⟩
  | 16 => ⟨S_, .i32⟩
  | 17 => ⟨S_, .i1⟩
  | 18 => ⟨S131072, .i1⟩
  | 19 => ⟨S131072, .i1⟩
  | 20 => ⟨S131072, .i1⟩
  | 21 => ⟨S131072, .i32⟩
  | 22 => ⟨S131072, .i32⟩
  | 23 => ⟨S131072, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i1⟩
  | 38 => ⟨S_, .i32⟩
  | 39 => ⟨S_, .i1⟩
  | 40 => ⟨S131072, .i1⟩
  | 41 => ⟨S131072, .i1⟩
  | 42 => ⟨S131072, .i1⟩
  | 43 => ⟨S131072, .i32⟩
  | 44 => ⟨S131072, .i32⟩
  | 45 => ⟨S131072, .i32⟩
  | 46 => ⟨S131072x1, .i32⟩
  | 47 => ⟨S131072x1, .i32⟩
  | 48 => ⟨S131072x1, .i32⟩
  | 49 => ⟨S131072x3, .i32⟩
  | 50 => ⟨S_, .i32⟩
  | 51 => ⟨S131072, .i32⟩
  | 52 => ⟨S131072, .i1⟩
  | 53 => ⟨S131072, .i1⟩
  | 54 => ⟨S_, .i32⟩
  | 55 => ⟨S_, .i32⟩
  | 56 => ⟨S131072, .i32⟩
  | 57 => ⟨S131072, .i32⟩
  | 58 => ⟨S_, .i32⟩
  | 59 => ⟨S20000x3, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S20000x3, .i32⟩
  | 69 => ⟨S_, .i32⟩
  | 70 => ⟨S_, .i32⟩
  | 71 => ⟨S20000x4, .i32⟩
  | 72 => ⟨S1x131072x4, .f32⟩
  | 73 => ⟨S131072x4, .f32⟩
  | 74 => ⟨S1x131072, .i32⟩
  | 75 => ⟨S131072, .i32⟩
  | 76 => ⟨S131072, .i32⟩
  | 77 => ⟨S131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072, .i32⟩
  | 88 => ⟨S_, .i32⟩
  | 89 => ⟨S131072, .i32⟩
  | 90 => ⟨S131072, .i1⟩
  | 91 => ⟨S_, .i32⟩
  | 92 => ⟨S131072, .i32⟩
  | 93 => ⟨S131072, .i32⟩
  | 94 => ⟨S131072, .i32⟩
  | 95 => ⟨S131072x1, .i32⟩
  | 96 => ⟨S131072x4, .f32⟩
  | 97 => ⟨S_, .i32⟩
  | 98 => ⟨S131072, .i32⟩
  | 99 => ⟨S131072, .i1⟩
  | 100 => ⟨S131071, .i32⟩
  | 101 => ⟨S131071, .i32⟩
  | 102 => ⟨S131071, .i1⟩
  | 103 => ⟨S131072, .i1⟩
  | 104 => ⟨S131072, .i1⟩
  | 105 => ⟨S131072, .i32⟩
  | 106 => ⟨S_, .i32⟩
  | 107 => ⟨S_, .i32⟩
  | 108 => ⟨S131072, .i32⟩
  | 109 => ⟨S_, .i32⟩
  | 110 => ⟨S131072, .i32⟩
  | 111 => ⟨S131072, .i32⟩
  | 112 => ⟨S131072, .i32⟩
  | 113 => ⟨S_, .i32⟩
  | 114 => ⟨S_, .i32⟩
  | 115 => ⟨S131072, .i32⟩
  | 116 => ⟨S131072, .i32⟩
  | 117 => ⟨S_, .i32⟩
  | 118 => ⟨S_, .i32⟩
  | 119 => ⟨S131072, .i32⟩
  | 120 => ⟨S131072, .i32⟩
  | 121 => ⟨S_, .i32⟩
  | 122 => ⟨S131072, .i32⟩
  | 123 => ⟨S131072, .i1⟩
  | 124 => ⟨S131072, .i1⟩
  | 125 => ⟨S_, .i32⟩
  | 126 => ⟨S131072, .i32⟩
  | 127 => ⟨S131072, .i1⟩
  | _ => ⟨S8x131072x4, .f32⟩

abbrev hbmTy0_7 (i : Nat) : BufTy := match i % 128 with
  | 0 => ⟨S131072, .i1⟩
  | 1 => ⟨S_, .i32⟩
  | 2 => ⟨S131072, .i32⟩
  | 3 => ⟨S131072, .i1⟩
  | 4 => ⟨S131072, .i1⟩
  | 5 => ⟨S_, .i32⟩
  | 6 => ⟨S_, .i32⟩
  | 7 => ⟨S131072, .i32⟩
  | 8 => ⟨S131072, .i32⟩
  | 9 => ⟨S_, .i32⟩
  | 10 => ⟨S_, .i32⟩
  | 11 => ⟨S131072, .i32⟩
  | 12 => ⟨S131072, .i32⟩
  | 13 => ⟨S_, .f32⟩
  | 14 => ⟨S20000x5x4, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x2, .i32⟩
  | 32 => ⟨S20000x5x4, .f32⟩
  | 33 => ⟨S_, .i32⟩
  | 34 => ⟨S20000, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S20000, .i32⟩
  | 45 => ⟨S_, .i32⟩
  | 46 => ⟨S_, .i32⟩
  | 47 => ⟨S131072, .i32⟩
  | 48 => ⟨S131072, .i32⟩
  | 49 => ⟨S131072, .i32⟩
  | 50 => ⟨S_, .i32⟩
  | 51 => ⟨S131072, .i32⟩
  | 52 => ⟨S131072, .i1⟩
  | 53 => ⟨S131072, .i32⟩
  | 54 => ⟨S131072, .i32⟩
  | 55 => ⟨S_, .i32⟩
  | 56 => ⟨S131072, .i32⟩
  | 57 => ⟨S131072, .i1⟩
  | 58 => ⟨S131072, .i1⟩
  | 59 => ⟨S_, .i32⟩
  | 60 => ⟨S131072, .i32⟩
  | 61 => ⟨S131072, .i32⟩
  | 62 => ⟨S131072, .i32⟩
  | 63 => ⟨S_, .i32⟩
  | 64 => ⟨S_, .i32⟩
  | 65 => ⟨S131072, .i32⟩
  | 66 => ⟨S131072, .i32⟩
  | 67 => ⟨S131072, .i32⟩
  | 68 => ⟨S_, .i32⟩
  | 69 => ⟨S131072, .i32⟩
  | 70 => ⟨S131072, .i1⟩
  | 71 => ⟨S131072, .i32⟩
  | 72 => ⟨S131072, .i32⟩
  | 73 => ⟨S_, .i32⟩
  | 74 => ⟨S131072, .i32⟩
  | 75 => ⟨S131072, .i1⟩
  | 76 => ⟨S131072, .i1⟩
  | 77 => ⟨S_, .i32⟩
  | 78 => ⟨S131072, .i32⟩
  | 79 => ⟨S131072, .i32⟩
  | 80 => ⟨S131072, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i1⟩
  | 95 => ⟨S_, .i32⟩
  | 96 => ⟨S_, .i1⟩
  | 97 => ⟨S131072, .i1⟩
  | 98 => ⟨S131072, .i1⟩
  | 99 => ⟨S131072, .i1⟩
  | 100 => ⟨S131072, .i32⟩
  | 101 => ⟨S131072, .i32⟩
  | 102 => ⟨S131072, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S131072, .i32⟩
  | 110 => ⟨S131072, .i32⟩
  | 111 => ⟨S_, .i32⟩
  | 112 => ⟨S131072, .i32⟩
  | 113 => ⟨S131072, .i1⟩
  | 114 => ⟨S_, .i32⟩
  | 115 => ⟨S131072, .i32⟩
  | 116 => ⟨S131072, .i1⟩
  | 117 => ⟨S_, .i32⟩
  | 118 => ⟨S_, .i1⟩
  | 119 => ⟨S131072, .i1⟩
  | 120 => ⟨S131072, .i1⟩
  | 121 => ⟨S131072, .i1⟩
  | 122 => ⟨S131072, .i32⟩
  | 123 => ⟨S131072, .i32⟩
  | 124 => ⟨S131072, .i32⟩
  | 125 => ⟨S131072x1, .i32⟩
  | 126 => ⟨S131072x1, .i32⟩
  | 127 => ⟨S131072x1, .i32⟩
  | _ => ⟨S8x131072x4, .f32⟩

abbrev hbmTy0_8 (i : Nat) : BufTy := match i % 128 with
  | 0 => ⟨S131072x3, .i32⟩
  | 1 => ⟨S_, .i32⟩
  | 2 => ⟨S131072, .i32⟩
  | 3 => ⟨S131072, .i1⟩
  | 4 => ⟨S131072, .i1⟩
  | 5 => ⟨S_, .i32⟩
  | 6 => ⟨S_, .i32⟩
  | 7 => ⟨S131072, .i32⟩
  | 8 => ⟨S131072, .i32⟩
  | 9 => ⟨S_, .i32⟩
  | 10 => ⟨S20000x3, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S20000x3, .i32⟩
  | 20 => ⟨S_, .i32⟩
  | 21 => ⟨S_, .i32⟩
  | 22 => ⟨S20000x4, .i32⟩
  | 23 => ⟨S1x131072x4, .f32⟩
  | 24 => ⟨S131072x4, .f32⟩
  | 25 => ⟨S1x131072, .i32⟩
  | 26 => ⟨S131072, .i32⟩
  | 27 => ⟨S131072, .i32⟩
  | 28 => ⟨S131072, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072x4, .f32⟩
  | 48 => ⟨S_, .i32⟩
  | 49 => ⟨S131072, .i32⟩
  | 50 => ⟨S131072, .i1⟩
  | 51 => ⟨S131071, .i32⟩
  | 52 => ⟨S131071, .i32⟩
  | 53 => ⟨S131071, .i1⟩
  | 54 => ⟨S131072, .i1⟩
  | 55 => ⟨S131072, .i1⟩
  | 56 => ⟨S131072, .i32⟩
  | 57 => ⟨S_, .i32⟩
  | 58 => ⟨S_, .i32⟩
  | 59 => ⟨S131072, .i32⟩
  | 60 => ⟨S_, .i32⟩
  | 61 => ⟨S131072, .i32⟩
  | 62 => ⟨S131072, .i32⟩
  | 63 => ⟨S131072, .i32⟩
  | 64 => ⟨S_, .i32⟩
  | 65 => ⟨S_, .i32⟩
  | 66 => ⟨S131072, .i32⟩
  | 67 => ⟨S131072, .i32⟩
  | 68 => ⟨S_, .i32⟩
  | 69 => ⟨S_, .i32⟩
  | 70 => ⟨S131072, .i32⟩
  | 71 => ⟨S131072, .i32⟩
  | 72 => ⟨S_, .i32⟩
  | 73 => ⟨S131072, .i32⟩
  | 74 => ⟨S131072, .i1⟩
  | 75 => ⟨S131072, .i1⟩
  | 76 => ⟨S_, .i32⟩
  | 77 => ⟨S131072, .i32⟩
  | 78 => ⟨S131072, .i1⟩
  | 79 => ⟨S131072, .i1⟩
  | 80 => ⟨S_, .i32⟩
  | 81 => ⟨S131072, .i32⟩
  | 82 => ⟨S131072, .i1⟩
  | 83 => ⟨S131072, .i1⟩
  | 84 => ⟨S_, .i32⟩
  | 85 => ⟨S_, .i32⟩
  | 86 => ⟨S131072, .i32⟩
  | 87 => ⟨S131072, .i32⟩
  | 88 => ⟨S_, .i32⟩
  | 89 => ⟨S_, .i32⟩
  | 90 => ⟨S131072, .i32⟩
  | 91 => ⟨S131072, .i32⟩
  | 92 => ⟨S_, .f32⟩
  | 93 => ⟨S20000x5x4, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072x1, .i32⟩
  | 110 => ⟨S131072x2, .i32⟩
  | 111 => ⟨S20000x5x4, .f32⟩
  | 112 => ⟨S_, .i32⟩
  | 113 => ⟨S20000, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S20000, .i32⟩
  | 124 => ⟨S_, .i32⟩
  | 125 => ⟨S_, .i32⟩
  | 126 => ⟨S131072, .i32⟩
  | 127 => ⟨S131072, .i32⟩
  | _ => ⟨S8x131072x4, .f32⟩

abbrev hbmTy0_9 (i : Nat) : BufTy := match i % 128 with
  | 0 => ⟨S131072, .i32⟩
  | 1 => ⟨S_, .i32⟩
  | 2 => ⟨S131072, .i32⟩
  | 3 => ⟨S131072, .i1⟩
  | 4 => ⟨S131072, .i32⟩
  | 5 => ⟨S131072, .i32⟩
  | 6 => ⟨S_, .i32⟩
  | 7 => ⟨S131072, .i32⟩
  | 8 => ⟨S131072, .i1⟩
  | 9 => ⟨S131072, .i1⟩
  | 10 => ⟨S_, .i32⟩
  | 11 => ⟨S131072, .i32⟩
  | 12 => ⟨S131072, .i32⟩
  | 13 => ⟨S131072, .i32⟩
  | 14 => ⟨S_, .i32⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S131072, .i32⟩
  | 23 => ⟨S131072, .i32⟩
  | 24 => ⟨S_, .i32⟩
  | 25 => ⟨S131072, .i32⟩
  | 26 => ⟨S131072, .i1⟩
  | 27 => ⟨S131072, .i1⟩
  | 28 => ⟨S_, .i32⟩
  | 29 => ⟨S131072, .i32⟩
  | 30 => ⟨S131072, .i32⟩
  | 31 => ⟨S131072, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i1⟩
  | 46 => ⟨S_, .i32⟩
  | 47 => ⟨S_, .i1⟩
  | 48 => ⟨S131072, .i1⟩
  | 49 => ⟨S131072, .i1⟩
  | 50 => ⟨S131072, .i1⟩
  | 51 => ⟨S131072, .i32⟩
  | 52 => ⟨S131072, .i32⟩
  | 53 => ⟨S131072, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i1⟩
  | 68 => ⟨S_, .i32⟩
  | 69 => ⟨S_, .i1⟩
  | 70 => ⟨S131072, .i1⟩
  | 71 => ⟨S131072, .i1⟩
  | 72 => ⟨S131072, .i1⟩
  | 73 => ⟨S131072, .i32⟩
  | 74 => ⟨S131072, .i32⟩
  | 75 => ⟨S131072, .i32⟩
  | 76 => ⟨S131072x1, .i32⟩
  | 77 => ⟨S131072x1, .i32⟩
  | 78 => ⟨S131072x1, .i32⟩
  | 79 => ⟨S131072x3, .i32⟩
  | 80 => ⟨S_, .i32⟩
  | 81 => ⟨S131072, .i32⟩
  | 82 => ⟨S131072, .i1⟩
  | 83 => ⟨S131072, .i1⟩
  | 84 => ⟨S_, .i32⟩
  | 85 => ⟨S_, .i32⟩
  | 86 => ⟨S131072, .i32⟩
  | 87 => ⟨S131072, .i32⟩
  | 88 => ⟨S_, .i32⟩
  | 89 => ⟨S20000x3, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S20000x3, .i32⟩
  | 99 => ⟨S_, .i32⟩
  | 100 => ⟨S_, .i32⟩
  | 101 => ⟨S20000x4, .i32⟩
  | 102 => ⟨S1x131072x4, .f32⟩
  | 103 => ⟨S131072x4, .f32⟩
  | 104 => ⟨S1x131072, .i32⟩
  | 105 => ⟨S131072, .i32⟩
  | 106 => ⟨S131072, .i32⟩
  | 107 => ⟨S131072, .i32⟩
  | 108 => ⟨S131072, .i32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S131072, .i32⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S131072x1, .i32⟩
  | 126 => ⟨S131072x4, .f32⟩
  | 127 => ⟨S_, .i32⟩
  | _ => ⟨S8x131072x4, .f32⟩

abbrev hbmTy0_10 (i : Nat) : BufTy := match i % 128 with
  | 0 => ⟨S131072, .i32⟩
  | 1 => ⟨S131072, .i1⟩
  | 2 => ⟨S131071, .i32⟩
  | 3 => ⟨S131071, .i32⟩
  | 4 => ⟨S131071, .i1⟩
  | 5 => ⟨S131072, .i1⟩
  | 6 => ⟨S131072, .i1⟩
  | 7 => ⟨S131072, .i32⟩
  | 8 => ⟨S_, .i32⟩
  | 9 => ⟨S_, .i32⟩
  | 10 => ⟨S131072, .i32⟩
  | 11 => ⟨S_, .i32⟩
  | 12 => ⟨S131072, .i32⟩
  | 13 => ⟨S131072, .i32⟩
  | 14 => ⟨S131072, .i32⟩
  | 15 => ⟨S_, .i32⟩
  | 16 => ⟨S_, .i32⟩
  | 17 => ⟨S131072, .i32⟩
  | 18 => ⟨S131072, .i32⟩
  | 19 => ⟨S_, .i32⟩
  | 20 => ⟨S_, .i32⟩
  | 21 => ⟨S131072, .i32⟩
  | 22 => ⟨S131072, .i32⟩
  | 23 => ⟨S_, .i32⟩
  | 24 => ⟨S131072, .i32⟩
  | 25 => ⟨S131072, .i1⟩
  | 26 => ⟨S131072, .i1⟩
  | 27 => ⟨S_, .i32⟩
  | 28 => ⟨S131072, .i32⟩
  | 29 => ⟨S131072, .i1⟩
  | 30 => ⟨S131072, .i1⟩
  | 31 => ⟨S_, .i32⟩
  | 32 => ⟨S131072, .i32⟩
  | 33 => ⟨S131072, .i1⟩
  | 34 => ⟨S131072, .i1⟩
  | 35 => ⟨S_, .i32⟩
  | 36 => ⟨S_, .i32⟩
  | 37 => ⟨S131072, .i32⟩
  | 38 => ⟨S131072, .i32⟩
  | 39 => ⟨S_, .i32⟩
  | 40 => ⟨S_, .i32⟩
  | 41 => ⟨S131072, .i32⟩
  | 42 => ⟨S131072, .i32⟩
  | 43 => ⟨S_, .f32⟩
  | 44 => ⟨S20000x5x4, .f32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072x1, .i32⟩
  | 61 => ⟨S131072x2, .i32⟩
  | 62 => ⟨S20000x5x4, .f32⟩
  | 63 => ⟨S_, .i32⟩
  | 64 => ⟨S20000, .i32⟩
  | 65 => ⟨S131072, .i32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S131072x1, .i32⟩
  | 74 => ⟨S20000, .i32⟩
  | 75 => ⟨S_, .i32⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S131072, .i32⟩
  | 84 => ⟨S131072, .i32⟩
  | 85 => ⟨S_, .i32⟩
  | 86 => ⟨S131072, .i32⟩
  | 87 => ⟨S131072, .i1⟩
  | 88 => ⟨S131072, .i1⟩
  | 89 => ⟨S_, .i32⟩
  | 90 => ⟨S131072, .i32⟩
  | 91 => ⟨S131072, .i32⟩
  | 92 => ⟨S131072, .i32⟩
  | 93 => ⟨S_, .i32⟩
  | 94 => ⟨S_, .i32⟩
  | 95 => ⟨S131072, .i32⟩
  | 96 => ⟨S131072, .i32⟩
  | 97 => ⟨S131072, .i32⟩
  | 98 => ⟨S_, .i32⟩
  | 99 => ⟨S131072, .i32⟩
  | 100 => ⟨S131072, .i1⟩
  | 101 => ⟨S131072, .i32⟩
  | 102 => ⟨S131072, .i32⟩
  | 103 => ⟨S_, .i32⟩
  | 104 => ⟨S131072, .i32⟩
  | 105 => ⟨S131072, .i1⟩
  | 106 => ⟨S131072, .i1⟩
  | 107 => ⟨S_, .i32⟩
  | 108 => ⟨S131072, .i32⟩
  | 109 => ⟨S131072, .i32⟩
  | 110 => ⟨S131072, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i1⟩
  | 125 => ⟨S_, .i32⟩
  | 126 => ⟨S_, .i1⟩
  | 127 => ⟨S131072, .i1⟩
  | _ => ⟨S8x131072x4, .f32⟩

abbrev hbmTy0_11 (i : Nat) : BufTy := match i % 128 with
  | 0 => ⟨S131072, .i1⟩
  | 1 => ⟨S131072, .i1⟩
  | 2 => ⟨S131072, .i32⟩
  | 3 => ⟨S131072, .i32⟩
  | 4 => ⟨S131072, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S131072, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i1⟩
  | 19 => ⟨S_, .i32⟩
  | 20 => ⟨S_, .i1⟩
  | 21 => ⟨S131072, .i1⟩
  | 22 => ⟨S131072, .i1⟩
  | 23 => ⟨S131072, .i1⟩
  | 24 => ⟨S131072, .i32⟩
  | 25 => ⟨S131072, .i32⟩
  | 26 => ⟨S131072, .i32⟩
  | 27 => ⟨S131072x1, .i32⟩
  | 28 => ⟨S131072x1, .i32⟩
  | 29 => ⟨S131072x1, .i32⟩
  | 30 => ⟨S131072x3, .i32⟩
  | 31 => ⟨S_, .i32⟩
  | 32 => ⟨S131072, .i32⟩
  | 33 => ⟨S131072, .i1⟩
  | 34 => ⟨S131072, .i1⟩
  | 35 => ⟨S_, .i32⟩
  | 36 => ⟨S_, .i32⟩
  | 37 => ⟨S131072, .i32⟩
  | 38 => ⟨S131072, .i32⟩
  | 39 => ⟨S_, .i32⟩
  | 40 => ⟨S20000x3, .i32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S20000x3, .i32⟩
  | 50 => ⟨S_, .i32⟩
  | 51 => ⟨S_, .i32⟩
  | 52 => ⟨S20000x4, .i32⟩
  | 53 => ⟨S1x131072x4, .f32⟩
  | 54 => ⟨S131072x4, .f32⟩
  | 55 => ⟨S1x131072, .i32⟩
  | 56 => ⟨S131072, .i32⟩
  | 57 => ⟨S131072, .i32⟩
  | 58 => ⟨S131072, .i32⟩
  | 59 => ⟨S131072, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x4, .f32⟩
  | 78 => ⟨S_, .i32⟩
  | 79 => ⟨S131072, .i32⟩
  | 80 => ⟨S131072, .i1⟩
  | 81 => ⟨S131071, .i32⟩
  | 82 => ⟨S131071, .i32⟩
  | 83 => ⟨S131071, .i1⟩
  | 84 => ⟨S131072, .i1⟩
  | 85 => ⟨S131072, .i1⟩
  | 86 => ⟨S131072, .i32⟩
  | 87 => ⟨S_, .i32⟩
  | 88 => ⟨S_, .i32⟩
  | 89 => ⟨S131072, .i32⟩
  | 90 => ⟨S_, .i32⟩
  | 91 => ⟨S131072, .i32⟩
  | 92 => ⟨S131072, .i32⟩
  | 93 => ⟨S131072, .i32⟩
  | 94 => ⟨S_, .i32⟩
  | 95 => ⟨S_, .i32⟩
  | 96 => ⟨S131072, .i32⟩
  | 97 => ⟨S131072, .i32⟩
  | 98 => ⟨S_, .i32⟩
  | 99 => ⟨S_, .i32⟩
  | 100 => ⟨S131072, .i32⟩
  | 101 => ⟨S131072, .i32⟩
  | 102 => ⟨S_, .i32⟩
  | 103 => ⟨S131072, .i32⟩
  | 104 => ⟨S131072, .i1⟩
  | 105 => ⟨S131072, .i1⟩
  | 106 => ⟨S_, .i32⟩
  | 107 => ⟨S131072, .i32⟩
  | 108 => ⟨S131072, .i1⟩
  | 109 => ⟨S131072, .i1⟩
  | 110 => ⟨S_, .i32⟩
  | 111 => ⟨S131072, .i32⟩
  | 112 => ⟨S131072, .i1⟩
  | 113 => ⟨S131072, .i1⟩
  | 114 => ⟨S_, .i32⟩
  | 115 => ⟨S_, .i32⟩
  | 116 => ⟨S131072, .i32⟩
  | 117 => ⟨S131072, .i32⟩
  | 118 => ⟨S_, .i32⟩
  | 119 => ⟨S_, .i32⟩
  | 120 => ⟨S131072, .i32⟩
  | 121 => ⟨S131072, .i32⟩
  | 122 => ⟨S_, .f32⟩
  | 123 => ⟨S20000x5x4, .f32⟩
  | 124 => ⟨S_, .i32⟩
  | 125 => ⟨S131072, .i32⟩
  | 126 => ⟨S131072, .i1⟩
  | 127 => ⟨S_, .i32⟩
  | _ => ⟨S8x131072x4, .f32⟩

abbrev hbmTy0_12 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x1, .i32⟩
  | 12 => ⟨S131072x2, .i32⟩
  | 13 => ⟨S20000x5x4, .f32⟩
  | 14 => ⟨S_, .i32⟩
  | 15 => ⟨S20000, .i32⟩
  | 16 => ⟨S131072, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S20000, .i32⟩
  | 26 => ⟨S_, .i32⟩
  | 27 => ⟨S_, .i32⟩
  | 28 => ⟨S131072, .i32⟩
  | 29 => ⟨S131072, .i32⟩
  | 30 => ⟨S131072, .i32⟩
  | 31 => ⟨S_, .i32⟩
  | 32 => ⟨S131072, .i32⟩
  | 33 => ⟨S131072, .i1⟩
  | 34 => ⟨S131072, .i32⟩
  | 35 => ⟨S131072, .i32⟩
  | 36 => ⟨S_, .i32⟩
  | 37 => ⟨S131072, .i32⟩
  | 38 => ⟨S131072, .i1⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S_, .i32⟩
  | 46 => ⟨S131072, .i32⟩
  | 47 => ⟨S131072, .i32⟩
  | 48 => ⟨S131072, .i32⟩
  | 49 => ⟨S_, .i32⟩
  | 50 => ⟨S131072, .i32⟩
  | 51 => ⟨S131072, .i1⟩
  | 52 => ⟨S131072, .i32⟩
  | 53 => ⟨S131072, .i32⟩
  | 54 => ⟨S_, .i32⟩
  | 55 => ⟨S131072, .i32⟩
  | 56 => ⟨S131072, .i1⟩
  | 57 => ⟨S131072, .i1⟩
  | 58 => ⟨S_, .i32⟩
  | 59 => ⟨S131072, .i32⟩
  | 60 => ⟨S131072, .i32⟩
  | 61 => ⟨S131072, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S131072, .i32⟩
  | 69 => ⟨S131072, .i32⟩
  | 70 => ⟨S_, .i32⟩
  | 71 => ⟨S131072, .i32⟩
  | 72 => ⟨S131072, .i1⟩
  | 73 => ⟨S_, .i32⟩
  | 74 => ⟨S131072, .i32⟩
  | 75 => ⟨S131072, .i1⟩
  | 76 => ⟨S_, .i32⟩
  | 77 => ⟨S_, .i1⟩
  | 78 => ⟨S131072, .i1⟩
  | 79 => ⟨S131072, .i1⟩
  | 80 => ⟨S131072, .i1⟩
  | 81 => ⟨S131072, .i32⟩
  | 82 => ⟨S131072, .i32⟩
  | 83 => ⟨S131072, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S131072, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i1⟩
  | 98 => ⟨S_, .i32⟩
  | 99 => ⟨S_, .i1⟩
  | 100 => ⟨S131072, .i1⟩
  | 101 => ⟨S131072, .i1⟩
  | 102 => ⟨S131072, .i1⟩
  | 103 => ⟨S131072, .i32⟩
  | 104 => ⟨S131072, .i32⟩
  | 105 => ⟨S131072, .i32⟩
  | 106 => ⟨S131072x1, .i32⟩
  | 107 => ⟨S131072x1, .i32⟩
  | 108 => ⟨S131072x1, .i32⟩
  | 109 => ⟨S131072x3, .i32⟩
  | 110 => ⟨S_, .i32⟩
  | 111 => ⟨S131072, .i32⟩
  | 112 => ⟨S131072, .i1⟩
  | 113 => ⟨S131072, .i1⟩
  | 114 => ⟨S_, .i32⟩
  | 115 => ⟨S_, .i32⟩
  | 116 => ⟨S131072, .i32⟩
  | 117 => ⟨S131072, .i32⟩
  | 118 => ⟨S_, .i32⟩
  | 119 => ⟨S20000x3, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S8x131072x4, .f32⟩

abbrev hbmTy0_13 (i : Nat) : BufTy := match i % 128 with
  | 0 => ⟨S20000x3, .i32⟩
  | 1 => ⟨S_, .i32⟩
  | 2 => ⟨S_, .i32⟩
  | 3 => ⟨S20000x4, .i32⟩
  | 4 => ⟨S160000x5x4, .f32⟩
  | 5 => ⟨S160000x4, .i32⟩
  | 6 => ⟨S160000, .i32⟩
  | _ => ⟨S8x131072x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S8x131072x4, .f32⟩

abbrev bufTy : (tb : Table) → Fin (tcTables nBuf tb) → BufTy
  | .hbm, ⟨i, _⟩ => hbmTy i
  | .local _ .vmem, ⟨0, _⟩ => ⟨S1x4x131072, .f32⟩
  | .local _ .vmem, ⟨1, _⟩ => ⟨S1x4x131072, .f32⟩
  | .local _ .vmem, ⟨2, _⟩ => ⟨S1x1x131072, .i32⟩
  | .local _ .vmem, ⟨3, _⟩ => ⟨S1x1x131072, .i32⟩
  | _, _ => ⟨S8x131072x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1_0 : Ref sig .tc := ⟨.hbm, 17, rfl⟩
abbrev main_v7 : Ref sig .tc := ⟨.hbm, 18, rfl⟩
abbrev main_c_7 : Ref sig .tc := ⟨.hbm, 19, rfl⟩
abbrev main_v8 : Ref sig .tc := ⟨.hbm, 20, rfl⟩
abbrev main_v9 : Ref sig .tc := ⟨.hbm, 21, rfl⟩
abbrev main_c_8 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_9 : Ref sig .tc := ⟨.hbm, 28, rfl⟩
abbrev main_v15 : Ref sig .tc := ⟨.hbm, 29, rfl⟩
abbrev main_v16 : Ref sig .tc := ⟨.hbm, 30, rfl⟩
abbrev main_c_10 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_11 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_call0_c : Ref sig .tc := ⟨.hbm, 46, rfl⟩
abbrev main_call1_call0_v0 : Ref sig .tc := ⟨.hbm, 47, rfl⟩
abbrev main_v30 : Ref sig .tc := ⟨.hbm, 48, rfl⟩
abbrev main_c_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_13 : Ref sig .tc := ⟨.hbm, 53, rfl⟩
abbrev main_call2_v0 : Ref sig .tc := ⟨.hbm, 54, rfl⟩
abbrev main_call2_v1 : Ref sig .tc := ⟨.hbm, 55, rfl⟩
abbrev main_v34 : Ref sig .tc := ⟨.hbm, 56, rfl⟩
abbrev main_call3_c : Ref sig .tc := ⟨.hbm, 57, rfl⟩
abbrev main_call3_v0 : Ref sig .tc := ⟨.hbm, 58, rfl⟩
abbrev main_v35 : Ref sig .tc := ⟨.hbm, 59, rfl⟩
abbrev main_v36 : Ref sig .tc := ⟨.hbm, 60, rfl⟩
abbrev main_c_14 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_15 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_16 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_17 : Ref sig .tc := ⟨.hbm, 73, rfl⟩
abbrev main_call4_v0 : Ref sig .tc := ⟨.hbm, 74, rfl⟩
abbrev main_call4_v1 : Ref sig .tc := ⟨.hbm, 75, rfl⟩
abbrev main_v46 : Ref sig .tc := ⟨.hbm, 76, rfl⟩
abbrev main_c_18 : Ref sig .tc := ⟨.hbm, 77, rfl⟩
abbrev main_call5_v0 : Ref sig .tc := ⟨.hbm, 78, rfl⟩
abbrev main_call5_v1 : Ref sig .tc := ⟨.hbm, 79, rfl⟩
abbrev main_v47 : Ref sig .tc := ⟨.hbm, 80, rfl⟩
abbrev main_cst : Ref sig .tc := ⟨.hbm, 81, rfl⟩
abbrev main_v48 : Ref sig .tc := ⟨.hbm, 82, rfl⟩
abbrev main_c_19 : Ref sig .tc := ⟨.hbm, 83, rfl⟩
abbrev main_v49 : Ref sig .tc := ⟨.hbm, 84, rfl⟩
abbrev main_v50 : Ref sig .tc := ⟨.hbm, 85, rfl⟩
abbrev main_c_20 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_21 : Ref sig .tc := ⟨.hbm, 90, rfl⟩
abbrev main_v54 : Ref sig .tc := ⟨.hbm, 91, rfl⟩
abbrev main_v55 : Ref sig .tc := ⟨.hbm, 92, rfl⟩
abbrev main_c_22 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_23 : Ref sig .tc := ⟨.hbm, 101, rfl⟩
abbrev main_v63 : Ref sig .tc := ⟨.hbm, 102, rfl⟩
abbrev main_v64 : Ref sig .tc := ⟨.hbm, 103, rfl⟩
abbrev main_c_24 : Ref sig .tc := ⟨.hbm, 104, rfl⟩
abbrev main_v65 : Ref sig .tc := ⟨.hbm, 105, rfl⟩
abbrev main_v66 : Ref sig .tc := ⟨.hbm, 106, rfl⟩
abbrev main_c_25 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_26 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_c : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_0 : Ref sig .tc := ⟨.hbm, 127, rfl⟩
abbrev main_call6_v12 : Ref sig .tc := ⟨.hbm, 128, rfl⟩
abbrev main_call6_v13 : Ref sig .tc := ⟨.hbm, 129, rfl⟩
abbrev main_v72 : Ref sig .tc := ⟨.hbm, 130, rfl⟩
abbrev main_c_27 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_v6 : Ref sig .tc := ⟨.hbm, 138, rfl⟩
abbrev main_call7_v7 : Ref sig .tc := ⟨.hbm, 139, rfl⟩
abbrev main_call7_v8 : Ref sig .tc := ⟨.hbm, 140, rfl⟩
abbrev main_call7_c : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_c_0 : Ref sig .tc := ⟨.hbm, 145, rfl⟩
abbrev main_call7_v12 : Ref sig .tc := ⟨.hbm, 146, rfl⟩
abbrev main_call7_v13 : Ref sig .tc := ⟨.hbm, 147, rfl⟩
abbrev main_v73 : Ref sig .tc := ⟨.hbm, 148, rfl⟩
abbrev main_c_28 : Ref sig .tc := ⟨.hbm, 149, rfl⟩
abbrev main_call8_v0 : Ref sig .tc := ⟨.hbm, 150, rfl⟩
abbrev main_call8_c : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_v5 : Ref sig .tc := ⟨.hbm, 158, rfl⟩
abbrev main_call8_v6 : Ref sig .tc := ⟨.hbm, 159, rfl⟩
abbrev main_call8_c_2 : Ref sig .tc := ⟨.hbm, 160, rfl⟩
abbrev main_call8_v7 : Ref sig .tc := ⟨.hbm, 161, rfl⟩
abbrev main_call8_v8 : Ref sig .tc := ⟨.hbm, 162, rfl⟩
abbrev main_call8_c_3 : Ref sig .tc := ⟨.hbm, 163, rfl⟩
abbrev main_call8_v9 : Ref sig .tc := ⟨.hbm, 164, rfl⟩
abbrev main_call8_v10 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_v14 : Ref sig .tc := ⟨.hbm, 169, rfl⟩
abbrev main_v74 : Ref sig .tc := ⟨.hbm, 170, rfl⟩
abbrev main_c_29 : Ref sig .tc := ⟨.hbm, 171, rfl⟩
abbrev main_call9_v0 : Ref sig .tc := ⟨.hbm, 172, rfl⟩
abbrev main_call9_c : Ref sig .tc := ⟨.hbm, 173, rfl⟩
abbrev main_call9_v1 : Ref sig .tc := ⟨.hbm, 174, rfl⟩
abbrev main_call9_c_0 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_call9_c_1 : Ref sig .tc := ⟨.hbm, 179, rfl⟩
abbrev main_call9_v5 : Ref sig .tc := ⟨.hbm, 180, rfl⟩
abbrev main_call9_v6 : Ref sig .tc := ⟨.hbm, 181, rfl⟩
abbrev main_call9_c_2 : Ref sig .tc := ⟨.hbm, 182, rfl⟩
abbrev main_call9_v7 : Ref sig .tc := ⟨.hbm, 183, rfl⟩
abbrev main_call9_v8 : Ref sig .tc := ⟨.hbm, 184, rfl⟩
abbrev main_call9_c_3 : Ref sig .tc := ⟨.hbm, 185, rfl⟩
abbrev main_call9_v9 : Ref sig .tc := ⟨.hbm, 186, rfl⟩
abbrev main_call9_v10 : Ref sig .tc := ⟨.hbm, 187, rfl⟩
abbrev main_call9_v11 : Ref sig .tc := ⟨.hbm, 188, rfl⟩
abbrev main_call9_v12 : Ref sig .tc := ⟨.hbm, 189, rfl⟩
abbrev main_call9_v13 : Ref sig .tc := ⟨.hbm, 190, rfl⟩
abbrev main_call9_v14 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_c_30 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_c_31 : Ref sig .tc := ⟨.hbm, 201, rfl⟩
abbrev main_call10_v0 : Ref sig .tc := ⟨.hbm, 202, rfl⟩
abbrev main_call10_v1 : Ref sig .tc := ⟨.hbm, 203, rfl⟩
abbrev main_v83 : Ref sig .tc := ⟨.hbm, 204, rfl⟩
abbrev main_c_32 : Ref sig .tc := ⟨.hbm, 205, rfl⟩
abbrev main_v84 : Ref sig .tc := ⟨.hbm, 206, rfl⟩
abbrev main_c_33 : Ref sig .tc := ⟨.hbm, 207, rfl⟩
abbrev main_v85 : Ref sig .tc := ⟨.hbm, 208, rfl⟩
abbrev main_v86 : Ref sig .tc := ⟨.hbm, 209, rfl⟩
abbrev main_c_34 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_c_35 : Ref sig .tc := ⟨.hbm, 216, rfl⟩
abbrev main_call11_v0 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_call12_v0 : Ref sig .tc := ⟨.hbm, 223, rfl⟩
abbrev main_call12_v1_0 : Ref sig .tc := ⟨.hbm, 224, rfl⟩
abbrev main_v97 : Ref sig .tc := ⟨.hbm, 225, rfl⟩
abbrev main_c_36 : Ref sig .tc := ⟨.hbm, 226, rfl⟩
abbrev main_v98 : Ref sig .tc := ⟨.hbm, 227, rfl⟩
abbrev main_v99 : Ref sig .tc := ⟨.hbm, 228, rfl⟩
abbrev main_c_37 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩
abbrev main_c_38 : Ref sig .tc := ⟨.hbm, 235, rfl⟩
abbrev main_v105 : Ref sig .tc := ⟨.hbm, 236, rfl⟩
abbrev main_v106 : Ref sig .tc := ⟨.hbm, 237, rfl⟩
abbrev main_c_39 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_c_40 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_call13_call0_c : Ref sig .tc := ⟨.hbm, 253, rfl⟩
abbrev main_call13_call0_v0 : Ref sig .tc := ⟨.hbm, 254, rfl⟩
abbrev main_v120 : Ref sig .tc := ⟨.hbm, 255, rfl⟩
abbrev main_c_41 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_c_42 : Ref sig .tc := ⟨.hbm, 260, rfl⟩
abbrev main_call14_v0 : Ref sig .tc := ⟨.hbm, 261, rfl⟩
abbrev main_call14_v1 : Ref sig .tc := ⟨.hbm, 262, rfl⟩
abbrev main_v124 : Ref sig .tc := ⟨.hbm, 263, rfl⟩
abbrev main_call15_c : Ref sig .tc := ⟨.hbm, 264, rfl⟩
abbrev main_call15_v0 : Ref sig .tc := ⟨.hbm, 265, rfl⟩
abbrev main_v125 : Ref sig .tc := ⟨.hbm, 266, rfl⟩
abbrev main_v126 : Ref sig .tc := ⟨.hbm, 267, rfl⟩
abbrev main_c_43 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_c_44 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_c_45 : Ref sig .tc := ⟨.hbm, 276, rfl⟩
abbrev main_v133 : Ref sig .tc := ⟨.hbm, 277, rfl⟩
abbrev main_v134 : Ref sig .tc := ⟨.hbm, 278, rfl⟩
abbrev main_v135 : Ref sig .tc := ⟨.hbm, 279, rfl⟩
abbrev main_c_46 : Ref sig .tc := ⟨.hbm, 280, rfl⟩
abbrev main_call16_v0 : Ref sig .tc := ⟨.hbm, 281, rfl⟩
abbrev main_call16_v1 : Ref sig .tc := ⟨.hbm, 282, rfl⟩
abbrev main_v136 : Ref sig .tc := ⟨.hbm, 283, rfl⟩
abbrev main_c_47 : Ref sig .tc := ⟨.hbm, 284, rfl⟩
abbrev main_call17_v0 : Ref sig .tc := ⟨.hbm, 285, rfl⟩
abbrev main_call17_v1 : Ref sig .tc := ⟨.hbm, 286, rfl⟩
abbrev main_v137 : Ref sig .tc := ⟨.hbm, 287, rfl⟩
abbrev main_cst_48 : Ref sig .tc := ⟨.hbm, 288, rfl⟩
abbrev main_v138 : Ref sig .tc := ⟨.hbm, 289, rfl⟩
abbrev main_c_49 : Ref sig .tc := ⟨.hbm, 290, rfl⟩
abbrev main_v139 : Ref sig .tc := ⟨.hbm, 291, rfl⟩
abbrev main_v140 : Ref sig .tc := ⟨.hbm, 292, rfl⟩
abbrev main_c_50 : Ref sig .tc := ⟨.hbm, 293, rfl⟩
abbrev main_v141 : Ref sig .tc := ⟨.hbm, 294, rfl⟩
abbrev main_v142 : Ref sig .tc := ⟨.hbm, 295, rfl⟩
abbrev main_v143 : Ref sig .tc := ⟨.hbm, 296, rfl⟩
abbrev main_c_51 : Ref sig .tc := ⟨.hbm, 297, rfl⟩
abbrev main_v144 : Ref sig .tc := ⟨.hbm, 298, rfl⟩
abbrev main_v145 : Ref sig .tc := ⟨.hbm, 299, rfl⟩
abbrev main_c_52 : Ref sig .tc := ⟨.hbm, 300, rfl⟩
abbrev main_v146 : Ref sig .tc := ⟨.hbm, 301, rfl⟩
abbrev main_v147 : Ref sig .tc := ⟨.hbm, 302, rfl⟩
abbrev main_v148 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_c_53 : Ref sig .tc := ⟨.hbm, 308, rfl⟩
abbrev main_v153 : Ref sig .tc := ⟨.hbm, 309, rfl⟩
abbrev main_v154 : Ref sig .tc := ⟨.hbm, 310, rfl⟩
abbrev main_c_54 : Ref sig .tc := ⟨.hbm, 311, rfl⟩
abbrev main_v155 : Ref sig .tc := ⟨.hbm, 312, rfl⟩
abbrev main_v156 : Ref sig .tc := ⟨.hbm, 313, rfl⟩
abbrev main_c_55 : Ref sig .tc := ⟨.hbm, 314, rfl⟩
abbrev main_v157 : Ref sig .tc := ⟨.hbm, 315, rfl⟩
abbrev main_v158 : Ref sig .tc := ⟨.hbm, 316, rfl⟩
abbrev main_v159 : Ref sig .tc := ⟨.hbm, 317, rfl⟩
abbrev main_v160 : Ref sig .tc := ⟨.hbm, 318, rfl⟩
abbrev main_v161 : Ref sig .tc := ⟨.hbm, 319, rfl⟩
abbrev main_c_56 : Ref sig .tc := ⟨.hbm, 320, rfl⟩
abbrev main_call18_v0 : Ref sig .tc := ⟨.hbm, 321, rfl⟩
abbrev main_call18_v1 : Ref sig .tc := ⟨.hbm, 322, rfl⟩
abbrev main_call18_v2 : Ref sig .tc := ⟨.hbm, 323, rfl⟩
abbrev main_call18_v3 : Ref sig .tc := ⟨.hbm, 324, rfl⟩
abbrev main_call18_v4 : Ref sig .tc := ⟨.hbm, 325, rfl⟩
abbrev main_call18_v5 : Ref sig .tc := ⟨.hbm, 326, rfl⟩
abbrev main_call18_v6 : Ref sig .tc := ⟨.hbm, 327, rfl⟩
abbrev main_call18_v7 : Ref sig .tc := ⟨.hbm, 328, rfl⟩
abbrev main_call18_v8 : Ref sig .tc := ⟨.hbm, 329, rfl⟩
abbrev main_call18_c : Ref sig .tc := ⟨.hbm, 330, rfl⟩
abbrev main_call18_v9 : Ref sig .tc := ⟨.hbm, 331, rfl⟩
abbrev main_call18_v10 : Ref sig .tc := ⟨.hbm, 332, rfl⟩
abbrev main_call18_v11 : Ref sig .tc := ⟨.hbm, 333, rfl⟩
abbrev main_call18_c_0 : Ref sig .tc := ⟨.hbm, 334, rfl⟩
abbrev main_call18_v12 : Ref sig .tc := ⟨.hbm, 335, rfl⟩
abbrev main_call18_v13 : Ref sig .tc := ⟨.hbm, 336, rfl⟩
abbrev main_v162 : Ref sig .tc := ⟨.hbm, 337, rfl⟩
abbrev main_c_57 : Ref sig .tc := ⟨.hbm, 338, rfl⟩
abbrev main_call19_v0 : Ref sig .tc := ⟨.hbm, 339, rfl⟩
abbrev main_call19_v1 : Ref sig .tc := ⟨.hbm, 340, rfl⟩
abbrev main_call19_v2 : Ref sig .tc := ⟨.hbm, 341, rfl⟩
abbrev main_call19_v3 : Ref sig .tc := ⟨.hbm, 342, rfl⟩
abbrev main_call19_v4 : Ref sig .tc := ⟨.hbm, 343, rfl⟩
abbrev main_call19_v5 : Ref sig .tc := ⟨.hbm, 344, rfl⟩
abbrev main_call19_v6 : Ref sig .tc := ⟨.hbm, 345, rfl⟩
abbrev main_call19_v7 : Ref sig .tc := ⟨.hbm, 346, rfl⟩
abbrev main_call19_v8 : Ref sig .tc := ⟨.hbm, 347, rfl⟩
abbrev main_call19_c : Ref sig .tc := ⟨.hbm, 348, rfl⟩
abbrev main_call19_v9 : Ref sig .tc := ⟨.hbm, 349, rfl⟩
abbrev main_call19_v10 : Ref sig .tc := ⟨.hbm, 350, rfl⟩
abbrev main_call19_v11 : Ref sig .tc := ⟨.hbm, 351, rfl⟩
abbrev main_call19_c_0 : Ref sig .tc := ⟨.hbm, 352, rfl⟩
abbrev main_call19_v12 : Ref sig .tc := ⟨.hbm, 353, rfl⟩
abbrev main_call19_v13 : Ref sig .tc := ⟨.hbm, 354, rfl⟩
abbrev main_v163 : Ref sig .tc := ⟨.hbm, 355, rfl⟩
abbrev main_c_58 : Ref sig .tc := ⟨.hbm, 356, rfl⟩
abbrev main_call20_v0 : Ref sig .tc := ⟨.hbm, 357, rfl⟩
abbrev main_call20_c : Ref sig .tc := ⟨.hbm, 358, rfl⟩
abbrev main_call20_v1 : Ref sig .tc := ⟨.hbm, 359, rfl⟩
abbrev main_call20_c_0 : Ref sig .tc := ⟨.hbm, 360, rfl⟩
abbrev main_call20_v2 : Ref sig .tc := ⟨.hbm, 361, rfl⟩
abbrev main_call20_v3 : Ref sig .tc := ⟨.hbm, 362, rfl⟩
abbrev main_call20_v4 : Ref sig .tc := ⟨.hbm, 363, rfl⟩
abbrev main_call20_c_1 : Ref sig .tc := ⟨.hbm, 364, rfl⟩
abbrev main_call20_v5 : Ref sig .tc := ⟨.hbm, 365, rfl⟩
abbrev main_call20_v6 : Ref sig .tc := ⟨.hbm, 366, rfl⟩
abbrev main_call20_c_2 : Ref sig .tc := ⟨.hbm, 367, rfl⟩
abbrev main_call20_v7 : Ref sig .tc := ⟨.hbm, 368, rfl⟩
abbrev main_call20_v8 : Ref sig .tc := ⟨.hbm, 369, rfl⟩
abbrev main_call20_c_3 : Ref sig .tc := ⟨.hbm, 370, rfl⟩
abbrev main_call20_v9 : Ref sig .tc := ⟨.hbm, 371, rfl⟩
abbrev main_call20_v10 : Ref sig .tc := ⟨.hbm, 372, rfl⟩
abbrev main_call20_v11 : Ref sig .tc := ⟨.hbm, 373, rfl⟩
abbrev main_call20_v12 : Ref sig .tc := ⟨.hbm, 374, rfl⟩
abbrev main_call20_v13 : Ref sig .tc := ⟨.hbm, 375, rfl⟩
abbrev main_call20_v14 : Ref sig .tc := ⟨.hbm, 376, rfl⟩
abbrev main_v164 : Ref sig .tc := ⟨.hbm, 377, rfl⟩
abbrev main_c_59 : Ref sig .tc := ⟨.hbm, 378, rfl⟩
abbrev main_call21_v0 : Ref sig .tc := ⟨.hbm, 379, rfl⟩
abbrev main_call21_c : Ref sig .tc := ⟨.hbm, 380, rfl⟩
abbrev main_call21_v1 : Ref sig .tc := ⟨.hbm, 381, rfl⟩
abbrev main_call21_c_0 : Ref sig .tc := ⟨.hbm, 382, rfl⟩
abbrev main_call21_v2 : Ref sig .tc := ⟨.hbm, 383, rfl⟩
abbrev main_call21_v3 : Ref sig .tc := ⟨.hbm, 384, rfl⟩
abbrev main_call21_v4 : Ref sig .tc := ⟨.hbm, 385, rfl⟩
abbrev main_call21_c_1 : Ref sig .tc := ⟨.hbm, 386, rfl⟩
abbrev main_call21_v5 : Ref sig .tc := ⟨.hbm, 387, rfl⟩
abbrev main_call21_v6 : Ref sig .tc := ⟨.hbm, 388, rfl⟩
abbrev main_call21_c_2 : Ref sig .tc := ⟨.hbm, 389, rfl⟩
abbrev main_call21_v7 : Ref sig .tc := ⟨.hbm, 390, rfl⟩
abbrev main_call21_v8 : Ref sig .tc := ⟨.hbm, 391, rfl⟩
abbrev main_call21_c_3 : Ref sig .tc := ⟨.hbm, 392, rfl⟩
abbrev main_call21_v9 : Ref sig .tc := ⟨.hbm, 393, rfl⟩
abbrev main_call21_v10 : Ref sig .tc := ⟨.hbm, 394, rfl⟩
abbrev main_call21_v11 : Ref sig .tc := ⟨.hbm, 395, rfl⟩
abbrev main_call21_v12 : Ref sig .tc := ⟨.hbm, 396, rfl⟩
abbrev main_call21_v13 : Ref sig .tc := ⟨.hbm, 397, rfl⟩
abbrev main_call21_v14 : Ref sig .tc := ⟨.hbm, 398, rfl⟩
abbrev main_v165 : Ref sig .tc := ⟨.hbm, 399, rfl⟩
abbrev main_v166 : Ref sig .tc := ⟨.hbm, 400, rfl⟩
abbrev main_v167 : Ref sig .tc := ⟨.hbm, 401, rfl⟩
abbrev main_v168 : Ref sig .tc := ⟨.hbm, 402, rfl⟩
abbrev main_v169 : Ref sig .tc := ⟨.hbm, 403, rfl⟩
abbrev main_c_60 : Ref sig .tc := ⟨.hbm, 404, rfl⟩
abbrev main_v170 : Ref sig .tc := ⟨.hbm, 405, rfl⟩
abbrev main_v171 : Ref sig .tc := ⟨.hbm, 406, rfl⟩
abbrev main_v172 : Ref sig .tc := ⟨.hbm, 407, rfl⟩
abbrev main_c_61 : Ref sig .tc := ⟨.hbm, 408, rfl⟩
abbrev main_call22_v0 : Ref sig .tc := ⟨.hbm, 409, rfl⟩
abbrev main_call22_v1 : Ref sig .tc := ⟨.hbm, 410, rfl⟩
abbrev main_v173 : Ref sig .tc := ⟨.hbm, 411, rfl⟩
abbrev main_c_62 : Ref sig .tc := ⟨.hbm, 412, rfl⟩
abbrev main_v174 : Ref sig .tc := ⟨.hbm, 413, rfl⟩
abbrev main_c_63 : Ref sig .tc := ⟨.hbm, 414, rfl⟩
abbrev main_v175 : Ref sig .tc := ⟨.hbm, 415, rfl⟩
abbrev main_v176 : Ref sig .tc := ⟨.hbm, 416, rfl⟩
abbrev main_c_64 : Ref sig .tc := ⟨.hbm, 417, rfl⟩
abbrev main_v177 : Ref sig .tc := ⟨.hbm, 418, rfl⟩
abbrev main_v178 : Ref sig .tc := ⟨.hbm, 419, rfl⟩
abbrev main_v179 : Ref sig .tc := ⟨.hbm, 420, rfl⟩
abbrev main_v180 : Ref sig .tc := ⟨.hbm, 421, rfl⟩
abbrev main_v181 : Ref sig .tc := ⟨.hbm, 422, rfl⟩
abbrev main_c_65 : Ref sig .tc := ⟨.hbm, 423, rfl⟩
abbrev main_call23_v0 : Ref sig .tc := ⟨.hbm, 424, rfl⟩
abbrev main_v182 : Ref sig .tc := ⟨.hbm, 425, rfl⟩
abbrev main_v183 : Ref sig .tc := ⟨.hbm, 426, rfl⟩
abbrev main_v184 : Ref sig .tc := ⟨.hbm, 427, rfl⟩
abbrev main_v185 : Ref sig .tc := ⟨.hbm, 428, rfl⟩
abbrev main_v186 : Ref sig .tc := ⟨.hbm, 429, rfl⟩
abbrev main_call24_v0 : Ref sig .tc := ⟨.hbm, 430, rfl⟩
abbrev main_call24_v1_0 : Ref sig .tc := ⟨.hbm, 431, rfl⟩
abbrev main_v187 : Ref sig .tc := ⟨.hbm, 432, rfl⟩
abbrev main_c_66 : Ref sig .tc := ⟨.hbm, 433, rfl⟩
abbrev main_v188 : Ref sig .tc := ⟨.hbm, 434, rfl⟩
abbrev main_v189 : Ref sig .tc := ⟨.hbm, 435, rfl⟩
abbrev main_c_67 : Ref sig .tc := ⟨.hbm, 436, rfl⟩
abbrev main_v190 : Ref sig .tc := ⟨.hbm, 437, rfl⟩
abbrev main_v191 : Ref sig .tc := ⟨.hbm, 438, rfl⟩
abbrev main_v192 : Ref sig .tc := ⟨.hbm, 439, rfl⟩
abbrev main_v193 : Ref sig .tc := ⟨.hbm, 440, rfl⟩
abbrev main_v194 : Ref sig .tc := ⟨.hbm, 441, rfl⟩
abbrev main_c_68 : Ref sig .tc := ⟨.hbm, 442, rfl⟩
abbrev main_v195 : Ref sig .tc := ⟨.hbm, 443, rfl⟩
abbrev main_v196 : Ref sig .tc := ⟨.hbm, 444, rfl⟩
abbrev main_c_69 : Ref sig .tc := ⟨.hbm, 445, rfl⟩
abbrev main_v197 : Ref sig .tc := ⟨.hbm, 446, rfl⟩
abbrev main_v198 : Ref sig .tc := ⟨.hbm, 447, rfl⟩
abbrev main_v199 : Ref sig .tc := ⟨.hbm, 448, rfl⟩
abbrev main_v200 : Ref sig .tc := ⟨.hbm, 449, rfl⟩
abbrev main_v201 : Ref sig .tc := ⟨.hbm, 450, rfl⟩
abbrev main_c_70 : Ref sig .tc := ⟨.hbm, 451, rfl⟩
abbrev main_v202 : Ref sig .tc := ⟨.hbm, 452, rfl⟩
abbrev main_v203 : Ref sig .tc := ⟨.hbm, 453, rfl⟩
abbrev main_v204 : Ref sig .tc := ⟨.hbm, 454, rfl⟩
abbrev main_v205 : Ref sig .tc := ⟨.hbm, 455, rfl⟩
abbrev main_v206 : Ref sig .tc := ⟨.hbm, 456, rfl⟩
abbrev main_v207 : Ref sig .tc := ⟨.hbm, 457, rfl⟩
abbrev main_v208 : Ref sig .tc := ⟨.hbm, 458, rfl⟩
abbrev main_v209 : Ref sig .tc := ⟨.hbm, 459, rfl⟩
abbrev main_call25_call0_c : Ref sig .tc := ⟨.hbm, 460, rfl⟩
abbrev main_call25_call0_v0 : Ref sig .tc := ⟨.hbm, 461, rfl⟩
abbrev main_v210 : Ref sig .tc := ⟨.hbm, 462, rfl⟩
abbrev main_c_71 : Ref sig .tc := ⟨.hbm, 463, rfl⟩
abbrev main_v211 : Ref sig .tc := ⟨.hbm, 464, rfl⟩
abbrev main_v212 : Ref sig .tc := ⟨.hbm, 465, rfl⟩
abbrev main_v213 : Ref sig .tc := ⟨.hbm, 466, rfl⟩
abbrev main_c_72 : Ref sig .tc := ⟨.hbm, 467, rfl⟩
abbrev main_call26_v0 : Ref sig .tc := ⟨.hbm, 468, rfl⟩
abbrev main_call26_v1 : Ref sig .tc := ⟨.hbm, 469, rfl⟩
abbrev main_v214 : Ref sig .tc := ⟨.hbm, 470, rfl⟩
abbrev main_call27_c : Ref sig .tc := ⟨.hbm, 471, rfl⟩
abbrev main_call27_v0 : Ref sig .tc := ⟨.hbm, 472, rfl⟩
abbrev main_v215 : Ref sig .tc := ⟨.hbm, 473, rfl⟩
abbrev main_v216 : Ref sig .tc := ⟨.hbm, 474, rfl⟩
abbrev main_c_73 : Ref sig .tc := ⟨.hbm, 475, rfl⟩
abbrev main_v217 : Ref sig .tc := ⟨.hbm, 476, rfl⟩
abbrev main_v218 : Ref sig .tc := ⟨.hbm, 477, rfl⟩
abbrev main_v219 : Ref sig .tc := ⟨.hbm, 478, rfl⟩
abbrev main_c_74 : Ref sig .tc := ⟨.hbm, 479, rfl⟩
abbrev main_v220 : Ref sig .tc := ⟨.hbm, 480, rfl⟩
abbrev main_v221 : Ref sig .tc := ⟨.hbm, 481, rfl⟩
abbrev main_v222 : Ref sig .tc := ⟨.hbm, 482, rfl⟩
abbrev main_c_75 : Ref sig .tc := ⟨.hbm, 483, rfl⟩
abbrev main_v223 : Ref sig .tc := ⟨.hbm, 484, rfl⟩
abbrev main_v224 : Ref sig .tc := ⟨.hbm, 485, rfl⟩
abbrev main_v225 : Ref sig .tc := ⟨.hbm, 486, rfl⟩
abbrev main_c_76 : Ref sig .tc := ⟨.hbm, 487, rfl⟩
abbrev main_call28_v0 : Ref sig .tc := ⟨.hbm, 488, rfl⟩
abbrev main_call28_v1 : Ref sig .tc := ⟨.hbm, 489, rfl⟩
abbrev main_v226 : Ref sig .tc := ⟨.hbm, 490, rfl⟩
abbrev main_c_77 : Ref sig .tc := ⟨.hbm, 491, rfl⟩
abbrev main_call29_v0 : Ref sig .tc := ⟨.hbm, 492, rfl⟩
abbrev main_call29_v1 : Ref sig .tc := ⟨.hbm, 493, rfl⟩
abbrev main_v227 : Ref sig .tc := ⟨.hbm, 494, rfl⟩
abbrev main_cst_78 : Ref sig .tc := ⟨.hbm, 495, rfl⟩
abbrev main_v228 : Ref sig .tc := ⟨.hbm, 496, rfl⟩
abbrev main_c_79 : Ref sig .tc := ⟨.hbm, 497, rfl⟩
abbrev main_v229 : Ref sig .tc := ⟨.hbm, 498, rfl⟩
abbrev main_v230 : Ref sig .tc := ⟨.hbm, 499, rfl⟩
abbrev main_c_80 : Ref sig .tc := ⟨.hbm, 500, rfl⟩
abbrev main_v231 : Ref sig .tc := ⟨.hbm, 501, rfl⟩
abbrev main_v232 : Ref sig .tc := ⟨.hbm, 502, rfl⟩
abbrev main_v233 : Ref sig .tc := ⟨.hbm, 503, rfl⟩
abbrev main_c_81 : Ref sig .tc := ⟨.hbm, 504, rfl⟩
abbrev main_v234 : Ref sig .tc := ⟨.hbm, 505, rfl⟩
abbrev main_v235 : Ref sig .tc := ⟨.hbm, 506, rfl⟩
abbrev main_c_82 : Ref sig .tc := ⟨.hbm, 507, rfl⟩
abbrev main_v236 : Ref sig .tc := ⟨.hbm, 508, rfl⟩
abbrev main_v237 : Ref sig .tc := ⟨.hbm, 509, rfl⟩
abbrev main_v238 : Ref sig .tc := ⟨.hbm, 510, rfl⟩
abbrev main_v239 : Ref sig .tc := ⟨.hbm, 511, rfl⟩
abbrev main_v240 : Ref sig .tc := ⟨.hbm, 512, rfl⟩
abbrev main_v241 : Ref sig .tc := ⟨.hbm, 513, rfl⟩
abbrev main_v242 : Ref sig .tc := ⟨.hbm, 514, rfl⟩
abbrev main_c_83 : Ref sig .tc := ⟨.hbm, 515, rfl⟩
abbrev main_v243 : Ref sig .tc := ⟨.hbm, 516, rfl⟩
abbrev main_v244 : Ref sig .tc := ⟨.hbm, 517, rfl⟩
abbrev main_c_84 : Ref sig .tc := ⟨.hbm, 518, rfl⟩
abbrev main_v245 : Ref sig .tc := ⟨.hbm, 519, rfl⟩
abbrev main_v246 : Ref sig .tc := ⟨.hbm, 520, rfl⟩
abbrev main_c_85 : Ref sig .tc := ⟨.hbm, 521, rfl⟩
abbrev main_v247 : Ref sig .tc := ⟨.hbm, 522, rfl⟩
abbrev main_v248 : Ref sig .tc := ⟨.hbm, 523, rfl⟩
abbrev main_v249 : Ref sig .tc := ⟨.hbm, 524, rfl⟩
abbrev main_v250 : Ref sig .tc := ⟨.hbm, 525, rfl⟩
abbrev main_v251 : Ref sig .tc := ⟨.hbm, 526, rfl⟩
abbrev main_c_86 : Ref sig .tc := ⟨.hbm, 527, rfl⟩
abbrev main_call30_v0 : Ref sig .tc := ⟨.hbm, 528, rfl⟩
abbrev main_call30_v1 : Ref sig .tc := ⟨.hbm, 529, rfl⟩
abbrev main_call30_v2 : Ref sig .tc := ⟨.hbm, 530, rfl⟩
abbrev main_call30_v3 : Ref sig .tc := ⟨.hbm, 531, rfl⟩
abbrev main_call30_v4 : Ref sig .tc := ⟨.hbm, 532, rfl⟩
abbrev main_call30_v5 : Ref sig .tc := ⟨.hbm, 533, rfl⟩
abbrev main_call30_v6 : Ref sig .tc := ⟨.hbm, 534, rfl⟩
abbrev main_call30_v7 : Ref sig .tc := ⟨.hbm, 535, rfl⟩
abbrev main_call30_v8 : Ref sig .tc := ⟨.hbm, 536, rfl⟩
abbrev main_call30_c : Ref sig .tc := ⟨.hbm, 537, rfl⟩
abbrev main_call30_v9 : Ref sig .tc := ⟨.hbm, 538, rfl⟩
abbrev main_call30_v10 : Ref sig .tc := ⟨.hbm, 539, rfl⟩
abbrev main_call30_v11 : Ref sig .tc := ⟨.hbm, 540, rfl⟩
abbrev main_call30_c_0 : Ref sig .tc := ⟨.hbm, 541, rfl⟩
abbrev main_call30_v12 : Ref sig .tc := ⟨.hbm, 542, rfl⟩
abbrev main_call30_v13 : Ref sig .tc := ⟨.hbm, 543, rfl⟩
abbrev main_v252 : Ref sig .tc := ⟨.hbm, 544, rfl⟩
abbrev main_c_87 : Ref sig .tc := ⟨.hbm, 545, rfl⟩
abbrev main_call31_v0 : Ref sig .tc := ⟨.hbm, 546, rfl⟩
abbrev main_call31_v1 : Ref sig .tc := ⟨.hbm, 547, rfl⟩
abbrev main_call31_v2 : Ref sig .tc := ⟨.hbm, 548, rfl⟩
abbrev main_call31_v3 : Ref sig .tc := ⟨.hbm, 549, rfl⟩
abbrev main_call31_v4 : Ref sig .tc := ⟨.hbm, 550, rfl⟩
abbrev main_call31_v5 : Ref sig .tc := ⟨.hbm, 551, rfl⟩
abbrev main_call31_v6 : Ref sig .tc := ⟨.hbm, 552, rfl⟩
abbrev main_call31_v7 : Ref sig .tc := ⟨.hbm, 553, rfl⟩
abbrev main_call31_v8 : Ref sig .tc := ⟨.hbm, 554, rfl⟩
abbrev main_call31_c : Ref sig .tc := ⟨.hbm, 555, rfl⟩
abbrev main_call31_v9 : Ref sig .tc := ⟨.hbm, 556, rfl⟩
abbrev main_call31_v10 : Ref sig .tc := ⟨.hbm, 557, rfl⟩
abbrev main_call31_v11 : Ref sig .tc := ⟨.hbm, 558, rfl⟩
abbrev main_call31_c_0 : Ref sig .tc := ⟨.hbm, 559, rfl⟩
abbrev main_call31_v12 : Ref sig .tc := ⟨.hbm, 560, rfl⟩
abbrev main_call31_v13 : Ref sig .tc := ⟨.hbm, 561, rfl⟩
abbrev main_v253 : Ref sig .tc := ⟨.hbm, 562, rfl⟩
abbrev main_c_88 : Ref sig .tc := ⟨.hbm, 563, rfl⟩
abbrev main_call32_v0 : Ref sig .tc := ⟨.hbm, 564, rfl⟩
abbrev main_call32_c : Ref sig .tc := ⟨.hbm, 565, rfl⟩
abbrev main_call32_v1 : Ref sig .tc := ⟨.hbm, 566, rfl⟩
abbrev main_call32_c_0 : Ref sig .tc := ⟨.hbm, 567, rfl⟩
abbrev main_call32_v2 : Ref sig .tc := ⟨.hbm, 568, rfl⟩
abbrev main_call32_v3 : Ref sig .tc := ⟨.hbm, 569, rfl⟩
abbrev main_call32_v4 : Ref sig .tc := ⟨.hbm, 570, rfl⟩
abbrev main_call32_c_1 : Ref sig .tc := ⟨.hbm, 571, rfl⟩
abbrev main_call32_v5 : Ref sig .tc := ⟨.hbm, 572, rfl⟩
abbrev main_call32_v6 : Ref sig .tc := ⟨.hbm, 573, rfl⟩
abbrev main_call32_c_2 : Ref sig .tc := ⟨.hbm, 574, rfl⟩
abbrev main_call32_v7 : Ref sig .tc := ⟨.hbm, 575, rfl⟩
abbrev main_call32_v8 : Ref sig .tc := ⟨.hbm, 576, rfl⟩
abbrev main_call32_c_3 : Ref sig .tc := ⟨.hbm, 577, rfl⟩
abbrev main_call32_v9 : Ref sig .tc := ⟨.hbm, 578, rfl⟩
abbrev main_call32_v10 : Ref sig .tc := ⟨.hbm, 579, rfl⟩
abbrev main_call32_v11 : Ref sig .tc := ⟨.hbm, 580, rfl⟩
abbrev main_call32_v12 : Ref sig .tc := ⟨.hbm, 581, rfl⟩
abbrev main_call32_v13 : Ref sig .tc := ⟨.hbm, 582, rfl⟩
abbrev main_call32_v14 : Ref sig .tc := ⟨.hbm, 583, rfl⟩
abbrev main_v254 : Ref sig .tc := ⟨.hbm, 584, rfl⟩
abbrev main_c_89 : Ref sig .tc := ⟨.hbm, 585, rfl⟩
abbrev main_call33_v0 : Ref sig .tc := ⟨.hbm, 586, rfl⟩
abbrev main_call33_c : Ref sig .tc := ⟨.hbm, 587, rfl⟩
abbrev main_call33_v1 : Ref sig .tc := ⟨.hbm, 588, rfl⟩
abbrev main_call33_c_0 : Ref sig .tc := ⟨.hbm, 589, rfl⟩
abbrev main_call33_v2 : Ref sig .tc := ⟨.hbm, 590, rfl⟩
abbrev main_call33_v3 : Ref sig .tc := ⟨.hbm, 591, rfl⟩
abbrev main_call33_v4 : Ref sig .tc := ⟨.hbm, 592, rfl⟩
abbrev main_call33_c_1 : Ref sig .tc := ⟨.hbm, 593, rfl⟩
abbrev main_call33_v5 : Ref sig .tc := ⟨.hbm, 594, rfl⟩
abbrev main_call33_v6 : Ref sig .tc := ⟨.hbm, 595, rfl⟩
abbrev main_call33_c_2 : Ref sig .tc := ⟨.hbm, 596, rfl⟩
abbrev main_call33_v7 : Ref sig .tc := ⟨.hbm, 597, rfl⟩
abbrev main_call33_v8 : Ref sig .tc := ⟨.hbm, 598, rfl⟩
abbrev main_call33_c_3 : Ref sig .tc := ⟨.hbm, 599, rfl⟩
abbrev main_call33_v9 : Ref sig .tc := ⟨.hbm, 600, rfl⟩
abbrev main_call33_v10 : Ref sig .tc := ⟨.hbm, 601, rfl⟩
abbrev main_call33_v11 : Ref sig .tc := ⟨.hbm, 602, rfl⟩
abbrev main_call33_v12 : Ref sig .tc := ⟨.hbm, 603, rfl⟩
abbrev main_call33_v13 : Ref sig .tc := ⟨.hbm, 604, rfl⟩
abbrev main_call33_v14 : Ref sig .tc := ⟨.hbm, 605, rfl⟩
abbrev main_v255 : Ref sig .tc := ⟨.hbm, 606, rfl⟩
abbrev main_v256 : Ref sig .tc := ⟨.hbm, 607, rfl⟩
abbrev main_v257 : Ref sig .tc := ⟨.hbm, 608, rfl⟩
abbrev main_v258 : Ref sig .tc := ⟨.hbm, 609, rfl⟩
abbrev main_v259 : Ref sig .tc := ⟨.hbm, 610, rfl⟩
abbrev main_c_90 : Ref sig .tc := ⟨.hbm, 611, rfl⟩
abbrev main_v260 : Ref sig .tc := ⟨.hbm, 612, rfl⟩
abbrev main_v261 : Ref sig .tc := ⟨.hbm, 613, rfl⟩
abbrev main_v262 : Ref sig .tc := ⟨.hbm, 614, rfl⟩
abbrev main_c_91 : Ref sig .tc := ⟨.hbm, 615, rfl⟩
abbrev main_call34_v0 : Ref sig .tc := ⟨.hbm, 616, rfl⟩
abbrev main_call34_v1 : Ref sig .tc := ⟨.hbm, 617, rfl⟩
abbrev main_v263 : Ref sig .tc := ⟨.hbm, 618, rfl⟩
abbrev main_c_92 : Ref sig .tc := ⟨.hbm, 619, rfl⟩
abbrev main_v264 : Ref sig .tc := ⟨.hbm, 620, rfl⟩
abbrev main_c_93 : Ref sig .tc := ⟨.hbm, 621, rfl⟩
abbrev main_v265 : Ref sig .tc := ⟨.hbm, 622, rfl⟩
abbrev main_v266 : Ref sig .tc := ⟨.hbm, 623, rfl⟩
abbrev main_c_94 : Ref sig .tc := ⟨.hbm, 624, rfl⟩
abbrev main_v267 : Ref sig .tc := ⟨.hbm, 625, rfl⟩
abbrev main_v268 : Ref sig .tc := ⟨.hbm, 626, rfl⟩
abbrev main_v269 : Ref sig .tc := ⟨.hbm, 627, rfl⟩
abbrev main_v270 : Ref sig .tc := ⟨.hbm, 628, rfl⟩
abbrev main_v271 : Ref sig .tc := ⟨.hbm, 629, rfl⟩
abbrev main_c_95 : Ref sig .tc := ⟨.hbm, 630, rfl⟩
abbrev main_call35_v0 : Ref sig .tc := ⟨.hbm, 631, rfl⟩
abbrev main_v272 : Ref sig .tc := ⟨.hbm, 632, rfl⟩
abbrev main_v273 : Ref sig .tc := ⟨.hbm, 633, rfl⟩
abbrev main_v274 : Ref sig .tc := ⟨.hbm, 634, rfl⟩
abbrev main_v275 : Ref sig .tc := ⟨.hbm, 635, rfl⟩
abbrev main_v276 : Ref sig .tc := ⟨.hbm, 636, rfl⟩
abbrev main_call36_v0 : Ref sig .tc := ⟨.hbm, 637, rfl⟩
abbrev main_call36_v1_0 : Ref sig .tc := ⟨.hbm, 638, rfl⟩
abbrev main_v277 : Ref sig .tc := ⟨.hbm, 639, rfl⟩
abbrev main_c_96 : Ref sig .tc := ⟨.hbm, 640, rfl⟩
abbrev main_v278 : Ref sig .tc := ⟨.hbm, 641, rfl⟩
abbrev main_v279 : Ref sig .tc := ⟨.hbm, 642, rfl⟩
abbrev main_c_97 : Ref sig .tc := ⟨.hbm, 643, rfl⟩
abbrev main_v280 : Ref sig .tc := ⟨.hbm, 644, rfl⟩
abbrev main_v281 : Ref sig .tc := ⟨.hbm, 645, rfl⟩
abbrev main_v282 : Ref sig .tc := ⟨.hbm, 646, rfl⟩
abbrev main_v283 : Ref sig .tc := ⟨.hbm, 647, rfl⟩
abbrev main_v284 : Ref sig .tc := ⟨.hbm, 648, rfl⟩
abbrev main_c_98 : Ref sig .tc := ⟨.hbm, 649, rfl⟩
abbrev main_v285 : Ref sig .tc := ⟨.hbm, 650, rfl⟩
abbrev main_v286 : Ref sig .tc := ⟨.hbm, 651, rfl⟩
abbrev main_c_99 : Ref sig .tc := ⟨.hbm, 652, rfl⟩
abbrev main_v287 : Ref sig .tc := ⟨.hbm, 653, rfl⟩
abbrev main_v288 : Ref sig .tc := ⟨.hbm, 654, rfl⟩
abbrev main_v289 : Ref sig .tc := ⟨.hbm, 655, rfl⟩
abbrev main_v290 : Ref sig .tc := ⟨.hbm, 656, rfl⟩
abbrev main_v291 : Ref sig .tc := ⟨.hbm, 657, rfl⟩
abbrev main_c_100 : Ref sig .tc := ⟨.hbm, 658, rfl⟩
abbrev main_v292 : Ref sig .tc := ⟨.hbm, 659, rfl⟩
abbrev main_v293 : Ref sig .tc := ⟨.hbm, 660, rfl⟩
abbrev main_v294 : Ref sig .tc := ⟨.hbm, 661, rfl⟩
abbrev main_v295 : Ref sig .tc := ⟨.hbm, 662, rfl⟩
abbrev main_v296 : Ref sig .tc := ⟨.hbm, 663, rfl⟩
abbrev main_v297 : Ref sig .tc := ⟨.hbm, 664, rfl⟩
abbrev main_v298 : Ref sig .tc := ⟨.hbm, 665, rfl⟩
abbrev main_v299 : Ref sig .tc := ⟨.hbm, 666, rfl⟩
abbrev main_call37_call0_c : Ref sig .tc := ⟨.hbm, 667, rfl⟩
abbrev main_call37_call0_v0 : Ref sig .tc := ⟨.hbm, 668, rfl⟩
abbrev main_v300 : Ref sig .tc := ⟨.hbm, 669, rfl⟩
abbrev main_c_101 : Ref sig .tc := ⟨.hbm, 670, rfl⟩
abbrev main_v301 : Ref sig .tc := ⟨.hbm, 671, rfl⟩
abbrev main_v302 : Ref sig .tc := ⟨.hbm, 672, rfl⟩
abbrev main_v303 : Ref sig .tc := ⟨.hbm, 673, rfl⟩
abbrev main_c_102 : Ref sig .tc := ⟨.hbm, 674, rfl⟩
abbrev main_call38_v0 : Ref sig .tc := ⟨.hbm, 675, rfl⟩
abbrev main_call38_v1 : Ref sig .tc := ⟨.hbm, 676, rfl⟩
abbrev main_v304 : Ref sig .tc := ⟨.hbm, 677, rfl⟩
abbrev main_call39_c : Ref sig .tc := ⟨.hbm, 678, rfl⟩
abbrev main_call39_v0 : Ref sig .tc := ⟨.hbm, 679, rfl⟩
abbrev main_v305 : Ref sig .tc := ⟨.hbm, 680, rfl⟩
abbrev main_v306 : Ref sig .tc := ⟨.hbm, 681, rfl⟩
abbrev main_c_103 : Ref sig .tc := ⟨.hbm, 682, rfl⟩
abbrev main_v307 : Ref sig .tc := ⟨.hbm, 683, rfl⟩
abbrev main_v308 : Ref sig .tc := ⟨.hbm, 684, rfl⟩
abbrev main_v309 : Ref sig .tc := ⟨.hbm, 685, rfl⟩
abbrev main_c_104 : Ref sig .tc := ⟨.hbm, 686, rfl⟩
abbrev main_v310 : Ref sig .tc := ⟨.hbm, 687, rfl⟩
abbrev main_v311 : Ref sig .tc := ⟨.hbm, 688, rfl⟩
abbrev main_v312 : Ref sig .tc := ⟨.hbm, 689, rfl⟩
abbrev main_c_105 : Ref sig .tc := ⟨.hbm, 690, rfl⟩
abbrev main_v313 : Ref sig .tc := ⟨.hbm, 691, rfl⟩
abbrev main_v314 : Ref sig .tc := ⟨.hbm, 692, rfl⟩
abbrev main_v315 : Ref sig .tc := ⟨.hbm, 693, rfl⟩
abbrev main_c_106 : Ref sig .tc := ⟨.hbm, 694, rfl⟩
abbrev main_call40_v0 : Ref sig .tc := ⟨.hbm, 695, rfl⟩
abbrev main_call40_v1 : Ref sig .tc := ⟨.hbm, 696, rfl⟩
abbrev main_v316 : Ref sig .tc := ⟨.hbm, 697, rfl⟩
abbrev main_c_107 : Ref sig .tc := ⟨.hbm, 698, rfl⟩
abbrev main_call41_v0 : Ref sig .tc := ⟨.hbm, 699, rfl⟩
abbrev main_call41_v1 : Ref sig .tc := ⟨.hbm, 700, rfl⟩
abbrev main_v317 : Ref sig .tc := ⟨.hbm, 701, rfl⟩
abbrev main_cst_108 : Ref sig .tc := ⟨.hbm, 702, rfl⟩
abbrev main_v318 : Ref sig .tc := ⟨.hbm, 703, rfl⟩
abbrev main_c_109 : Ref sig .tc := ⟨.hbm, 704, rfl⟩
abbrev main_v319 : Ref sig .tc := ⟨.hbm, 705, rfl⟩
abbrev main_v320 : Ref sig .tc := ⟨.hbm, 706, rfl⟩
abbrev main_c_110 : Ref sig .tc := ⟨.hbm, 707, rfl⟩
abbrev main_v321 : Ref sig .tc := ⟨.hbm, 708, rfl⟩
abbrev main_v322 : Ref sig .tc := ⟨.hbm, 709, rfl⟩
abbrev main_v323 : Ref sig .tc := ⟨.hbm, 710, rfl⟩
abbrev main_c_111 : Ref sig .tc := ⟨.hbm, 711, rfl⟩
abbrev main_v324 : Ref sig .tc := ⟨.hbm, 712, rfl⟩
abbrev main_v325 : Ref sig .tc := ⟨.hbm, 713, rfl⟩
abbrev main_c_112 : Ref sig .tc := ⟨.hbm, 714, rfl⟩
abbrev main_v326 : Ref sig .tc := ⟨.hbm, 715, rfl⟩
abbrev main_v327 : Ref sig .tc := ⟨.hbm, 716, rfl⟩
abbrev main_v328 : Ref sig .tc := ⟨.hbm, 717, rfl⟩
abbrev main_v329 : Ref sig .tc := ⟨.hbm, 718, rfl⟩
abbrev main_v330 : Ref sig .tc := ⟨.hbm, 719, rfl⟩
abbrev main_v331 : Ref sig .tc := ⟨.hbm, 720, rfl⟩
abbrev main_v332 : Ref sig .tc := ⟨.hbm, 721, rfl⟩
abbrev main_c_113 : Ref sig .tc := ⟨.hbm, 722, rfl⟩
abbrev main_v333 : Ref sig .tc := ⟨.hbm, 723, rfl⟩
abbrev main_v334 : Ref sig .tc := ⟨.hbm, 724, rfl⟩
abbrev main_c_114 : Ref sig .tc := ⟨.hbm, 725, rfl⟩
abbrev main_v335 : Ref sig .tc := ⟨.hbm, 726, rfl⟩
abbrev main_v336 : Ref sig .tc := ⟨.hbm, 727, rfl⟩
abbrev main_c_115 : Ref sig .tc := ⟨.hbm, 728, rfl⟩
abbrev main_v337 : Ref sig .tc := ⟨.hbm, 729, rfl⟩
abbrev main_v338 : Ref sig .tc := ⟨.hbm, 730, rfl⟩
abbrev main_v339 : Ref sig .tc := ⟨.hbm, 731, rfl⟩
abbrev main_v340 : Ref sig .tc := ⟨.hbm, 732, rfl⟩
abbrev main_v341 : Ref sig .tc := ⟨.hbm, 733, rfl⟩
abbrev main_c_116 : Ref sig .tc := ⟨.hbm, 734, rfl⟩
abbrev main_call42_v0 : Ref sig .tc := ⟨.hbm, 735, rfl⟩
abbrev main_call42_v1 : Ref sig .tc := ⟨.hbm, 736, rfl⟩
abbrev main_call42_v2 : Ref sig .tc := ⟨.hbm, 737, rfl⟩
abbrev main_call42_v3 : Ref sig .tc := ⟨.hbm, 738, rfl⟩
abbrev main_call42_v4 : Ref sig .tc := ⟨.hbm, 739, rfl⟩
abbrev main_call42_v5 : Ref sig .tc := ⟨.hbm, 740, rfl⟩
abbrev main_call42_v6 : Ref sig .tc := ⟨.hbm, 741, rfl⟩
abbrev main_call42_v7 : Ref sig .tc := ⟨.hbm, 742, rfl⟩
abbrev main_call42_v8 : Ref sig .tc := ⟨.hbm, 743, rfl⟩
abbrev main_call42_c : Ref sig .tc := ⟨.hbm, 744, rfl⟩
abbrev main_call42_v9 : Ref sig .tc := ⟨.hbm, 745, rfl⟩
abbrev main_call42_v10 : Ref sig .tc := ⟨.hbm, 746, rfl⟩
abbrev main_call42_v11 : Ref sig .tc := ⟨.hbm, 747, rfl⟩
abbrev main_call42_c_0 : Ref sig .tc := ⟨.hbm, 748, rfl⟩
abbrev main_call42_v12 : Ref sig .tc := ⟨.hbm, 749, rfl⟩
abbrev main_call42_v13 : Ref sig .tc := ⟨.hbm, 750, rfl⟩
abbrev main_v342 : Ref sig .tc := ⟨.hbm, 751, rfl⟩
abbrev main_c_117 : Ref sig .tc := ⟨.hbm, 752, rfl⟩
abbrev main_call43_v0 : Ref sig .tc := ⟨.hbm, 753, rfl⟩
abbrev main_call43_v1 : Ref sig .tc := ⟨.hbm, 754, rfl⟩
abbrev main_call43_v2 : Ref sig .tc := ⟨.hbm, 755, rfl⟩
abbrev main_call43_v3 : Ref sig .tc := ⟨.hbm, 756, rfl⟩
abbrev main_call43_v4 : Ref sig .tc := ⟨.hbm, 757, rfl⟩
abbrev main_call43_v5 : Ref sig .tc := ⟨.hbm, 758, rfl⟩
abbrev main_call43_v6 : Ref sig .tc := ⟨.hbm, 759, rfl⟩
abbrev main_call43_v7 : Ref sig .tc := ⟨.hbm, 760, rfl⟩
abbrev main_call43_v8 : Ref sig .tc := ⟨.hbm, 761, rfl⟩
abbrev main_call43_c : Ref sig .tc := ⟨.hbm, 762, rfl⟩
abbrev main_call43_v9 : Ref sig .tc := ⟨.hbm, 763, rfl⟩
abbrev main_call43_v10 : Ref sig .tc := ⟨.hbm, 764, rfl⟩
abbrev main_call43_v11 : Ref sig .tc := ⟨.hbm, 765, rfl⟩
abbrev main_call43_c_0 : Ref sig .tc := ⟨.hbm, 766, rfl⟩
abbrev main_call43_v12 : Ref sig .tc := ⟨.hbm, 767, rfl⟩
abbrev main_call43_v13 : Ref sig .tc := ⟨.hbm, 768, rfl⟩
abbrev main_v343 : Ref sig .tc := ⟨.hbm, 769, rfl⟩
abbrev main_c_118 : Ref sig .tc := ⟨.hbm, 770, rfl⟩
abbrev main_call44_v0 : Ref sig .tc := ⟨.hbm, 771, rfl⟩
abbrev main_call44_c : Ref sig .tc := ⟨.hbm, 772, rfl⟩
abbrev main_call44_v1 : Ref sig .tc := ⟨.hbm, 773, rfl⟩
abbrev main_call44_c_0 : Ref sig .tc := ⟨.hbm, 774, rfl⟩
abbrev main_call44_v2 : Ref sig .tc := ⟨.hbm, 775, rfl⟩
abbrev main_call44_v3 : Ref sig .tc := ⟨.hbm, 776, rfl⟩
abbrev main_call44_v4 : Ref sig .tc := ⟨.hbm, 777, rfl⟩
abbrev main_call44_c_1 : Ref sig .tc := ⟨.hbm, 778, rfl⟩
abbrev main_call44_v5 : Ref sig .tc := ⟨.hbm, 779, rfl⟩
abbrev main_call44_v6 : Ref sig .tc := ⟨.hbm, 780, rfl⟩
abbrev main_call44_c_2 : Ref sig .tc := ⟨.hbm, 781, rfl⟩
abbrev main_call44_v7 : Ref sig .tc := ⟨.hbm, 782, rfl⟩
abbrev main_call44_v8 : Ref sig .tc := ⟨.hbm, 783, rfl⟩
abbrev main_call44_c_3 : Ref sig .tc := ⟨.hbm, 784, rfl⟩
abbrev main_call44_v9 : Ref sig .tc := ⟨.hbm, 785, rfl⟩
abbrev main_call44_v10 : Ref sig .tc := ⟨.hbm, 786, rfl⟩
abbrev main_call44_v11 : Ref sig .tc := ⟨.hbm, 787, rfl⟩
abbrev main_call44_v12 : Ref sig .tc := ⟨.hbm, 788, rfl⟩
abbrev main_call44_v13 : Ref sig .tc := ⟨.hbm, 789, rfl⟩
abbrev main_call44_v14 : Ref sig .tc := ⟨.hbm, 790, rfl⟩
abbrev main_v344 : Ref sig .tc := ⟨.hbm, 791, rfl⟩
abbrev main_c_119 : Ref sig .tc := ⟨.hbm, 792, rfl⟩
abbrev main_call45_v0 : Ref sig .tc := ⟨.hbm, 793, rfl⟩
abbrev main_call45_c : Ref sig .tc := ⟨.hbm, 794, rfl⟩
abbrev main_call45_v1 : Ref sig .tc := ⟨.hbm, 795, rfl⟩
abbrev main_call45_c_0 : Ref sig .tc := ⟨.hbm, 796, rfl⟩
abbrev main_call45_v2 : Ref sig .tc := ⟨.hbm, 797, rfl⟩
abbrev main_call45_v3 : Ref sig .tc := ⟨.hbm, 798, rfl⟩
abbrev main_call45_v4 : Ref sig .tc := ⟨.hbm, 799, rfl⟩
abbrev main_call45_c_1 : Ref sig .tc := ⟨.hbm, 800, rfl⟩
abbrev main_call45_v5 : Ref sig .tc := ⟨.hbm, 801, rfl⟩
abbrev main_call45_v6 : Ref sig .tc := ⟨.hbm, 802, rfl⟩
abbrev main_call45_c_2 : Ref sig .tc := ⟨.hbm, 803, rfl⟩
abbrev main_call45_v7 : Ref sig .tc := ⟨.hbm, 804, rfl⟩
abbrev main_call45_v8 : Ref sig .tc := ⟨.hbm, 805, rfl⟩
abbrev main_call45_c_3 : Ref sig .tc := ⟨.hbm, 806, rfl⟩
abbrev main_call45_v9 : Ref sig .tc := ⟨.hbm, 807, rfl⟩
abbrev main_call45_v10 : Ref sig .tc := ⟨.hbm, 808, rfl⟩
abbrev main_call45_v11 : Ref sig .tc := ⟨.hbm, 809, rfl⟩
abbrev main_call45_v12 : Ref sig .tc := ⟨.hbm, 810, rfl⟩
abbrev main_call45_v13 : Ref sig .tc := ⟨.hbm, 811, rfl⟩
abbrev main_call45_v14 : Ref sig .tc := ⟨.hbm, 812, rfl⟩
abbrev main_v345 : Ref sig .tc := ⟨.hbm, 813, rfl⟩
abbrev main_v346 : Ref sig .tc := ⟨.hbm, 814, rfl⟩
abbrev main_v347 : Ref sig .tc := ⟨.hbm, 815, rfl⟩
abbrev main_v348 : Ref sig .tc := ⟨.hbm, 816, rfl⟩
abbrev main_v349 : Ref sig .tc := ⟨.hbm, 817, rfl⟩
abbrev main_c_120 : Ref sig .tc := ⟨.hbm, 818, rfl⟩
abbrev main_v350 : Ref sig .tc := ⟨.hbm, 819, rfl⟩
abbrev main_v351 : Ref sig .tc := ⟨.hbm, 820, rfl⟩
abbrev main_v352 : Ref sig .tc := ⟨.hbm, 821, rfl⟩
abbrev main_c_121 : Ref sig .tc := ⟨.hbm, 822, rfl⟩
abbrev main_call46_v0 : Ref sig .tc := ⟨.hbm, 823, rfl⟩
abbrev main_call46_v1 : Ref sig .tc := ⟨.hbm, 824, rfl⟩
abbrev main_v353 : Ref sig .tc := ⟨.hbm, 825, rfl⟩
abbrev main_c_122 : Ref sig .tc := ⟨.hbm, 826, rfl⟩
abbrev main_v354 : Ref sig .tc := ⟨.hbm, 827, rfl⟩
abbrev main_c_123 : Ref sig .tc := ⟨.hbm, 828, rfl⟩
abbrev main_v355 : Ref sig .tc := ⟨.hbm, 829, rfl⟩
abbrev main_v356 : Ref sig .tc := ⟨.hbm, 830, rfl⟩
abbrev main_c_124 : Ref sig .tc := ⟨.hbm, 831, rfl⟩
abbrev main_v357 : Ref sig .tc := ⟨.hbm, 832, rfl⟩
abbrev main_v358 : Ref sig .tc := ⟨.hbm, 833, rfl⟩
abbrev main_v359 : Ref sig .tc := ⟨.hbm, 834, rfl⟩
abbrev main_v360 : Ref sig .tc := ⟨.hbm, 835, rfl⟩
abbrev main_v361 : Ref sig .tc := ⟨.hbm, 836, rfl⟩
abbrev main_c_125 : Ref sig .tc := ⟨.hbm, 837, rfl⟩
abbrev main_call47_v0 : Ref sig .tc := ⟨.hbm, 838, rfl⟩
abbrev main_v362 : Ref sig .tc := ⟨.hbm, 839, rfl⟩
abbrev main_v363 : Ref sig .tc := ⟨.hbm, 840, rfl⟩
abbrev main_v364 : Ref sig .tc := ⟨.hbm, 841, rfl⟩
abbrev main_v365 : Ref sig .tc := ⟨.hbm, 842, rfl⟩
abbrev main_v366 : Ref sig .tc := ⟨.hbm, 843, rfl⟩
abbrev main_call48_v0 : Ref sig .tc := ⟨.hbm, 844, rfl⟩
abbrev main_call48_v1_0 : Ref sig .tc := ⟨.hbm, 845, rfl⟩
abbrev main_v367 : Ref sig .tc := ⟨.hbm, 846, rfl⟩
abbrev main_c_126 : Ref sig .tc := ⟨.hbm, 847, rfl⟩
abbrev main_v368 : Ref sig .tc := ⟨.hbm, 848, rfl⟩
abbrev main_v369 : Ref sig .tc := ⟨.hbm, 849, rfl⟩
abbrev main_c_127 : Ref sig .tc := ⟨.hbm, 850, rfl⟩
abbrev main_v370 : Ref sig .tc := ⟨.hbm, 851, rfl⟩
abbrev main_v371 : Ref sig .tc := ⟨.hbm, 852, rfl⟩
abbrev main_v372 : Ref sig .tc := ⟨.hbm, 853, rfl⟩
abbrev main_v373 : Ref sig .tc := ⟨.hbm, 854, rfl⟩
abbrev main_v374 : Ref sig .tc := ⟨.hbm, 855, rfl⟩
abbrev main_c_128 : Ref sig .tc := ⟨.hbm, 856, rfl⟩
abbrev main_v375 : Ref sig .tc := ⟨.hbm, 857, rfl⟩
abbrev main_v376 : Ref sig .tc := ⟨.hbm, 858, rfl⟩
abbrev main_c_129 : Ref sig .tc := ⟨.hbm, 859, rfl⟩
abbrev main_v377 : Ref sig .tc := ⟨.hbm, 860, rfl⟩
abbrev main_v378 : Ref sig .tc := ⟨.hbm, 861, rfl⟩
abbrev main_v379 : Ref sig .tc := ⟨.hbm, 862, rfl⟩
abbrev main_v380 : Ref sig .tc := ⟨.hbm, 863, rfl⟩
abbrev main_v381 : Ref sig .tc := ⟨.hbm, 864, rfl⟩
abbrev main_c_130 : Ref sig .tc := ⟨.hbm, 865, rfl⟩
abbrev main_v382 : Ref sig .tc := ⟨.hbm, 866, rfl⟩
abbrev main_v383 : Ref sig .tc := ⟨.hbm, 867, rfl⟩
abbrev main_v384 : Ref sig .tc := ⟨.hbm, 868, rfl⟩
abbrev main_v385 : Ref sig .tc := ⟨.hbm, 869, rfl⟩
abbrev main_v386 : Ref sig .tc := ⟨.hbm, 870, rfl⟩
abbrev main_v387 : Ref sig .tc := ⟨.hbm, 871, rfl⟩
abbrev main_v388 : Ref sig .tc := ⟨.hbm, 872, rfl⟩
abbrev main_v389 : Ref sig .tc := ⟨.hbm, 873, rfl⟩
abbrev main_call49_call0_c : Ref sig .tc := ⟨.hbm, 874, rfl⟩
abbrev main_call49_call0_v0 : Ref sig .tc := ⟨.hbm, 875, rfl⟩
abbrev main_v390 : Ref sig .tc := ⟨.hbm, 876, rfl⟩
abbrev main_c_131 : Ref sig .tc := ⟨.hbm, 877, rfl⟩
abbrev main_v391 : Ref sig .tc := ⟨.hbm, 878, rfl⟩
abbrev main_v392 : Ref sig .tc := ⟨.hbm, 879, rfl⟩
abbrev main_v393 : Ref sig .tc := ⟨.hbm, 880, rfl⟩
abbrev main_c_132 : Ref sig .tc := ⟨.hbm, 881, rfl⟩
abbrev main_call50_v0 : Ref sig .tc := ⟨.hbm, 882, rfl⟩
abbrev main_call50_v1 : Ref sig .tc := ⟨.hbm, 883, rfl⟩
abbrev main_v394 : Ref sig .tc := ⟨.hbm, 884, rfl⟩
abbrev main_call51_c : Ref sig .tc := ⟨.hbm, 885, rfl⟩
abbrev main_call51_v0 : Ref sig .tc := ⟨.hbm, 886, rfl⟩
abbrev main_v395 : Ref sig .tc := ⟨.hbm, 887, rfl⟩
abbrev main_v396 : Ref sig .tc := ⟨.hbm, 888, rfl⟩
abbrev main_c_133 : Ref sig .tc := ⟨.hbm, 889, rfl⟩
abbrev main_v397 : Ref sig .tc := ⟨.hbm, 890, rfl⟩
abbrev main_v398 : Ref sig .tc := ⟨.hbm, 891, rfl⟩
abbrev main_v399 : Ref sig .tc := ⟨.hbm, 892, rfl⟩
abbrev main_c_134 : Ref sig .tc := ⟨.hbm, 893, rfl⟩
abbrev main_v400 : Ref sig .tc := ⟨.hbm, 894, rfl⟩
abbrev main_v401 : Ref sig .tc := ⟨.hbm, 895, rfl⟩
abbrev main_v402 : Ref sig .tc := ⟨.hbm, 896, rfl⟩
abbrev main_c_135 : Ref sig .tc := ⟨.hbm, 897, rfl⟩
abbrev main_v403 : Ref sig .tc := ⟨.hbm, 898, rfl⟩
abbrev main_v404 : Ref sig .tc := ⟨.hbm, 899, rfl⟩
abbrev main_v405 : Ref sig .tc := ⟨.hbm, 900, rfl⟩
abbrev main_c_136 : Ref sig .tc := ⟨.hbm, 901, rfl⟩
abbrev main_call52_v0 : Ref sig .tc := ⟨.hbm, 902, rfl⟩
abbrev main_call52_v1 : Ref sig .tc := ⟨.hbm, 903, rfl⟩
abbrev main_v406 : Ref sig .tc := ⟨.hbm, 904, rfl⟩
abbrev main_c_137 : Ref sig .tc := ⟨.hbm, 905, rfl⟩
abbrev main_call53_v0 : Ref sig .tc := ⟨.hbm, 906, rfl⟩
abbrev main_call53_v1 : Ref sig .tc := ⟨.hbm, 907, rfl⟩
abbrev main_v407 : Ref sig .tc := ⟨.hbm, 908, rfl⟩
abbrev main_cst_138 : Ref sig .tc := ⟨.hbm, 909, rfl⟩
abbrev main_v408 : Ref sig .tc := ⟨.hbm, 910, rfl⟩
abbrev main_c_139 : Ref sig .tc := ⟨.hbm, 911, rfl⟩
abbrev main_v409 : Ref sig .tc := ⟨.hbm, 912, rfl⟩
abbrev main_v410 : Ref sig .tc := ⟨.hbm, 913, rfl⟩
abbrev main_c_140 : Ref sig .tc := ⟨.hbm, 914, rfl⟩
abbrev main_v411 : Ref sig .tc := ⟨.hbm, 915, rfl⟩
abbrev main_v412 : Ref sig .tc := ⟨.hbm, 916, rfl⟩
abbrev main_v413 : Ref sig .tc := ⟨.hbm, 917, rfl⟩
abbrev main_c_141 : Ref sig .tc := ⟨.hbm, 918, rfl⟩
abbrev main_v414 : Ref sig .tc := ⟨.hbm, 919, rfl⟩
abbrev main_v415 : Ref sig .tc := ⟨.hbm, 920, rfl⟩
abbrev main_c_142 : Ref sig .tc := ⟨.hbm, 921, rfl⟩
abbrev main_v416 : Ref sig .tc := ⟨.hbm, 922, rfl⟩
abbrev main_v417 : Ref sig .tc := ⟨.hbm, 923, rfl⟩
abbrev main_v418 : Ref sig .tc := ⟨.hbm, 924, rfl⟩
abbrev main_v419 : Ref sig .tc := ⟨.hbm, 925, rfl⟩
abbrev main_v420 : Ref sig .tc := ⟨.hbm, 926, rfl⟩
abbrev main_v421 : Ref sig .tc := ⟨.hbm, 927, rfl⟩
abbrev main_v422 : Ref sig .tc := ⟨.hbm, 928, rfl⟩
abbrev main_c_143 : Ref sig .tc := ⟨.hbm, 929, rfl⟩
abbrev main_v423 : Ref sig .tc := ⟨.hbm, 930, rfl⟩
abbrev main_v424 : Ref sig .tc := ⟨.hbm, 931, rfl⟩
abbrev main_c_144 : Ref sig .tc := ⟨.hbm, 932, rfl⟩
abbrev main_v425 : Ref sig .tc := ⟨.hbm, 933, rfl⟩
abbrev main_v426 : Ref sig .tc := ⟨.hbm, 934, rfl⟩
abbrev main_c_145 : Ref sig .tc := ⟨.hbm, 935, rfl⟩
abbrev main_v427 : Ref sig .tc := ⟨.hbm, 936, rfl⟩
abbrev main_v428 : Ref sig .tc := ⟨.hbm, 937, rfl⟩
abbrev main_v429 : Ref sig .tc := ⟨.hbm, 938, rfl⟩
abbrev main_v430 : Ref sig .tc := ⟨.hbm, 939, rfl⟩
abbrev main_v431 : Ref sig .tc := ⟨.hbm, 940, rfl⟩
abbrev main_c_146 : Ref sig .tc := ⟨.hbm, 941, rfl⟩
abbrev main_call54_v0 : Ref sig .tc := ⟨.hbm, 942, rfl⟩
abbrev main_call54_v1 : Ref sig .tc := ⟨.hbm, 943, rfl⟩
abbrev main_call54_v2 : Ref sig .tc := ⟨.hbm, 944, rfl⟩
abbrev main_call54_v3 : Ref sig .tc := ⟨.hbm, 945, rfl⟩
abbrev main_call54_v4 : Ref sig .tc := ⟨.hbm, 946, rfl⟩
abbrev main_call54_v5 : Ref sig .tc := ⟨.hbm, 947, rfl⟩
abbrev main_call54_v6 : Ref sig .tc := ⟨.hbm, 948, rfl⟩
abbrev main_call54_v7 : Ref sig .tc := ⟨.hbm, 949, rfl⟩
abbrev main_call54_v8 : Ref sig .tc := ⟨.hbm, 950, rfl⟩
abbrev main_call54_c : Ref sig .tc := ⟨.hbm, 951, rfl⟩
abbrev main_call54_v9 : Ref sig .tc := ⟨.hbm, 952, rfl⟩
abbrev main_call54_v10 : Ref sig .tc := ⟨.hbm, 953, rfl⟩
abbrev main_call54_v11 : Ref sig .tc := ⟨.hbm, 954, rfl⟩
abbrev main_call54_c_0 : Ref sig .tc := ⟨.hbm, 955, rfl⟩
abbrev main_call54_v12 : Ref sig .tc := ⟨.hbm, 956, rfl⟩
abbrev main_call54_v13 : Ref sig .tc := ⟨.hbm, 957, rfl⟩
abbrev main_v432 : Ref sig .tc := ⟨.hbm, 958, rfl⟩
abbrev main_c_147 : Ref sig .tc := ⟨.hbm, 959, rfl⟩
abbrev main_call55_v0 : Ref sig .tc := ⟨.hbm, 960, rfl⟩
abbrev main_call55_v1 : Ref sig .tc := ⟨.hbm, 961, rfl⟩
abbrev main_call55_v2 : Ref sig .tc := ⟨.hbm, 962, rfl⟩
abbrev main_call55_v3 : Ref sig .tc := ⟨.hbm, 963, rfl⟩
abbrev main_call55_v4 : Ref sig .tc := ⟨.hbm, 964, rfl⟩
abbrev main_call55_v5 : Ref sig .tc := ⟨.hbm, 965, rfl⟩
abbrev main_call55_v6 : Ref sig .tc := ⟨.hbm, 966, rfl⟩
abbrev main_call55_v7 : Ref sig .tc := ⟨.hbm, 967, rfl⟩
abbrev main_call55_v8 : Ref sig .tc := ⟨.hbm, 968, rfl⟩
abbrev main_call55_c : Ref sig .tc := ⟨.hbm, 969, rfl⟩
abbrev main_call55_v9 : Ref sig .tc := ⟨.hbm, 970, rfl⟩
abbrev main_call55_v10 : Ref sig .tc := ⟨.hbm, 971, rfl⟩
abbrev main_call55_v11 : Ref sig .tc := ⟨.hbm, 972, rfl⟩
abbrev main_call55_c_0 : Ref sig .tc := ⟨.hbm, 973, rfl⟩
abbrev main_call55_v12 : Ref sig .tc := ⟨.hbm, 974, rfl⟩
abbrev main_call55_v13 : Ref sig .tc := ⟨.hbm, 975, rfl⟩
abbrev main_v433 : Ref sig .tc := ⟨.hbm, 976, rfl⟩
abbrev main_c_148 : Ref sig .tc := ⟨.hbm, 977, rfl⟩
abbrev main_call56_v0 : Ref sig .tc := ⟨.hbm, 978, rfl⟩
abbrev main_call56_c : Ref sig .tc := ⟨.hbm, 979, rfl⟩
abbrev main_call56_v1 : Ref sig .tc := ⟨.hbm, 980, rfl⟩
abbrev main_call56_c_0 : Ref sig .tc := ⟨.hbm, 981, rfl⟩
abbrev main_call56_v2 : Ref sig .tc := ⟨.hbm, 982, rfl⟩
abbrev main_call56_v3 : Ref sig .tc := ⟨.hbm, 983, rfl⟩
abbrev main_call56_v4 : Ref sig .tc := ⟨.hbm, 984, rfl⟩
abbrev main_call56_c_1 : Ref sig .tc := ⟨.hbm, 985, rfl⟩
abbrev main_call56_v5 : Ref sig .tc := ⟨.hbm, 986, rfl⟩
abbrev main_call56_v6 : Ref sig .tc := ⟨.hbm, 987, rfl⟩
abbrev main_call56_c_2 : Ref sig .tc := ⟨.hbm, 988, rfl⟩
abbrev main_call56_v7 : Ref sig .tc := ⟨.hbm, 989, rfl⟩
abbrev main_call56_v8 : Ref sig .tc := ⟨.hbm, 990, rfl⟩
abbrev main_call56_c_3 : Ref sig .tc := ⟨.hbm, 991, rfl⟩
abbrev main_call56_v9 : Ref sig .tc := ⟨.hbm, 992, rfl⟩
abbrev main_call56_v10 : Ref sig .tc := ⟨.hbm, 993, rfl⟩
abbrev main_call56_v11 : Ref sig .tc := ⟨.hbm, 994, rfl⟩
abbrev main_call56_v12 : Ref sig .tc := ⟨.hbm, 995, rfl⟩
abbrev main_call56_v13 : Ref sig .tc := ⟨.hbm, 996, rfl⟩
abbrev main_call56_v14 : Ref sig .tc := ⟨.hbm, 997, rfl⟩
abbrev main_v434 : Ref sig .tc := ⟨.hbm, 998, rfl⟩
abbrev main_c_149 : Ref sig .tc := ⟨.hbm, 999, rfl⟩
abbrev main_call57_v0 : Ref sig .tc := ⟨.hbm, 1000, rfl⟩
abbrev main_call57_c : Ref sig .tc := ⟨.hbm, 1001, rfl⟩
abbrev main_call57_v1 : Ref sig .tc := ⟨.hbm, 1002, rfl⟩
abbrev main_call57_c_0 : Ref sig .tc := ⟨.hbm, 1003, rfl⟩
abbrev main_call57_v2 : Ref sig .tc := ⟨.hbm, 1004, rfl⟩
abbrev main_call57_v3 : Ref sig .tc := ⟨.hbm, 1005, rfl⟩
abbrev main_call57_v4 : Ref sig .tc := ⟨.hbm, 1006, rfl⟩
abbrev main_call57_c_1 : Ref sig .tc := ⟨.hbm, 1007, rfl⟩
abbrev main_call57_v5 : Ref sig .tc := ⟨.hbm, 1008, rfl⟩
abbrev main_call57_v6 : Ref sig .tc := ⟨.hbm, 1009, rfl⟩
abbrev main_call57_c_2 : Ref sig .tc := ⟨.hbm, 1010, rfl⟩
abbrev main_call57_v7 : Ref sig .tc := ⟨.hbm, 1011, rfl⟩
abbrev main_call57_v8 : Ref sig .tc := ⟨.hbm, 1012, rfl⟩
abbrev main_call57_c_3 : Ref sig .tc := ⟨.hbm, 1013, rfl⟩
abbrev main_call57_v9 : Ref sig .tc := ⟨.hbm, 1014, rfl⟩
abbrev main_call57_v10 : Ref sig .tc := ⟨.hbm, 1015, rfl⟩
abbrev main_call57_v11 : Ref sig .tc := ⟨.hbm, 1016, rfl⟩
abbrev main_call57_v12 : Ref sig .tc := ⟨.hbm, 1017, rfl⟩
abbrev main_call57_v13 : Ref sig .tc := ⟨.hbm, 1018, rfl⟩
abbrev main_call57_v14 : Ref sig .tc := ⟨.hbm, 1019, rfl⟩
abbrev main_v435 : Ref sig .tc := ⟨.hbm, 1020, rfl⟩
abbrev main_v436 : Ref sig .tc := ⟨.hbm, 1021, rfl⟩
abbrev main_v437 : Ref sig .tc := ⟨.hbm, 1022, rfl⟩
abbrev main_v438 : Ref sig .tc := ⟨.hbm, 1023, rfl⟩
abbrev main_v439 : Ref sig .tc := ⟨.hbm, 1024, rfl⟩
abbrev main_c_150 : Ref sig .tc := ⟨.hbm, 1025, rfl⟩
abbrev main_v440 : Ref sig .tc := ⟨.hbm, 1026, rfl⟩
abbrev main_v441 : Ref sig .tc := ⟨.hbm, 1027, rfl⟩
abbrev main_v442 : Ref sig .tc := ⟨.hbm, 1028, rfl⟩
abbrev main_c_151 : Ref sig .tc := ⟨.hbm, 1029, rfl⟩
abbrev main_call58_v0 : Ref sig .tc := ⟨.hbm, 1030, rfl⟩
abbrev main_call58_v1 : Ref sig .tc := ⟨.hbm, 1031, rfl⟩
abbrev main_v443 : Ref sig .tc := ⟨.hbm, 1032, rfl⟩
abbrev main_c_152 : Ref sig .tc := ⟨.hbm, 1033, rfl⟩
abbrev main_v444 : Ref sig .tc := ⟨.hbm, 1034, rfl⟩
abbrev main_c_153 : Ref sig .tc := ⟨.hbm, 1035, rfl⟩
abbrev main_v445 : Ref sig .tc := ⟨.hbm, 1036, rfl⟩
abbrev main_v446 : Ref sig .tc := ⟨.hbm, 1037, rfl⟩
abbrev main_c_154 : Ref sig .tc := ⟨.hbm, 1038, rfl⟩
abbrev main_v447 : Ref sig .tc := ⟨.hbm, 1039, rfl⟩
abbrev main_v448 : Ref sig .tc := ⟨.hbm, 1040, rfl⟩
abbrev main_v449 : Ref sig .tc := ⟨.hbm, 1041, rfl⟩
abbrev main_v450 : Ref sig .tc := ⟨.hbm, 1042, rfl⟩
abbrev main_v451 : Ref sig .tc := ⟨.hbm, 1043, rfl⟩
abbrev main_c_155 : Ref sig .tc := ⟨.hbm, 1044, rfl⟩
abbrev main_call59_v0 : Ref sig .tc := ⟨.hbm, 1045, rfl⟩
abbrev main_v452 : Ref sig .tc := ⟨.hbm, 1046, rfl⟩
abbrev main_v453 : Ref sig .tc := ⟨.hbm, 1047, rfl⟩
abbrev main_v454 : Ref sig .tc := ⟨.hbm, 1048, rfl⟩
abbrev main_v455 : Ref sig .tc := ⟨.hbm, 1049, rfl⟩
abbrev main_v456 : Ref sig .tc := ⟨.hbm, 1050, rfl⟩
abbrev main_call60_v0 : Ref sig .tc := ⟨.hbm, 1051, rfl⟩
abbrev main_call60_v1_0 : Ref sig .tc := ⟨.hbm, 1052, rfl⟩
abbrev main_v457 : Ref sig .tc := ⟨.hbm, 1053, rfl⟩
abbrev main_c_156 : Ref sig .tc := ⟨.hbm, 1054, rfl⟩
abbrev main_v458 : Ref sig .tc := ⟨.hbm, 1055, rfl⟩
abbrev main_v459 : Ref sig .tc := ⟨.hbm, 1056, rfl⟩
abbrev main_c_157 : Ref sig .tc := ⟨.hbm, 1057, rfl⟩
abbrev main_v460 : Ref sig .tc := ⟨.hbm, 1058, rfl⟩
abbrev main_v461 : Ref sig .tc := ⟨.hbm, 1059, rfl⟩
abbrev main_v462 : Ref sig .tc := ⟨.hbm, 1060, rfl⟩
abbrev main_v463 : Ref sig .tc := ⟨.hbm, 1061, rfl⟩
abbrev main_v464 : Ref sig .tc := ⟨.hbm, 1062, rfl⟩
abbrev main_c_158 : Ref sig .tc := ⟨.hbm, 1063, rfl⟩
abbrev main_v465 : Ref sig .tc := ⟨.hbm, 1064, rfl⟩
abbrev main_v466 : Ref sig .tc := ⟨.hbm, 1065, rfl⟩
abbrev main_c_159 : Ref sig .tc := ⟨.hbm, 1066, rfl⟩
abbrev main_v467 : Ref sig .tc := ⟨.hbm, 1067, rfl⟩
abbrev main_v468 : Ref sig .tc := ⟨.hbm, 1068, rfl⟩
abbrev main_v469 : Ref sig .tc := ⟨.hbm, 1069, rfl⟩
abbrev main_v470 : Ref sig .tc := ⟨.hbm, 1070, rfl⟩
abbrev main_v471 : Ref sig .tc := ⟨.hbm, 1071, rfl⟩
abbrev main_c_160 : Ref sig .tc := ⟨.hbm, 1072, rfl⟩
abbrev main_v472 : Ref sig .tc := ⟨.hbm, 1073, rfl⟩
abbrev main_v473 : Ref sig .tc := ⟨.hbm, 1074, rfl⟩
abbrev main_v474 : Ref sig .tc := ⟨.hbm, 1075, rfl⟩
abbrev main_v475 : Ref sig .tc := ⟨.hbm, 1076, rfl⟩
abbrev main_v476 : Ref sig .tc := ⟨.hbm, 1077, rfl⟩
abbrev main_v477 : Ref sig .tc := ⟨.hbm, 1078, rfl⟩
abbrev main_v478 : Ref sig .tc := ⟨.hbm, 1079, rfl⟩
abbrev main_v479 : Ref sig .tc := ⟨.hbm, 1080, rfl⟩
abbrev main_call61_call0_c : Ref sig .tc := ⟨.hbm, 1081, rfl⟩
abbrev main_call61_call0_v0 : Ref sig .tc := ⟨.hbm, 1082, rfl⟩
abbrev main_v480 : Ref sig .tc := ⟨.hbm, 1083, rfl⟩
abbrev main_c_161 : Ref sig .tc := ⟨.hbm, 1084, rfl⟩
abbrev main_v481 : Ref sig .tc := ⟨.hbm, 1085, rfl⟩
abbrev main_v482 : Ref sig .tc := ⟨.hbm, 1086, rfl⟩
abbrev main_v483 : Ref sig .tc := ⟨.hbm, 1087, rfl⟩
abbrev main_c_162 : Ref sig .tc := ⟨.hbm, 1088, rfl⟩
abbrev main_call62_v0 : Ref sig .tc := ⟨.hbm, 1089, rfl⟩
abbrev main_call62_v1 : Ref sig .tc := ⟨.hbm, 1090, rfl⟩
abbrev main_v484 : Ref sig .tc := ⟨.hbm, 1091, rfl⟩
abbrev main_call63_c : Ref sig .tc := ⟨.hbm, 1092, rfl⟩
abbrev main_call63_v0 : Ref sig .tc := ⟨.hbm, 1093, rfl⟩
abbrev main_v485 : Ref sig .tc := ⟨.hbm, 1094, rfl⟩
abbrev main_v486 : Ref sig .tc := ⟨.hbm, 1095, rfl⟩
abbrev main_c_163 : Ref sig .tc := ⟨.hbm, 1096, rfl⟩
abbrev main_v487 : Ref sig .tc := ⟨.hbm, 1097, rfl⟩
abbrev main_v488 : Ref sig .tc := ⟨.hbm, 1098, rfl⟩
abbrev main_v489 : Ref sig .tc := ⟨.hbm, 1099, rfl⟩
abbrev main_c_164 : Ref sig .tc := ⟨.hbm, 1100, rfl⟩
abbrev main_v490 : Ref sig .tc := ⟨.hbm, 1101, rfl⟩
abbrev main_v491 : Ref sig .tc := ⟨.hbm, 1102, rfl⟩
abbrev main_v492 : Ref sig .tc := ⟨.hbm, 1103, rfl⟩
abbrev main_c_165 : Ref sig .tc := ⟨.hbm, 1104, rfl⟩
abbrev main_v493 : Ref sig .tc := ⟨.hbm, 1105, rfl⟩
abbrev main_v494 : Ref sig .tc := ⟨.hbm, 1106, rfl⟩
abbrev main_v495 : Ref sig .tc := ⟨.hbm, 1107, rfl⟩
abbrev main_c_166 : Ref sig .tc := ⟨.hbm, 1108, rfl⟩
abbrev main_call64_v0 : Ref sig .tc := ⟨.hbm, 1109, rfl⟩
abbrev main_call64_v1 : Ref sig .tc := ⟨.hbm, 1110, rfl⟩
abbrev main_v496 : Ref sig .tc := ⟨.hbm, 1111, rfl⟩
abbrev main_c_167 : Ref sig .tc := ⟨.hbm, 1112, rfl⟩
abbrev main_call65_v0 : Ref sig .tc := ⟨.hbm, 1113, rfl⟩
abbrev main_call65_v1 : Ref sig .tc := ⟨.hbm, 1114, rfl⟩
abbrev main_v497 : Ref sig .tc := ⟨.hbm, 1115, rfl⟩
abbrev main_cst_168 : Ref sig .tc := ⟨.hbm, 1116, rfl⟩
abbrev main_v498 : Ref sig .tc := ⟨.hbm, 1117, rfl⟩
abbrev main_c_169 : Ref sig .tc := ⟨.hbm, 1118, rfl⟩
abbrev main_v499 : Ref sig .tc := ⟨.hbm, 1119, rfl⟩
abbrev main_v500 : Ref sig .tc := ⟨.hbm, 1120, rfl⟩
abbrev main_c_170 : Ref sig .tc := ⟨.hbm, 1121, rfl⟩
abbrev main_v501 : Ref sig .tc := ⟨.hbm, 1122, rfl⟩
abbrev main_v502 : Ref sig .tc := ⟨.hbm, 1123, rfl⟩
abbrev main_v503 : Ref sig .tc := ⟨.hbm, 1124, rfl⟩
abbrev main_c_171 : Ref sig .tc := ⟨.hbm, 1125, rfl⟩
abbrev main_v504 : Ref sig .tc := ⟨.hbm, 1126, rfl⟩
abbrev main_v505 : Ref sig .tc := ⟨.hbm, 1127, rfl⟩
abbrev main_c_172 : Ref sig .tc := ⟨.hbm, 1128, rfl⟩
abbrev main_v506 : Ref sig .tc := ⟨.hbm, 1129, rfl⟩
abbrev main_v507 : Ref sig .tc := ⟨.hbm, 1130, rfl⟩
abbrev main_v508 : Ref sig .tc := ⟨.hbm, 1131, rfl⟩
abbrev main_v509 : Ref sig .tc := ⟨.hbm, 1132, rfl⟩
abbrev main_v510 : Ref sig .tc := ⟨.hbm, 1133, rfl⟩
abbrev main_v511 : Ref sig .tc := ⟨.hbm, 1134, rfl⟩
abbrev main_v512 : Ref sig .tc := ⟨.hbm, 1135, rfl⟩
abbrev main_c_173 : Ref sig .tc := ⟨.hbm, 1136, rfl⟩
abbrev main_v513 : Ref sig .tc := ⟨.hbm, 1137, rfl⟩
abbrev main_v514 : Ref sig .tc := ⟨.hbm, 1138, rfl⟩
abbrev main_c_174 : Ref sig .tc := ⟨.hbm, 1139, rfl⟩
abbrev main_v515 : Ref sig .tc := ⟨.hbm, 1140, rfl⟩
abbrev main_v516 : Ref sig .tc := ⟨.hbm, 1141, rfl⟩
abbrev main_c_175 : Ref sig .tc := ⟨.hbm, 1142, rfl⟩
abbrev main_v517 : Ref sig .tc := ⟨.hbm, 1143, rfl⟩
abbrev main_v518 : Ref sig .tc := ⟨.hbm, 1144, rfl⟩
abbrev main_v519 : Ref sig .tc := ⟨.hbm, 1145, rfl⟩
abbrev main_v520 : Ref sig .tc := ⟨.hbm, 1146, rfl⟩
abbrev main_v521 : Ref sig .tc := ⟨.hbm, 1147, rfl⟩
abbrev main_c_176 : Ref sig .tc := ⟨.hbm, 1148, rfl⟩
abbrev main_call66_v0 : Ref sig .tc := ⟨.hbm, 1149, rfl⟩
abbrev main_call66_v1 : Ref sig .tc := ⟨.hbm, 1150, rfl⟩
abbrev main_call66_v2 : Ref sig .tc := ⟨.hbm, 1151, rfl⟩
abbrev main_call66_v3 : Ref sig .tc := ⟨.hbm, 1152, rfl⟩
abbrev main_call66_v4 : Ref sig .tc := ⟨.hbm, 1153, rfl⟩
abbrev main_call66_v5 : Ref sig .tc := ⟨.hbm, 1154, rfl⟩
abbrev main_call66_v6 : Ref sig .tc := ⟨.hbm, 1155, rfl⟩
abbrev main_call66_v7 : Ref sig .tc := ⟨.hbm, 1156, rfl⟩
abbrev main_call66_v8 : Ref sig .tc := ⟨.hbm, 1157, rfl⟩
abbrev main_call66_c : Ref sig .tc := ⟨.hbm, 1158, rfl⟩
abbrev main_call66_v9 : Ref sig .tc := ⟨.hbm, 1159, rfl⟩
abbrev main_call66_v10 : Ref sig .tc := ⟨.hbm, 1160, rfl⟩
abbrev main_call66_v11 : Ref sig .tc := ⟨.hbm, 1161, rfl⟩
abbrev main_call66_c_0 : Ref sig .tc := ⟨.hbm, 1162, rfl⟩
abbrev main_call66_v12 : Ref sig .tc := ⟨.hbm, 1163, rfl⟩
abbrev main_call66_v13 : Ref sig .tc := ⟨.hbm, 1164, rfl⟩
abbrev main_v522 : Ref sig .tc := ⟨.hbm, 1165, rfl⟩
abbrev main_c_177 : Ref sig .tc := ⟨.hbm, 1166, rfl⟩
abbrev main_call67_v0 : Ref sig .tc := ⟨.hbm, 1167, rfl⟩
abbrev main_call67_v1 : Ref sig .tc := ⟨.hbm, 1168, rfl⟩
abbrev main_call67_v2 : Ref sig .tc := ⟨.hbm, 1169, rfl⟩
abbrev main_call67_v3 : Ref sig .tc := ⟨.hbm, 1170, rfl⟩
abbrev main_call67_v4 : Ref sig .tc := ⟨.hbm, 1171, rfl⟩
abbrev main_call67_v5 : Ref sig .tc := ⟨.hbm, 1172, rfl⟩
abbrev main_call67_v6 : Ref sig .tc := ⟨.hbm, 1173, rfl⟩
abbrev main_call67_v7 : Ref sig .tc := ⟨.hbm, 1174, rfl⟩
abbrev main_call67_v8 : Ref sig .tc := ⟨.hbm, 1175, rfl⟩
abbrev main_call67_c : Ref sig .tc := ⟨.hbm, 1176, rfl⟩
abbrev main_call67_v9 : Ref sig .tc := ⟨.hbm, 1177, rfl⟩
abbrev main_call67_v10 : Ref sig .tc := ⟨.hbm, 1178, rfl⟩
abbrev main_call67_v11 : Ref sig .tc := ⟨.hbm, 1179, rfl⟩
abbrev main_call67_c_0 : Ref sig .tc := ⟨.hbm, 1180, rfl⟩
abbrev main_call67_v12 : Ref sig .tc := ⟨.hbm, 1181, rfl⟩
abbrev main_call67_v13 : Ref sig .tc := ⟨.hbm, 1182, rfl⟩
abbrev main_v523 : Ref sig .tc := ⟨.hbm, 1183, rfl⟩
abbrev main_c_178 : Ref sig .tc := ⟨.hbm, 1184, rfl⟩
abbrev main_call68_v0 : Ref sig .tc := ⟨.hbm, 1185, rfl⟩
abbrev main_call68_c : Ref sig .tc := ⟨.hbm, 1186, rfl⟩
abbrev main_call68_v1 : Ref sig .tc := ⟨.hbm, 1187, rfl⟩
abbrev main_call68_c_0 : Ref sig .tc := ⟨.hbm, 1188, rfl⟩
abbrev main_call68_v2 : Ref sig .tc := ⟨.hbm, 1189, rfl⟩
abbrev main_call68_v3 : Ref sig .tc := ⟨.hbm, 1190, rfl⟩
abbrev main_call68_v4 : Ref sig .tc := ⟨.hbm, 1191, rfl⟩
abbrev main_call68_c_1 : Ref sig .tc := ⟨.hbm, 1192, rfl⟩
abbrev main_call68_v5 : Ref sig .tc := ⟨.hbm, 1193, rfl⟩
abbrev main_call68_v6 : Ref sig .tc := ⟨.hbm, 1194, rfl⟩
abbrev main_call68_c_2 : Ref sig .tc := ⟨.hbm, 1195, rfl⟩
abbrev main_call68_v7 : Ref sig .tc := ⟨.hbm, 1196, rfl⟩
abbrev main_call68_v8 : Ref sig .tc := ⟨.hbm, 1197, rfl⟩
abbrev main_call68_c_3 : Ref sig .tc := ⟨.hbm, 1198, rfl⟩
abbrev main_call68_v9 : Ref sig .tc := ⟨.hbm, 1199, rfl⟩
abbrev main_call68_v10 : Ref sig .tc := ⟨.hbm, 1200, rfl⟩
abbrev main_call68_v11 : Ref sig .tc := ⟨.hbm, 1201, rfl⟩
abbrev main_call68_v12 : Ref sig .tc := ⟨.hbm, 1202, rfl⟩
abbrev main_call68_v13 : Ref sig .tc := ⟨.hbm, 1203, rfl⟩
abbrev main_call68_v14 : Ref sig .tc := ⟨.hbm, 1204, rfl⟩
abbrev main_v524 : Ref sig .tc := ⟨.hbm, 1205, rfl⟩
abbrev main_c_179 : Ref sig .tc := ⟨.hbm, 1206, rfl⟩
abbrev main_call69_v0 : Ref sig .tc := ⟨.hbm, 1207, rfl⟩
abbrev main_call69_c : Ref sig .tc := ⟨.hbm, 1208, rfl⟩
abbrev main_call69_v1 : Ref sig .tc := ⟨.hbm, 1209, rfl⟩
abbrev main_call69_c_0 : Ref sig .tc := ⟨.hbm, 1210, rfl⟩
abbrev main_call69_v2 : Ref sig .tc := ⟨.hbm, 1211, rfl⟩
abbrev main_call69_v3 : Ref sig .tc := ⟨.hbm, 1212, rfl⟩
abbrev main_call69_v4 : Ref sig .tc := ⟨.hbm, 1213, rfl⟩
abbrev main_call69_c_1 : Ref sig .tc := ⟨.hbm, 1214, rfl⟩
abbrev main_call69_v5 : Ref sig .tc := ⟨.hbm, 1215, rfl⟩
abbrev main_call69_v6 : Ref sig .tc := ⟨.hbm, 1216, rfl⟩
abbrev main_call69_c_2 : Ref sig .tc := ⟨.hbm, 1217, rfl⟩
abbrev main_call69_v7 : Ref sig .tc := ⟨.hbm, 1218, rfl⟩
abbrev main_call69_v8 : Ref sig .tc := ⟨.hbm, 1219, rfl⟩
abbrev main_call69_c_3 : Ref sig .tc := ⟨.hbm, 1220, rfl⟩
abbrev main_call69_v9 : Ref sig .tc := ⟨.hbm, 1221, rfl⟩
abbrev main_call69_v10 : Ref sig .tc := ⟨.hbm, 1222, rfl⟩
abbrev main_call69_v11 : Ref sig .tc := ⟨.hbm, 1223, rfl⟩
abbrev main_call69_v12 : Ref sig .tc := ⟨.hbm, 1224, rfl⟩
abbrev main_call69_v13 : Ref sig .tc := ⟨.hbm, 1225, rfl⟩
abbrev main_call69_v14 : Ref sig .tc := ⟨.hbm, 1226, rfl⟩
abbrev main_v525 : Ref sig .tc := ⟨.hbm, 1227, rfl⟩
abbrev main_v526 : Ref sig .tc := ⟨.hbm, 1228, rfl⟩
abbrev main_v527 : Ref sig .tc := ⟨.hbm, 1229, rfl⟩
abbrev main_v528 : Ref sig .tc := ⟨.hbm, 1230, rfl⟩
abbrev main_v529 : Ref sig .tc := ⟨.hbm, 1231, rfl⟩
abbrev main_c_180 : Ref sig .tc := ⟨.hbm, 1232, rfl⟩
abbrev main_v530 : Ref sig .tc := ⟨.hbm, 1233, rfl⟩
abbrev main_v531 : Ref sig .tc := ⟨.hbm, 1234, rfl⟩
abbrev main_v532 : Ref sig .tc := ⟨.hbm, 1235, rfl⟩
abbrev main_c_181 : Ref sig .tc := ⟨.hbm, 1236, rfl⟩
abbrev main_call70_v0 : Ref sig .tc := ⟨.hbm, 1237, rfl⟩
abbrev main_call70_v1 : Ref sig .tc := ⟨.hbm, 1238, rfl⟩
abbrev main_v533 : Ref sig .tc := ⟨.hbm, 1239, rfl⟩
abbrev main_c_182 : Ref sig .tc := ⟨.hbm, 1240, rfl⟩
abbrev main_v534 : Ref sig .tc := ⟨.hbm, 1241, rfl⟩
abbrev main_c_183 : Ref sig .tc := ⟨.hbm, 1242, rfl⟩
abbrev main_v535 : Ref sig .tc := ⟨.hbm, 1243, rfl⟩
abbrev main_v536 : Ref sig .tc := ⟨.hbm, 1244, rfl⟩
abbrev main_c_184 : Ref sig .tc := ⟨.hbm, 1245, rfl⟩
abbrev main_v537 : Ref sig .tc := ⟨.hbm, 1246, rfl⟩
abbrev main_v538 : Ref sig .tc := ⟨.hbm, 1247, rfl⟩
abbrev main_v539 : Ref sig .tc := ⟨.hbm, 1248, rfl⟩
abbrev main_v540 : Ref sig .tc := ⟨.hbm, 1249, rfl⟩
abbrev main_v541 : Ref sig .tc := ⟨.hbm, 1250, rfl⟩
abbrev main_c_185 : Ref sig .tc := ⟨.hbm, 1251, rfl⟩
abbrev main_call71_v0 : Ref sig .tc := ⟨.hbm, 1252, rfl⟩
abbrev main_v542 : Ref sig .tc := ⟨.hbm, 1253, rfl⟩
abbrev main_v543 : Ref sig .tc := ⟨.hbm, 1254, rfl⟩
abbrev main_v544 : Ref sig .tc := ⟨.hbm, 1255, rfl⟩
abbrev main_v545 : Ref sig .tc := ⟨.hbm, 1256, rfl⟩
abbrev main_v546 : Ref sig .tc := ⟨.hbm, 1257, rfl⟩
abbrev main_call72_v0 : Ref sig .tc := ⟨.hbm, 1258, rfl⟩
abbrev main_call72_v1_0 : Ref sig .tc := ⟨.hbm, 1259, rfl⟩
abbrev main_v547 : Ref sig .tc := ⟨.hbm, 1260, rfl⟩
abbrev main_c_186 : Ref sig .tc := ⟨.hbm, 1261, rfl⟩
abbrev main_v548 : Ref sig .tc := ⟨.hbm, 1262, rfl⟩
abbrev main_v549 : Ref sig .tc := ⟨.hbm, 1263, rfl⟩
abbrev main_c_187 : Ref sig .tc := ⟨.hbm, 1264, rfl⟩
abbrev main_v550 : Ref sig .tc := ⟨.hbm, 1265, rfl⟩
abbrev main_v551 : Ref sig .tc := ⟨.hbm, 1266, rfl⟩
abbrev main_v552 : Ref sig .tc := ⟨.hbm, 1267, rfl⟩
abbrev main_v553 : Ref sig .tc := ⟨.hbm, 1268, rfl⟩
abbrev main_v554 : Ref sig .tc := ⟨.hbm, 1269, rfl⟩
abbrev main_c_188 : Ref sig .tc := ⟨.hbm, 1270, rfl⟩
abbrev main_v555 : Ref sig .tc := ⟨.hbm, 1271, rfl⟩
abbrev main_v556 : Ref sig .tc := ⟨.hbm, 1272, rfl⟩
abbrev main_c_189 : Ref sig .tc := ⟨.hbm, 1273, rfl⟩
abbrev main_v557 : Ref sig .tc := ⟨.hbm, 1274, rfl⟩
abbrev main_v558 : Ref sig .tc := ⟨.hbm, 1275, rfl⟩
abbrev main_v559 : Ref sig .tc := ⟨.hbm, 1276, rfl⟩
abbrev main_v560 : Ref sig .tc := ⟨.hbm, 1277, rfl⟩
abbrev main_v561 : Ref sig .tc := ⟨.hbm, 1278, rfl⟩
abbrev main_c_190 : Ref sig .tc := ⟨.hbm, 1279, rfl⟩
abbrev main_v562 : Ref sig .tc := ⟨.hbm, 1280, rfl⟩
abbrev main_v563 : Ref sig .tc := ⟨.hbm, 1281, rfl⟩
abbrev main_v564 : Ref sig .tc := ⟨.hbm, 1282, rfl⟩
abbrev main_v565 : Ref sig .tc := ⟨.hbm, 1283, rfl⟩
abbrev main_v566 : Ref sig .tc := ⟨.hbm, 1284, rfl⟩
abbrev main_v567 : Ref sig .tc := ⟨.hbm, 1285, rfl⟩
abbrev main_v568 : Ref sig .tc := ⟨.hbm, 1286, rfl⟩
abbrev main_v569 : Ref sig .tc := ⟨.hbm, 1287, rfl⟩
abbrev main_call73_call0_c : Ref sig .tc := ⟨.hbm, 1288, rfl⟩
abbrev main_call73_call0_v0 : Ref sig .tc := ⟨.hbm, 1289, rfl⟩
abbrev main_v570 : Ref sig .tc := ⟨.hbm, 1290, rfl⟩
abbrev main_c_191 : Ref sig .tc := ⟨.hbm, 1291, rfl⟩
abbrev main_v571 : Ref sig .tc := ⟨.hbm, 1292, rfl⟩
abbrev main_v572 : Ref sig .tc := ⟨.hbm, 1293, rfl⟩
abbrev main_v573 : Ref sig .tc := ⟨.hbm, 1294, rfl⟩
abbrev main_c_192 : Ref sig .tc := ⟨.hbm, 1295, rfl⟩
abbrev main_call74_v0 : Ref sig .tc := ⟨.hbm, 1296, rfl⟩
abbrev main_call74_v1 : Ref sig .tc := ⟨.hbm, 1297, rfl⟩
abbrev main_v574 : Ref sig .tc := ⟨.hbm, 1298, rfl⟩
abbrev main_call75_c : Ref sig .tc := ⟨.hbm, 1299, rfl⟩
abbrev main_call75_v0 : Ref sig .tc := ⟨.hbm, 1300, rfl⟩
abbrev main_v575 : Ref sig .tc := ⟨.hbm, 1301, rfl⟩
abbrev main_v576 : Ref sig .tc := ⟨.hbm, 1302, rfl⟩
abbrev main_c_193 : Ref sig .tc := ⟨.hbm, 1303, rfl⟩
abbrev main_v577 : Ref sig .tc := ⟨.hbm, 1304, rfl⟩
abbrev main_v578 : Ref sig .tc := ⟨.hbm, 1305, rfl⟩
abbrev main_v579 : Ref sig .tc := ⟨.hbm, 1306, rfl⟩
abbrev main_c_194 : Ref sig .tc := ⟨.hbm, 1307, rfl⟩
abbrev main_v580 : Ref sig .tc := ⟨.hbm, 1308, rfl⟩
abbrev main_v581 : Ref sig .tc := ⟨.hbm, 1309, rfl⟩
abbrev main_v582 : Ref sig .tc := ⟨.hbm, 1310, rfl⟩
abbrev main_c_195 : Ref sig .tc := ⟨.hbm, 1311, rfl⟩
abbrev main_v583 : Ref sig .tc := ⟨.hbm, 1312, rfl⟩
abbrev main_v584 : Ref sig .tc := ⟨.hbm, 1313, rfl⟩
abbrev main_v585 : Ref sig .tc := ⟨.hbm, 1314, rfl⟩
abbrev main_c_196 : Ref sig .tc := ⟨.hbm, 1315, rfl⟩
abbrev main_call76_v0 : Ref sig .tc := ⟨.hbm, 1316, rfl⟩
abbrev main_call76_v1 : Ref sig .tc := ⟨.hbm, 1317, rfl⟩
abbrev main_v586 : Ref sig .tc := ⟨.hbm, 1318, rfl⟩
abbrev main_c_197 : Ref sig .tc := ⟨.hbm, 1319, rfl⟩
abbrev main_call77_v0 : Ref sig .tc := ⟨.hbm, 1320, rfl⟩
abbrev main_call77_v1 : Ref sig .tc := ⟨.hbm, 1321, rfl⟩
abbrev main_v587 : Ref sig .tc := ⟨.hbm, 1322, rfl⟩
abbrev main_cst_198 : Ref sig .tc := ⟨.hbm, 1323, rfl⟩
abbrev main_v588 : Ref sig .tc := ⟨.hbm, 1324, rfl⟩
abbrev main_c_199 : Ref sig .tc := ⟨.hbm, 1325, rfl⟩
abbrev main_v589 : Ref sig .tc := ⟨.hbm, 1326, rfl⟩
abbrev main_v590 : Ref sig .tc := ⟨.hbm, 1327, rfl⟩
abbrev main_c_200 : Ref sig .tc := ⟨.hbm, 1328, rfl⟩
abbrev main_v591 : Ref sig .tc := ⟨.hbm, 1329, rfl⟩
abbrev main_v592 : Ref sig .tc := ⟨.hbm, 1330, rfl⟩
abbrev main_v593 : Ref sig .tc := ⟨.hbm, 1331, rfl⟩
abbrev main_c_201 : Ref sig .tc := ⟨.hbm, 1332, rfl⟩
abbrev main_v594 : Ref sig .tc := ⟨.hbm, 1333, rfl⟩
abbrev main_v595 : Ref sig .tc := ⟨.hbm, 1334, rfl⟩
abbrev main_c_202 : Ref sig .tc := ⟨.hbm, 1335, rfl⟩
abbrev main_v596 : Ref sig .tc := ⟨.hbm, 1336, rfl⟩
abbrev main_v597 : Ref sig .tc := ⟨.hbm, 1337, rfl⟩
abbrev main_v598 : Ref sig .tc := ⟨.hbm, 1338, rfl⟩
abbrev main_v599 : Ref sig .tc := ⟨.hbm, 1339, rfl⟩
abbrev main_v600 : Ref sig .tc := ⟨.hbm, 1340, rfl⟩
abbrev main_v601 : Ref sig .tc := ⟨.hbm, 1341, rfl⟩
abbrev main_v602 : Ref sig .tc := ⟨.hbm, 1342, rfl⟩
abbrev main_c_203 : Ref sig .tc := ⟨.hbm, 1343, rfl⟩
abbrev main_v603 : Ref sig .tc := ⟨.hbm, 1344, rfl⟩
abbrev main_v604 : Ref sig .tc := ⟨.hbm, 1345, rfl⟩
abbrev main_c_204 : Ref sig .tc := ⟨.hbm, 1346, rfl⟩
abbrev main_v605 : Ref sig .tc := ⟨.hbm, 1347, rfl⟩
abbrev main_v606 : Ref sig .tc := ⟨.hbm, 1348, rfl⟩
abbrev main_c_205 : Ref sig .tc := ⟨.hbm, 1349, rfl⟩
abbrev main_v607 : Ref sig .tc := ⟨.hbm, 1350, rfl⟩
abbrev main_v608 : Ref sig .tc := ⟨.hbm, 1351, rfl⟩
abbrev main_v609 : Ref sig .tc := ⟨.hbm, 1352, rfl⟩
abbrev main_v610 : Ref sig .tc := ⟨.hbm, 1353, rfl⟩
abbrev main_v611 : Ref sig .tc := ⟨.hbm, 1354, rfl⟩
abbrev main_c_206 : Ref sig .tc := ⟨.hbm, 1355, rfl⟩
abbrev main_call78_v0 : Ref sig .tc := ⟨.hbm, 1356, rfl⟩
abbrev main_call78_v1 : Ref sig .tc := ⟨.hbm, 1357, rfl⟩
abbrev main_call78_v2 : Ref sig .tc := ⟨.hbm, 1358, rfl⟩
abbrev main_call78_v3 : Ref sig .tc := ⟨.hbm, 1359, rfl⟩
abbrev main_call78_v4 : Ref sig .tc := ⟨.hbm, 1360, rfl⟩
abbrev main_call78_v5 : Ref sig .tc := ⟨.hbm, 1361, rfl⟩
abbrev main_call78_v6 : Ref sig .tc := ⟨.hbm, 1362, rfl⟩
abbrev main_call78_v7 : Ref sig .tc := ⟨.hbm, 1363, rfl⟩
abbrev main_call78_v8 : Ref sig .tc := ⟨.hbm, 1364, rfl⟩
abbrev main_call78_c : Ref sig .tc := ⟨.hbm, 1365, rfl⟩
abbrev main_call78_v9 : Ref sig .tc := ⟨.hbm, 1366, rfl⟩
abbrev main_call78_v10 : Ref sig .tc := ⟨.hbm, 1367, rfl⟩
abbrev main_call78_v11 : Ref sig .tc := ⟨.hbm, 1368, rfl⟩
abbrev main_call78_c_0 : Ref sig .tc := ⟨.hbm, 1369, rfl⟩
abbrev main_call78_v12 : Ref sig .tc := ⟨.hbm, 1370, rfl⟩
abbrev main_call78_v13 : Ref sig .tc := ⟨.hbm, 1371, rfl⟩
abbrev main_v612 : Ref sig .tc := ⟨.hbm, 1372, rfl⟩
abbrev main_c_207 : Ref sig .tc := ⟨.hbm, 1373, rfl⟩
abbrev main_call79_v0 : Ref sig .tc := ⟨.hbm, 1374, rfl⟩
abbrev main_call79_v1 : Ref sig .tc := ⟨.hbm, 1375, rfl⟩
abbrev main_call79_v2 : Ref sig .tc := ⟨.hbm, 1376, rfl⟩
abbrev main_call79_v3 : Ref sig .tc := ⟨.hbm, 1377, rfl⟩
abbrev main_call79_v4 : Ref sig .tc := ⟨.hbm, 1378, rfl⟩
abbrev main_call79_v5 : Ref sig .tc := ⟨.hbm, 1379, rfl⟩
abbrev main_call79_v6 : Ref sig .tc := ⟨.hbm, 1380, rfl⟩
abbrev main_call79_v7 : Ref sig .tc := ⟨.hbm, 1381, rfl⟩
abbrev main_call79_v8 : Ref sig .tc := ⟨.hbm, 1382, rfl⟩
abbrev main_call79_c : Ref sig .tc := ⟨.hbm, 1383, rfl⟩
abbrev main_call79_v9 : Ref sig .tc := ⟨.hbm, 1384, rfl⟩
abbrev main_call79_v10 : Ref sig .tc := ⟨.hbm, 1385, rfl⟩
abbrev main_call79_v11 : Ref sig .tc := ⟨.hbm, 1386, rfl⟩
abbrev main_call79_c_0 : Ref sig .tc := ⟨.hbm, 1387, rfl⟩
abbrev main_call79_v12 : Ref sig .tc := ⟨.hbm, 1388, rfl⟩
abbrev main_call79_v13 : Ref sig .tc := ⟨.hbm, 1389, rfl⟩
abbrev main_v613 : Ref sig .tc := ⟨.hbm, 1390, rfl⟩
abbrev main_c_208 : Ref sig .tc := ⟨.hbm, 1391, rfl⟩
abbrev main_call80_v0 : Ref sig .tc := ⟨.hbm, 1392, rfl⟩
abbrev main_call80_c : Ref sig .tc := ⟨.hbm, 1393, rfl⟩
abbrev main_call80_v1 : Ref sig .tc := ⟨.hbm, 1394, rfl⟩
abbrev main_call80_c_0 : Ref sig .tc := ⟨.hbm, 1395, rfl⟩
abbrev main_call80_v2 : Ref sig .tc := ⟨.hbm, 1396, rfl⟩
abbrev main_call80_v3 : Ref sig .tc := ⟨.hbm, 1397, rfl⟩
abbrev main_call80_v4 : Ref sig .tc := ⟨.hbm, 1398, rfl⟩
abbrev main_call80_c_1 : Ref sig .tc := ⟨.hbm, 1399, rfl⟩
abbrev main_call80_v5 : Ref sig .tc := ⟨.hbm, 1400, rfl⟩
abbrev main_call80_v6 : Ref sig .tc := ⟨.hbm, 1401, rfl⟩
abbrev main_call80_c_2 : Ref sig .tc := ⟨.hbm, 1402, rfl⟩
abbrev main_call80_v7 : Ref sig .tc := ⟨.hbm, 1403, rfl⟩
abbrev main_call80_v8 : Ref sig .tc := ⟨.hbm, 1404, rfl⟩
abbrev main_call80_c_3 : Ref sig .tc := ⟨.hbm, 1405, rfl⟩
abbrev main_call80_v9 : Ref sig .tc := ⟨.hbm, 1406, rfl⟩
abbrev main_call80_v10 : Ref sig .tc := ⟨.hbm, 1407, rfl⟩
abbrev main_call80_v11 : Ref sig .tc := ⟨.hbm, 1408, rfl⟩
abbrev main_call80_v12 : Ref sig .tc := ⟨.hbm, 1409, rfl⟩
abbrev main_call80_v13 : Ref sig .tc := ⟨.hbm, 1410, rfl⟩
abbrev main_call80_v14 : Ref sig .tc := ⟨.hbm, 1411, rfl⟩
abbrev main_v614 : Ref sig .tc := ⟨.hbm, 1412, rfl⟩
abbrev main_c_209 : Ref sig .tc := ⟨.hbm, 1413, rfl⟩
abbrev main_call81_v0 : Ref sig .tc := ⟨.hbm, 1414, rfl⟩
abbrev main_call81_c : Ref sig .tc := ⟨.hbm, 1415, rfl⟩
abbrev main_call81_v1 : Ref sig .tc := ⟨.hbm, 1416, rfl⟩
abbrev main_call81_c_0 : Ref sig .tc := ⟨.hbm, 1417, rfl⟩
abbrev main_call81_v2 : Ref sig .tc := ⟨.hbm, 1418, rfl⟩
abbrev main_call81_v3 : Ref sig .tc := ⟨.hbm, 1419, rfl⟩
abbrev main_call81_v4 : Ref sig .tc := ⟨.hbm, 1420, rfl⟩
abbrev main_call81_c_1 : Ref sig .tc := ⟨.hbm, 1421, rfl⟩
abbrev main_call81_v5 : Ref sig .tc := ⟨.hbm, 1422, rfl⟩
abbrev main_call81_v6 : Ref sig .tc := ⟨.hbm, 1423, rfl⟩
abbrev main_call81_c_2 : Ref sig .tc := ⟨.hbm, 1424, rfl⟩
abbrev main_call81_v7 : Ref sig .tc := ⟨.hbm, 1425, rfl⟩
abbrev main_call81_v8 : Ref sig .tc := ⟨.hbm, 1426, rfl⟩
abbrev main_call81_c_3 : Ref sig .tc := ⟨.hbm, 1427, rfl⟩
abbrev main_call81_v9 : Ref sig .tc := ⟨.hbm, 1428, rfl⟩
abbrev main_call81_v10 : Ref sig .tc := ⟨.hbm, 1429, rfl⟩
abbrev main_call81_v11 : Ref sig .tc := ⟨.hbm, 1430, rfl⟩
abbrev main_call81_v12 : Ref sig .tc := ⟨.hbm, 1431, rfl⟩
abbrev main_call81_v13 : Ref sig .tc := ⟨.hbm, 1432, rfl⟩
abbrev main_call81_v14 : Ref sig .tc := ⟨.hbm, 1433, rfl⟩
abbrev main_v615 : Ref sig .tc := ⟨.hbm, 1434, rfl⟩
abbrev main_v616 : Ref sig .tc := ⟨.hbm, 1435, rfl⟩
abbrev main_v617 : Ref sig .tc := ⟨.hbm, 1436, rfl⟩
abbrev main_v618 : Ref sig .tc := ⟨.hbm, 1437, rfl⟩
abbrev main_v619 : Ref sig .tc := ⟨.hbm, 1438, rfl⟩
abbrev main_c_210 : Ref sig .tc := ⟨.hbm, 1439, rfl⟩
abbrev main_v620 : Ref sig .tc := ⟨.hbm, 1440, rfl⟩
abbrev main_v621 : Ref sig .tc := ⟨.hbm, 1441, rfl⟩
abbrev main_v622 : Ref sig .tc := ⟨.hbm, 1442, rfl⟩
abbrev main_c_211 : Ref sig .tc := ⟨.hbm, 1443, rfl⟩
abbrev main_call82_v0 : Ref sig .tc := ⟨.hbm, 1444, rfl⟩
abbrev main_call82_v1 : Ref sig .tc := ⟨.hbm, 1445, rfl⟩
abbrev main_v623 : Ref sig .tc := ⟨.hbm, 1446, rfl⟩
abbrev main_c_212 : Ref sig .tc := ⟨.hbm, 1447, rfl⟩
abbrev main_v624 : Ref sig .tc := ⟨.hbm, 1448, rfl⟩
abbrev main_c_213 : Ref sig .tc := ⟨.hbm, 1449, rfl⟩
abbrev main_v625 : Ref sig .tc := ⟨.hbm, 1450, rfl⟩
abbrev main_v626 : Ref sig .tc := ⟨.hbm, 1451, rfl⟩
abbrev main_c_214 : Ref sig .tc := ⟨.hbm, 1452, rfl⟩
abbrev main_v627 : Ref sig .tc := ⟨.hbm, 1453, rfl⟩
abbrev main_v628 : Ref sig .tc := ⟨.hbm, 1454, rfl⟩
abbrev main_v629 : Ref sig .tc := ⟨.hbm, 1455, rfl⟩
abbrev main_v630 : Ref sig .tc := ⟨.hbm, 1456, rfl⟩
abbrev main_v631 : Ref sig .tc := ⟨.hbm, 1457, rfl⟩
abbrev main_c_215 : Ref sig .tc := ⟨.hbm, 1458, rfl⟩
abbrev main_call83_v0 : Ref sig .tc := ⟨.hbm, 1459, rfl⟩
abbrev main_v632 : Ref sig .tc := ⟨.hbm, 1460, rfl⟩
abbrev main_v633 : Ref sig .tc := ⟨.hbm, 1461, rfl⟩
abbrev main_v634 : Ref sig .tc := ⟨.hbm, 1462, rfl⟩
abbrev main_v635 : Ref sig .tc := ⟨.hbm, 1463, rfl⟩
abbrev main_v636 : Ref sig .tc := ⟨.hbm, 1464, rfl⟩
abbrev main_call84_v0 : Ref sig .tc := ⟨.hbm, 1465, rfl⟩
abbrev main_call84_v1_0 : Ref sig .tc := ⟨.hbm, 1466, rfl⟩
abbrev main_v637 : Ref sig .tc := ⟨.hbm, 1467, rfl⟩
abbrev main_c_216 : Ref sig .tc := ⟨.hbm, 1468, rfl⟩
abbrev main_v638 : Ref sig .tc := ⟨.hbm, 1469, rfl⟩
abbrev main_v639 : Ref sig .tc := ⟨.hbm, 1470, rfl⟩
abbrev main_c_217 : Ref sig .tc := ⟨.hbm, 1471, rfl⟩
abbrev main_v640 : Ref sig .tc := ⟨.hbm, 1472, rfl⟩
abbrev main_v641 : Ref sig .tc := ⟨.hbm, 1473, rfl⟩
abbrev main_v642 : Ref sig .tc := ⟨.hbm, 1474, rfl⟩
abbrev main_v643 : Ref sig .tc := ⟨.hbm, 1475, rfl⟩
abbrev main_v644 : Ref sig .tc := ⟨.hbm, 1476, rfl⟩
abbrev main_c_218 : Ref sig .tc := ⟨.hbm, 1477, rfl⟩
abbrev main_v645 : Ref sig .tc := ⟨.hbm, 1478, rfl⟩
abbrev main_v646 : Ref sig .tc := ⟨.hbm, 1479, rfl⟩
abbrev main_c_219 : Ref sig .tc := ⟨.hbm, 1480, rfl⟩
abbrev main_v647 : Ref sig .tc := ⟨.hbm, 1481, rfl⟩
abbrev main_v648 : Ref sig .tc := ⟨.hbm, 1482, rfl⟩
abbrev main_v649 : Ref sig .tc := ⟨.hbm, 1483, rfl⟩
abbrev main_v650 : Ref sig .tc := ⟨.hbm, 1484, rfl⟩
abbrev main_v651 : Ref sig .tc := ⟨.hbm, 1485, rfl⟩
abbrev main_c_220 : Ref sig .tc := ⟨.hbm, 1486, rfl⟩
abbrev main_v652 : Ref sig .tc := ⟨.hbm, 1487, rfl⟩
abbrev main_v653 : Ref sig .tc := ⟨.hbm, 1488, rfl⟩
abbrev main_v654 : Ref sig .tc := ⟨.hbm, 1489, rfl⟩
abbrev main_v655 : Ref sig .tc := ⟨.hbm, 1490, rfl⟩
abbrev main_v656 : Ref sig .tc := ⟨.hbm, 1491, rfl⟩
abbrev main_v657 : Ref sig .tc := ⟨.hbm, 1492, rfl⟩
abbrev main_v658 : Ref sig .tc := ⟨.hbm, 1493, rfl⟩
abbrev main_v659 : Ref sig .tc := ⟨.hbm, 1494, rfl⟩
abbrev main_call85_call0_c : Ref sig .tc := ⟨.hbm, 1495, rfl⟩
abbrev main_call85_call0_v0 : Ref sig .tc := ⟨.hbm, 1496, rfl⟩
abbrev main_v660 : Ref sig .tc := ⟨.hbm, 1497, rfl⟩
abbrev main_c_221 : Ref sig .tc := ⟨.hbm, 1498, rfl⟩
abbrev main_v661 : Ref sig .tc := ⟨.hbm, 1499, rfl⟩
abbrev main_v662 : Ref sig .tc := ⟨.hbm, 1500, rfl⟩
abbrev main_v663 : Ref sig .tc := ⟨.hbm, 1501, rfl⟩
abbrev main_c_222 : Ref sig .tc := ⟨.hbm, 1502, rfl⟩
abbrev main_call86_v0 : Ref sig .tc := ⟨.hbm, 1503, rfl⟩
abbrev main_call86_v1 : Ref sig .tc := ⟨.hbm, 1504, rfl⟩
abbrev main_v664 : Ref sig .tc := ⟨.hbm, 1505, rfl⟩
abbrev main_call87_c : Ref sig .tc := ⟨.hbm, 1506, rfl⟩
abbrev main_call87_v0 : Ref sig .tc := ⟨.hbm, 1507, rfl⟩
abbrev main_v665 : Ref sig .tc := ⟨.hbm, 1508, rfl⟩
abbrev main_v666 : Ref sig .tc := ⟨.hbm, 1509, rfl⟩
abbrev main_c_223 : Ref sig .tc := ⟨.hbm, 1510, rfl⟩
abbrev main_v667 : Ref sig .tc := ⟨.hbm, 1511, rfl⟩
abbrev main_v668 : Ref sig .tc := ⟨.hbm, 1512, rfl⟩
abbrev main_v669 : Ref sig .tc := ⟨.hbm, 1513, rfl⟩
abbrev main_c_224 : Ref sig .tc := ⟨.hbm, 1514, rfl⟩
abbrev main_v670 : Ref sig .tc := ⟨.hbm, 1515, rfl⟩
abbrev main_v671 : Ref sig .tc := ⟨.hbm, 1516, rfl⟩
abbrev main_v672 : Ref sig .tc := ⟨.hbm, 1517, rfl⟩
abbrev main_c_225 : Ref sig .tc := ⟨.hbm, 1518, rfl⟩
abbrev main_v673 : Ref sig .tc := ⟨.hbm, 1519, rfl⟩
abbrev main_v674 : Ref sig .tc := ⟨.hbm, 1520, rfl⟩
abbrev main_v675 : Ref sig .tc := ⟨.hbm, 1521, rfl⟩
abbrev main_c_226 : Ref sig .tc := ⟨.hbm, 1522, rfl⟩
abbrev main_call88_v0 : Ref sig .tc := ⟨.hbm, 1523, rfl⟩
abbrev main_call88_v1 : Ref sig .tc := ⟨.hbm, 1524, rfl⟩
abbrev main_v676 : Ref sig .tc := ⟨.hbm, 1525, rfl⟩
abbrev main_c_227 : Ref sig .tc := ⟨.hbm, 1526, rfl⟩
abbrev main_call89_v0 : Ref sig .tc := ⟨.hbm, 1527, rfl⟩
abbrev main_call89_v1 : Ref sig .tc := ⟨.hbm, 1528, rfl⟩
abbrev main_v677 : Ref sig .tc := ⟨.hbm, 1529, rfl⟩
abbrev main_cst_228 : Ref sig .tc := ⟨.hbm, 1530, rfl⟩
abbrev main_v678 : Ref sig .tc := ⟨.hbm, 1531, rfl⟩
abbrev main_c_229 : Ref sig .tc := ⟨.hbm, 1532, rfl⟩
abbrev main_v679 : Ref sig .tc := ⟨.hbm, 1533, rfl⟩
abbrev main_v680 : Ref sig .tc := ⟨.hbm, 1534, rfl⟩
abbrev main_c_230 : Ref sig .tc := ⟨.hbm, 1535, rfl⟩
abbrev main_v681 : Ref sig .tc := ⟨.hbm, 1536, rfl⟩
abbrev main_v682 : Ref sig .tc := ⟨.hbm, 1537, rfl⟩
abbrev main_v683 : Ref sig .tc := ⟨.hbm, 1538, rfl⟩
abbrev main_c_231 : Ref sig .tc := ⟨.hbm, 1539, rfl⟩
abbrev main_v684 : Ref sig .tc := ⟨.hbm, 1540, rfl⟩
abbrev main_v685 : Ref sig .tc := ⟨.hbm, 1541, rfl⟩
abbrev main_c_232 : Ref sig .tc := ⟨.hbm, 1542, rfl⟩
abbrev main_v686 : Ref sig .tc := ⟨.hbm, 1543, rfl⟩
abbrev main_v687 : Ref sig .tc := ⟨.hbm, 1544, rfl⟩
abbrev main_v688 : Ref sig .tc := ⟨.hbm, 1545, rfl⟩
abbrev main_v689 : Ref sig .tc := ⟨.hbm, 1546, rfl⟩
abbrev main_v690 : Ref sig .tc := ⟨.hbm, 1547, rfl⟩
abbrev main_v691 : Ref sig .tc := ⟨.hbm, 1548, rfl⟩
abbrev main_v692 : Ref sig .tc := ⟨.hbm, 1549, rfl⟩
abbrev main_c_233 : Ref sig .tc := ⟨.hbm, 1550, rfl⟩
abbrev main_v693 : Ref sig .tc := ⟨.hbm, 1551, rfl⟩
abbrev main_v694 : Ref sig .tc := ⟨.hbm, 1552, rfl⟩
abbrev main_c_234 : Ref sig .tc := ⟨.hbm, 1553, rfl⟩
abbrev main_v695 : Ref sig .tc := ⟨.hbm, 1554, rfl⟩
abbrev main_v696 : Ref sig .tc := ⟨.hbm, 1555, rfl⟩
abbrev main_c_235 : Ref sig .tc := ⟨.hbm, 1556, rfl⟩
abbrev main_v697 : Ref sig .tc := ⟨.hbm, 1557, rfl⟩
abbrev main_v698 : Ref sig .tc := ⟨.hbm, 1558, rfl⟩
abbrev main_v699 : Ref sig .tc := ⟨.hbm, 1559, rfl⟩
abbrev main_v700 : Ref sig .tc := ⟨.hbm, 1560, rfl⟩
abbrev main_v701 : Ref sig .tc := ⟨.hbm, 1561, rfl⟩
abbrev main_c_236 : Ref sig .tc := ⟨.hbm, 1562, rfl⟩
abbrev main_call90_v0 : Ref sig .tc := ⟨.hbm, 1563, rfl⟩
abbrev main_call90_v1 : Ref sig .tc := ⟨.hbm, 1564, rfl⟩
abbrev main_call90_v2 : Ref sig .tc := ⟨.hbm, 1565, rfl⟩
abbrev main_call90_v3 : Ref sig .tc := ⟨.hbm, 1566, rfl⟩
abbrev main_call90_v4 : Ref sig .tc := ⟨.hbm, 1567, rfl⟩
abbrev main_call90_v5 : Ref sig .tc := ⟨.hbm, 1568, rfl⟩
abbrev main_call90_v6 : Ref sig .tc := ⟨.hbm, 1569, rfl⟩
abbrev main_call90_v7 : Ref sig .tc := ⟨.hbm, 1570, rfl⟩
abbrev main_call90_v8 : Ref sig .tc := ⟨.hbm, 1571, rfl⟩
abbrev main_call90_c : Ref sig .tc := ⟨.hbm, 1572, rfl⟩
abbrev main_call90_v9 : Ref sig .tc := ⟨.hbm, 1573, rfl⟩
abbrev main_call90_v10 : Ref sig .tc := ⟨.hbm, 1574, rfl⟩
abbrev main_call90_v11 : Ref sig .tc := ⟨.hbm, 1575, rfl⟩
abbrev main_call90_c_0 : Ref sig .tc := ⟨.hbm, 1576, rfl⟩
abbrev main_call90_v12 : Ref sig .tc := ⟨.hbm, 1577, rfl⟩
abbrev main_call90_v13 : Ref sig .tc := ⟨.hbm, 1578, rfl⟩
abbrev main_v702 : Ref sig .tc := ⟨.hbm, 1579, rfl⟩
abbrev main_c_237 : Ref sig .tc := ⟨.hbm, 1580, rfl⟩
abbrev main_call91_v0 : Ref sig .tc := ⟨.hbm, 1581, rfl⟩
abbrev main_call91_v1 : Ref sig .tc := ⟨.hbm, 1582, rfl⟩
abbrev main_call91_v2 : Ref sig .tc := ⟨.hbm, 1583, rfl⟩
abbrev main_call91_v3 : Ref sig .tc := ⟨.hbm, 1584, rfl⟩
abbrev main_call91_v4 : Ref sig .tc := ⟨.hbm, 1585, rfl⟩
abbrev main_call91_v5 : Ref sig .tc := ⟨.hbm, 1586, rfl⟩
abbrev main_call91_v6 : Ref sig .tc := ⟨.hbm, 1587, rfl⟩
abbrev main_call91_v7 : Ref sig .tc := ⟨.hbm, 1588, rfl⟩
abbrev main_call91_v8 : Ref sig .tc := ⟨.hbm, 1589, rfl⟩
abbrev main_call91_c : Ref sig .tc := ⟨.hbm, 1590, rfl⟩
abbrev main_call91_v9 : Ref sig .tc := ⟨.hbm, 1591, rfl⟩
abbrev main_call91_v10 : Ref sig .tc := ⟨.hbm, 1592, rfl⟩
abbrev main_call91_v11 : Ref sig .tc := ⟨.hbm, 1593, rfl⟩
abbrev main_call91_c_0 : Ref sig .tc := ⟨.hbm, 1594, rfl⟩
abbrev main_call91_v12 : Ref sig .tc := ⟨.hbm, 1595, rfl⟩
abbrev main_call91_v13 : Ref sig .tc := ⟨.hbm, 1596, rfl⟩
abbrev main_v703 : Ref sig .tc := ⟨.hbm, 1597, rfl⟩
abbrev main_c_238 : Ref sig .tc := ⟨.hbm, 1598, rfl⟩
abbrev main_call92_v0 : Ref sig .tc := ⟨.hbm, 1599, rfl⟩
abbrev main_call92_c : Ref sig .tc := ⟨.hbm, 1600, rfl⟩
abbrev main_call92_v1 : Ref sig .tc := ⟨.hbm, 1601, rfl⟩
abbrev main_call92_c_0 : Ref sig .tc := ⟨.hbm, 1602, rfl⟩
abbrev main_call92_v2 : Ref sig .tc := ⟨.hbm, 1603, rfl⟩
abbrev main_call92_v3 : Ref sig .tc := ⟨.hbm, 1604, rfl⟩
abbrev main_call92_v4 : Ref sig .tc := ⟨.hbm, 1605, rfl⟩
abbrev main_call92_c_1 : Ref sig .tc := ⟨.hbm, 1606, rfl⟩
abbrev main_call92_v5 : Ref sig .tc := ⟨.hbm, 1607, rfl⟩
abbrev main_call92_v6 : Ref sig .tc := ⟨.hbm, 1608, rfl⟩
abbrev main_call92_c_2 : Ref sig .tc := ⟨.hbm, 1609, rfl⟩
abbrev main_call92_v7 : Ref sig .tc := ⟨.hbm, 1610, rfl⟩
abbrev main_call92_v8 : Ref sig .tc := ⟨.hbm, 1611, rfl⟩
abbrev main_call92_c_3 : Ref sig .tc := ⟨.hbm, 1612, rfl⟩
abbrev main_call92_v9 : Ref sig .tc := ⟨.hbm, 1613, rfl⟩
abbrev main_call92_v10 : Ref sig .tc := ⟨.hbm, 1614, rfl⟩
abbrev main_call92_v11 : Ref sig .tc := ⟨.hbm, 1615, rfl⟩
abbrev main_call92_v12 : Ref sig .tc := ⟨.hbm, 1616, rfl⟩
abbrev main_call92_v13 : Ref sig .tc := ⟨.hbm, 1617, rfl⟩
abbrev main_call92_v14 : Ref sig .tc := ⟨.hbm, 1618, rfl⟩
abbrev main_v704 : Ref sig .tc := ⟨.hbm, 1619, rfl⟩
abbrev main_c_239 : Ref sig .tc := ⟨.hbm, 1620, rfl⟩
abbrev main_call93_v0 : Ref sig .tc := ⟨.hbm, 1621, rfl⟩
abbrev main_call93_c : Ref sig .tc := ⟨.hbm, 1622, rfl⟩
abbrev main_call93_v1 : Ref sig .tc := ⟨.hbm, 1623, rfl⟩
abbrev main_call93_c_0 : Ref sig .tc := ⟨.hbm, 1624, rfl⟩
abbrev main_call93_v2 : Ref sig .tc := ⟨.hbm, 1625, rfl⟩
abbrev main_call93_v3 : Ref sig .tc := ⟨.hbm, 1626, rfl⟩
abbrev main_call93_v4 : Ref sig .tc := ⟨.hbm, 1627, rfl⟩
abbrev main_call93_c_1 : Ref sig .tc := ⟨.hbm, 1628, rfl⟩
abbrev main_call93_v5 : Ref sig .tc := ⟨.hbm, 1629, rfl⟩
abbrev main_call93_v6 : Ref sig .tc := ⟨.hbm, 1630, rfl⟩
abbrev main_call93_c_2 : Ref sig .tc := ⟨.hbm, 1631, rfl⟩
abbrev main_call93_v7 : Ref sig .tc := ⟨.hbm, 1632, rfl⟩
abbrev main_call93_v8 : Ref sig .tc := ⟨.hbm, 1633, rfl⟩
abbrev main_call93_c_3 : Ref sig .tc := ⟨.hbm, 1634, rfl⟩
abbrev main_call93_v9 : Ref sig .tc := ⟨.hbm, 1635, rfl⟩
abbrev main_call93_v10 : Ref sig .tc := ⟨.hbm, 1636, rfl⟩
abbrev main_call93_v11 : Ref sig .tc := ⟨.hbm, 1637, rfl⟩
abbrev main_call93_v12 : Ref sig .tc := ⟨.hbm, 1638, rfl⟩
abbrev main_call93_v13 : Ref sig .tc := ⟨.hbm, 1639, rfl⟩
abbrev main_call93_v14 : Ref sig .tc := ⟨.hbm, 1640, rfl⟩
abbrev main_v705 : Ref sig .tc := ⟨.hbm, 1641, rfl⟩
abbrev main_v706 : Ref sig .tc := ⟨.hbm, 1642, rfl⟩
abbrev main_v707 : Ref sig .tc := ⟨.hbm, 1643, rfl⟩
abbrev main_v708 : Ref sig .tc := ⟨.hbm, 1644, rfl⟩
abbrev main_v709 : Ref sig .tc := ⟨.hbm, 1645, rfl⟩
abbrev main_c_240 : Ref sig .tc := ⟨.hbm, 1646, rfl⟩
abbrev main_v710 : Ref sig .tc := ⟨.hbm, 1647, rfl⟩
abbrev main_v711 : Ref sig .tc := ⟨.hbm, 1648, rfl⟩
abbrev main_v712 : Ref sig .tc := ⟨.hbm, 1649, rfl⟩
abbrev main_c_241 : Ref sig .tc := ⟨.hbm, 1650, rfl⟩
abbrev main_call94_v0 : Ref sig .tc := ⟨.hbm, 1651, rfl⟩
abbrev main_call94_v1 : Ref sig .tc := ⟨.hbm, 1652, rfl⟩
abbrev main_v713 : Ref sig .tc := ⟨.hbm, 1653, rfl⟩
abbrev main_c_242 : Ref sig .tc := ⟨.hbm, 1654, rfl⟩
abbrev main_v714 : Ref sig .tc := ⟨.hbm, 1655, rfl⟩
abbrev main_c_243 : Ref sig .tc := ⟨.hbm, 1656, rfl⟩
abbrev main_v715 : Ref sig .tc := ⟨.hbm, 1657, rfl⟩
abbrev main_v716 : Ref sig .tc := ⟨.hbm, 1658, rfl⟩
abbrev main_c_244 : Ref sig .tc := ⟨.hbm, 1659, rfl⟩
abbrev main_v717 : Ref sig .tc := ⟨.hbm, 1660, rfl⟩
abbrev main_v718 : Ref sig .tc := ⟨.hbm, 1661, rfl⟩
abbrev main_v719 : Ref sig .tc := ⟨.hbm, 1662, rfl⟩
abbrev main_v720 : Ref sig .tc := ⟨.hbm, 1663, rfl⟩
abbrev main_v721 : Ref sig .tc := ⟨.hbm, 1664, rfl⟩
abbrev main_c_245 : Ref sig .tc := ⟨.hbm, 1665, rfl⟩
abbrev main_call95_v0 : Ref sig .tc := ⟨.hbm, 1666, rfl⟩
abbrev main_v722 : Ref sig .tc := ⟨.hbm, 1667, rfl⟩
abbrev main_v723 : Ref sig .tc := ⟨.hbm, 1668, rfl⟩
abbrev main_v724 : Ref sig .tc := ⟨.hbm, 1669, rfl⟩
abbrev main_v725 : Ref sig .tc := ⟨.hbm, 1670, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x131072x4 : Shape := ⟨3, ![8, 131072, 4]⟩
abbrev S3 : Shape := ⟨1, ![3]⟩
abbrev S1 : Shape := ⟨1, ![1]⟩
abbrev S1x131072x4 : Shape := ⟨3, ![1, 131072, 4]⟩
abbrev S131072x4 : Shape := ⟨2, ![131072, 4]⟩
abbrev S131072x3 : Shape := ⟨2, ![131072, 3]⟩
abbrev S1x3 : Shape := ⟨2, ![1, 3]⟩
abbrev S_ : Shape := ⟨0, ![]⟩
abbrev S131072 : Shape := ⟨1, ![131072]⟩
abbrev S131072x1 : Shape := ⟨2, ![131072, 1]⟩
abbrev S131071 : Shape := ⟨1, ![131071]⟩
abbrev S20000x5x4 : Shape := ⟨3, ![20000, 5, 4]⟩
abbrev S131072x2 : Shape := ⟨2, ![131072, 2]⟩
abbrev S20000 : Shape := ⟨1, ![20000]⟩
abbrev S20000x3 : Shape := ⟨2, ![20000, 3]⟩
abbrev S20000x4 : Shape := ⟨2, ![20000, 4]⟩
abbrev S160000x5x4 : Shape := ⟨3, ![160000, 5, 4]⟩
abbrev S160000x4 : Shape := ⟨2, ![160000, 4]⟩
abbrev S160000 : Shape := ⟨1, ![160000]⟩

abbrev nBuf : Space → Nat
  | .hbm => 1957
  | .vmem => 0
  | .smem => 0
  | _ => 0

abbrev hbmTy0_0 (i : Nat) : BufTy := match i % 128 with
  | 0 => ⟨S8x131072x4, .f32⟩
  | 1 => ⟨S3, .f32⟩
  | 2 => ⟨S3, .f32⟩
  | 3 => ⟨S3, .i32⟩
  | 4 => ⟨S1, .i1⟩
  | 5 => ⟨S3, .f32⟩
  | 6 => ⟨S3, .i32⟩
  | 7 => ⟨S1, .i1⟩
  | 8 => ⟨S3, .f32⟩
  | 9 => ⟨S3, .i32⟩
  | 10 => ⟨S1, .i1⟩
  | 11 => ⟨S3, .f32⟩
  | 12 => ⟨S3, .i32⟩
  | 13 => ⟨S1, .i1⟩
  | 14 => ⟨S3, .f32⟩
  | 15 => ⟨S3, .i32⟩
  | 16 => ⟨S1, .i1⟩
  | 17 => ⟨S3, .f32⟩
  | 18 => ⟨S3, .i32⟩
  | 19 => ⟨S1, .i1⟩
  | 20 => ⟨S3, .f32⟩
  | 21 => ⟨S3, .i32⟩
  | 22 => ⟨S1, .i1⟩
  | 23 => ⟨S3, .f32⟩
  | 24 => ⟨S3, .i32⟩
  | 25 => ⟨S1, .i1⟩
  | 26 => ⟨S1x131072x4, .f32⟩
  | 27 => ⟨S131072x4, .f32⟩
  | 28 => ⟨S131072x3, .f32⟩
  | 29 => ⟨S1x3, .f32⟩
  | 30 => ⟨S131072x3, .f32⟩
  | 31 => ⟨S131072x3, .f32⟩
  | 32 => ⟨S1x3, .f32⟩
  | 33 => ⟨S131072x3, .f32⟩
  | 34 => ⟨S131072x3, .f32⟩
  | 35 => ⟨S131072x3, .f32⟩
  | 36 => ⟨S131072x3, .i32⟩
  | 37 => ⟨S_, .i32⟩
  | 38 => ⟨S131072x3, .i32⟩
  | 39 => ⟨S131072x3, .i1⟩
  | 40 => ⟨S1x3, .i32⟩
  | 41 => ⟨S131072x3, .i32⟩
  | 42 => ⟨S131072x3, .i1⟩
  | 43 => ⟨S131072x3, .i1⟩
  | 44 => ⟨S_, .i1⟩
  | 45 => ⟨S131072, .i1⟩
  | 46 => ⟨S131072x1, .i32⟩
  | 47 => ⟨S131072, .i32⟩
  | 48 => ⟨S_, .i32⟩
  | 49 => ⟨S131072, .i32⟩
  | 50 => ⟨S131072, .i32⟩
  | 51 => ⟨S131072x1, .i32⟩
  | 52 => ⟨S131072, .i32⟩
  | 53 => ⟨S131072, .i32⟩
  | 54 => ⟨S_, .i32⟩
  | 55 => ⟨S131072, .i32⟩
  | 56 => ⟨S131072, .i32⟩
  | 57 => ⟨S131072x1, .i32⟩
  | 58 => ⟨S131072, .i32⟩
  | 59 => ⟨S131072, .i32⟩
  | 60 => ⟨S_, .i32⟩
  | 61 => ⟨S_, .i32⟩
  | 62 => ⟨S131072, .i32⟩
  | 63 => ⟨S131072, .i32⟩
  | 64 => ⟨S131072, .i32⟩
  | 65 => ⟨S131072, .i32⟩
  | 66 => ⟨S131072, .i32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S131072, .i32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x4, .f32⟩
  | 85 => ⟨S_, .i32⟩
  | 86 => ⟨S131072, .i32⟩
  | 87 => ⟨S131072, .i1⟩
  | 88 => ⟨S131071, .i32⟩
  | 89 => ⟨S131071, .i32⟩
  | 90 => ⟨S131071, .i1⟩
  | 91 => ⟨S131072, .i1⟩
  | 92 => ⟨S131072, .i1⟩
  | 93 => ⟨S131072, .i32⟩
  | 94 => ⟨S_, .i32⟩
  | 95 => ⟨S_, .i32⟩
  | 96 => ⟨S131072, .i32⟩
  | 97 => ⟨S_, .i32⟩
  | 98 => ⟨S131072, .i32⟩
  | 99 => ⟨S131072, .i32⟩
  | 100 => ⟨S131072, .i32⟩
  | 101 => ⟨S_, .i32⟩
  | 102 => ⟨S_, .i32⟩
  | 103 => ⟨S131072, .i32⟩
  | 104 => ⟨S131072, .i32⟩
  | 105 => ⟨S_, .i32⟩
  | 106 => ⟨S_, .i32⟩
  | 107 => ⟨S131072, .i32⟩
  | 108 => ⟨S131072, .i32⟩
  | 109 => ⟨S_, .i32⟩
  | 110 => ⟨S131072, .i32⟩
  | 111 => ⟨S131072, .i1⟩
  | 112 => ⟨S131072, .i1⟩
  | 113 => ⟨S_, .i32⟩
  | 114 => ⟨S131072, .i32⟩
  | 115 => ⟨S131072, .i1⟩
  | 116 => ⟨S131072, .i1⟩
  | 117 => ⟨S_, .i32⟩
  | 118 => ⟨S131072, .i32⟩
  | 119 => ⟨S131072, .i1⟩
  | 120 => ⟨S131072, .i1⟩
  | 121 => ⟨S_, .i32⟩
  | 122 => ⟨S_, .i32⟩
  | 123 => ⟨S131072, .i32⟩
  | 124 => ⟨S131072, .i32⟩
  | 125 => ⟨S_, .i32⟩
  | 126 => ⟨S_, .i32⟩
  | 127 => ⟨S131072, .i32⟩
  | _ => ⟨S8x131072x4, .f32⟩

abbrev hbmTy0_1 (i : Nat) : BufTy := match i % 128 with
  | 0 => ⟨S131072, .i32⟩
  | 1 => ⟨S_, .f32⟩
  | 2 => ⟨S20000x5x4, .f32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x1, .i32⟩
  | 19 => ⟨S131072x2, .i32⟩
  | 20 => ⟨S20000x5x4, .f32⟩
  | 21 => ⟨S_, .i32⟩
  | 22 => ⟨S20000, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S20000, .i32⟩
  | 33 => ⟨S_, .i32⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S131072, .i32⟩
  | 42 => ⟨S131072, .i32⟩
  | 43 => ⟨S_, .i32⟩
  | 44 => ⟨S131072, .i32⟩
  | 45 => ⟨S131072, .i1⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S_, .i32⟩
  | 53 => ⟨S131072, .i32⟩
  | 54 => ⟨S131072, .i32⟩
  | 55 => ⟨S131072, .i32⟩
  | 56 => ⟨S_, .i32⟩
  | 57 => ⟨S131072, .i32⟩
  | 58 => ⟨S131072, .i1⟩
  | 59 => ⟨S131072, .i32⟩
  | 60 => ⟨S131072, .i32⟩
  | 61 => ⟨S_, .i32⟩
  | 62 => ⟨S131072, .i32⟩
  | 63 => ⟨S131072, .i1⟩
  | 64 => ⟨S131072, .i1⟩
  | 65 => ⟨S_, .i32⟩
  | 66 => ⟨S131072, .i32⟩
  | 67 => ⟨S131072, .i32⟩
  | 68 => ⟨S131072, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S131072, .i32⟩
  | 76 => ⟨S131072, .i32⟩
  | 77 => ⟨S_, .i32⟩
  | 78 => ⟨S131072, .i32⟩
  | 79 => ⟨S131072, .i1⟩
  | 80 => ⟨S_, .i32⟩
  | 81 => ⟨S131072, .i32⟩
  | 82 => ⟨S131072, .i1⟩
  | 83 => ⟨S_, .i32⟩
  | 84 => ⟨S_, .i1⟩
  | 85 => ⟨S131072, .i1⟩
  | 86 => ⟨S131072, .i1⟩
  | 87 => ⟨S131072, .i1⟩
  | 88 => ⟨S131072, .i32⟩
  | 89 => ⟨S131072, .i32⟩
  | 90 => ⟨S131072, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i1⟩
  | 105 => ⟨S_, .i32⟩
  | 106 => ⟨S_, .i1⟩
  | 107 => ⟨S131072, .i1⟩
  | 108 => ⟨S131072, .i1⟩
  | 109 => ⟨S131072, .i1⟩
  | 110 => ⟨S131072, .i32⟩
  | 111 => ⟨S131072, .i32⟩
  | 112 => ⟨S131072, .i32⟩
  | 113 => ⟨S131072x1, .i32⟩
  | 114 => ⟨S131072x1, .i32⟩
  | 115 => ⟨S131072x1, .i32⟩
  | 116 => ⟨S131072x3, .i32⟩
  | 117 => ⟨S_, .i32⟩
  | 118 => ⟨S131072, .i32⟩
  | 119 => ⟨S131072, .i1⟩
  | 120 => ⟨S131072, .i1⟩
  | 121 => ⟨S_, .i32⟩
  | 122 => ⟨S_, .i32⟩
  | 123 => ⟨S131072, .i32⟩
  | 124 => ⟨S131072, .i32⟩
  | 125 => ⟨S_, .i32⟩
  | 126 => ⟨S20000x3, .i32⟩
  | 127 => ⟨S_, .i32⟩
  | _ => ⟨S8x131072x4, .f32⟩

abbrev hbmTy0_2 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S20000x3, .i32⟩
  | 8 => ⟨S_, .i32⟩
  | 9 => ⟨S_, .i32⟩
  | 10 => ⟨S20000x4, .i32⟩
  | 11 => ⟨S1x131072x4, .f32⟩
  | 12 => ⟨S131072x4, .f32⟩
  | 13 => ⟨S131072x3, .f32⟩
  | 14 => ⟨S1x3, .f32⟩
  | 15 => ⟨S131072x3, .f32⟩
  | 16 => ⟨S131072x3, .f32⟩
  | 17 => ⟨S1x3, .f32⟩
  | 18 => ⟨S131072x3, .f32⟩
  | 19 => ⟨S131072x3, .f32⟩
  | 20 => ⟨S131072x3, .f32⟩
  | 21 => ⟨S131072x3, .i32⟩
  | 22 => ⟨S_, .i32⟩
  | 23 => ⟨S131072x3, .i32⟩
  | 24 => ⟨S131072x3, .i1⟩
  | 25 => ⟨S1x3, .i32⟩
  | 26 => ⟨S131072x3, .i32⟩
  | 27 => ⟨S131072x3, .i1⟩
  | 28 => ⟨S131072x3, .i1⟩
  | 29 => ⟨S_, .i1⟩
  | 30 => ⟨S131072, .i1⟩
  | 31 => ⟨S131072x1, .i32⟩
  | 32 => ⟨S131072, .i32⟩
  | 33 => ⟨S_, .i32⟩
  | 34 => ⟨S131072, .i32⟩
  | 35 => ⟨S131072, .i32⟩
  | 36 => ⟨S131072x1, .i32⟩
  | 37 => ⟨S131072, .i32⟩
  | 38 => ⟨S131072, .i32⟩
  | 39 => ⟨S_, .i32⟩
  | 40 => ⟨S131072, .i32⟩
  | 41 => ⟨S131072, .i32⟩
  | 42 => ⟨S131072x1, .i32⟩
  | 43 => ⟨S131072, .i32⟩
  | 44 => ⟨S131072, .i32⟩
  | 45 => ⟨S_, .i32⟩
  | 46 => ⟨S_, .i32⟩
  | 47 => ⟨S131072, .i32⟩
  | 48 => ⟨S131072, .i32⟩
  | 49 => ⟨S131072, .i32⟩
  | 50 => ⟨S131072, .i32⟩
  | 51 => ⟨S131072, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x4, .f32⟩
  | 70 => ⟨S_, .i32⟩
  | 71 => ⟨S131072, .i32⟩
  | 72 => ⟨S131072, .i1⟩
  | 73 => ⟨S131071, .i32⟩
  | 74 => ⟨S131071, .i32⟩
  | 75 => ⟨S131071, .i1⟩
  | 76 => ⟨S131072, .i1⟩
  | 77 => ⟨S131072, .i1⟩
  | 78 => ⟨S131072, .i32⟩
  | 79 => ⟨S_, .i32⟩
  | 80 => ⟨S_, .i32⟩
  | 81 => ⟨S131072, .i32⟩
  | 82 => ⟨S_, .i32⟩
  | 83 => ⟨S131072, .i32⟩
  | 84 => ⟨S131072, .i32⟩
  | 85 => ⟨S131072, .i32⟩
  | 86 => ⟨S_, .i32⟩
  | 87 => ⟨S_, .i32⟩
  | 88 => ⟨S131072, .i32⟩
  | 89 => ⟨S131072, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i1⟩
  | 97 => ⟨S131072, .i1⟩
  | 98 => ⟨S_, .i32⟩
  | 99 => ⟨S131072, .i32⟩
  | 100 => ⟨S131072, .i1⟩
  | 101 => ⟨S131072, .i1⟩
  | 102 => ⟨S_, .i32⟩
  | 103 => ⟨S131072, .i32⟩
  | 104 => ⟨S131072, .i1⟩
  | 105 => ⟨S131072, .i1⟩
  | 106 => ⟨S_, .i32⟩
  | 107 => ⟨S_, .i32⟩
  | 108 => ⟨S131072, .i32⟩
  | 109 => ⟨S131072, .i32⟩
  | 110 => ⟨S_, .i32⟩
  | 111 => ⟨S_, .i32⟩
  | 112 => ⟨S131072, .i32⟩
  | 113 => ⟨S131072, .i32⟩
  | 114 => ⟨S_, .f32⟩
  | 115 => ⟨S20000x5x4, .f32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S8x131072x4, .f32⟩

abbrev hbmTy0_3 (i : Nat) : BufTy := match i % 128 with
  | 0 => ⟨S131072, .i32⟩
  | 1 => ⟨S131072, .i32⟩
  | 2 => ⟨S131072x1, .i32⟩
  | 3 => ⟨S131072x1, .i32⟩
  | 4 => ⟨S131072x2, .i32⟩
  | 5 => ⟨S20000x5x4, .f32⟩
  | 6 => ⟨S_, .i32⟩
  | 7 => ⟨S20000, .i32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S20000, .i32⟩
  | 18 => ⟨S_, .i32⟩
  | 19 => ⟨S_, .i32⟩
  | 20 => ⟨S131072, .i32⟩
  | 21 => ⟨S131072, .i32⟩
  | 22 => ⟨S131072, .i32⟩
  | 23 => ⟨S_, .i32⟩
  | 24 => ⟨S131072, .i32⟩
  | 25 => ⟨S131072, .i1⟩
  | 26 => ⟨S131072, .i32⟩
  | 27 => ⟨S131072, .i32⟩
  | 28 => ⟨S_, .i32⟩
  | 29 => ⟨S131072, .i32⟩
  | 30 => ⟨S131072, .i1⟩
  | 31 => ⟨S131072, .i1⟩
  | 32 => ⟨S_, .i32⟩
  | 33 => ⟨S131072, .i32⟩
  | 34 => ⟨S131072, .i32⟩
  | 35 => ⟨S131072, .i32⟩
  | 36 => ⟨S_, .i32⟩
  | 37 => ⟨S_, .i32⟩
  | 38 => ⟨S131072, .i32⟩
  | 39 => ⟨S131072, .i32⟩
  | 40 => ⟨S131072, .i32⟩
  | 41 => ⟨S_, .i32⟩
  | 42 => ⟨S131072, .i32⟩
  | 43 => ⟨S131072, .i1⟩
  | 44 => ⟨S131072, .i32⟩
  | 45 => ⟨S131072, .i32⟩
  | 46 => ⟨S_, .i32⟩
  | 47 => ⟨S131072, .i32⟩
  | 48 => ⟨S131072, .i1⟩
  | 49 => ⟨S131072, .i1⟩
  | 50 => ⟨S_, .i32⟩
  | 51 => ⟨S131072, .i32⟩
  | 52 => ⟨S131072, .i32⟩
  | 53 => ⟨S131072, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i1⟩
  | 68 => ⟨S_, .i32⟩
  | 69 => ⟨S_, .i1⟩
  | 70 => ⟨S131072, .i1⟩
  | 71 => ⟨S131072, .i1⟩
  | 72 => ⟨S131072, .i1⟩
  | 73 => ⟨S131072, .i32⟩
  | 74 => ⟨S131072, .i32⟩
  | 75 => ⟨S131072, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S131072, .i32⟩
  | 83 => ⟨S131072, .i32⟩
  | 84 => ⟨S_, .i32⟩
  | 85 => ⟨S131072, .i32⟩
  | 86 => ⟨S131072, .i1⟩
  | 87 => ⟨S_, .i32⟩
  | 88 => ⟨S131072, .i32⟩
  | 89 => ⟨S131072, .i1⟩
  | 90 => ⟨S_, .i32⟩
  | 91 => ⟨S_, .i1⟩
  | 92 => ⟨S131072, .i1⟩
  | 93 => ⟨S131072, .i1⟩
  | 94 => ⟨S131072, .i1⟩
  | 95 => ⟨S131072, .i32⟩
  | 96 => ⟨S131072, .i32⟩
  | 97 => ⟨S131072, .i32⟩
  | 98 => ⟨S131072x1, .i32⟩
  | 99 => ⟨S131072x1, .i32⟩
  | 100 => ⟨S131072x1, .i32⟩
  | 101 => ⟨S131072x3, .i32⟩
  | 102 => ⟨S_, .i32⟩
  | 103 => ⟨S131072, .i32⟩
  | 104 => ⟨S131072, .i1⟩
  | 105 => ⟨S131072, .i1⟩
  | 106 => ⟨S_, .i32⟩
  | 107 => ⟨S_, .i32⟩
  | 108 => ⟨S131072, .i32⟩
  | 109 => ⟨S131072, .i32⟩
  | 110 => ⟨S_, .i32⟩
  | 111 => ⟨S20000x3, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S20000x3, .i32⟩
  | 121 => ⟨S_, .i32⟩
  | 122 => ⟨S_, .i32⟩
  | 123 => ⟨S20000x4, .i32⟩
  | 124 => ⟨S1x131072x4, .f32⟩
  | 125 => ⟨S131072x4, .f32⟩
  | 126 => ⟨S131072x3, .f32⟩
  | 127 => ⟨S1x3, .f32⟩
  | _ => ⟨S8x131072x4, .f32⟩

abbrev hbmTy0_4 (i : Nat) : BufTy := match i % 128 with
  | 0 => ⟨S131072x3, .f32⟩
  | 1 => ⟨S131072x3, .f32⟩
  | 2 => ⟨S1x3, .f32⟩
  | 3 => ⟨S131072x3, .f32⟩
  | 4 => ⟨S131072x3, .f32⟩
  | 5 => ⟨S131072x3, .f32⟩
  | 6 => ⟨S131072x3, .i32⟩
  | 7 => ⟨S_, .i32⟩
  | 8 => ⟨S131072x3, .i32⟩
  | 9 => ⟨S131072x3, .i1⟩
  | 10 => ⟨S1x3, .i32⟩
  | 11 => ⟨S131072x3, .i32⟩
  | 12 => ⟨S131072x3, .i1⟩
  | 13 => ⟨S131072x3, .i1⟩
  | 14 => ⟨S_, .i1⟩
  | 15 => ⟨S131072, .i1⟩
  | 16 => ⟨S131072x1, .i32⟩
  | 17 => ⟨S131072, .i32⟩
  | 18 => ⟨S_, .i32⟩
  | 19 => ⟨S131072, .i32⟩
  | 20 => ⟨S131072, .i32⟩
  | 21 => ⟨S131072x1, .i32⟩
  | 22 => ⟨S131072, .i32⟩
  | 23 => ⟨S131072, .i32⟩
  | 24 => ⟨S_, .i32⟩
  | 25 => ⟨S131072, .i32⟩
  | 26 => ⟨S131072, .i32⟩
  | 27 => ⟨S131072x1, .i32⟩
  | 28 => ⟨S131072, .i32⟩
  | 29 => ⟨S131072, .i32⟩
  | 30 => ⟨S_, .i32⟩
  | 31 => ⟨S_, .i32⟩
  | 32 => ⟨S131072, .i32⟩
  | 33 => ⟨S131072, .i32⟩
  | 34 => ⟨S131072, .i32⟩
  | 35 => ⟨S131072, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x4, .f32⟩
  | 55 => ⟨S_, .i32⟩
  | 56 => ⟨S131072, .i32⟩
  | 57 => ⟨S131072, .i1⟩
  | 58 => ⟨S131071, .i32⟩
  | 59 => ⟨S131071, .i32⟩
  | 60 => ⟨S131071, .i1⟩
  | 61 => ⟨S131072, .i1⟩
  | 62 => ⟨S131072, .i1⟩
  | 63 => ⟨S131072, .i32⟩
  | 64 => ⟨S_, .i32⟩
  | 65 => ⟨S_, .i32⟩
  | 66 => ⟨S131072, .i32⟩
  | 67 => ⟨S_, .i32⟩
  | 68 => ⟨S131072, .i32⟩
  | 69 => ⟨S131072, .i32⟩
  | 70 => ⟨S131072, .i32⟩
  | 71 => ⟨S_, .i32⟩
  | 72 => ⟨S_, .i32⟩
  | 73 => ⟨S131072, .i32⟩
  | 74 => ⟨S131072, .i32⟩
  | 75 => ⟨S_, .i32⟩
  | 76 => ⟨S_, .i32⟩
  | 77 => ⟨S131072, .i32⟩
  | 78 => ⟨S131072, .i32⟩
  | 79 => ⟨S_, .i32⟩
  | 80 => ⟨S131072, .i32⟩
  | 81 => ⟨S131072, .i1⟩
  | 82 => ⟨S131072, .i1⟩
  | 83 => ⟨S_, .i32⟩
  | 84 => ⟨S131072, .i32⟩
  | 85 => ⟨S131072, .i1⟩
  | 86 => ⟨S131072, .i1⟩
  | 87 => ⟨S_, .i32⟩
  | 88 => ⟨S131072, .i32⟩
  | 89 => ⟨S131072, .i1⟩
  | 90 => ⟨S131072, .i1⟩
  | 91 => ⟨S_, .i32⟩
  | 92 => ⟨S_, .i32⟩
  | 93 => ⟨S131072, .i32⟩
  | 94 => ⟨S131072, .i32⟩
  | 95 => ⟨S_, .i32⟩
  | 96 => ⟨S_, .i32⟩
  | 97 => ⟨S131072, .i32⟩
  | 98 => ⟨S131072, .i32⟩
  | 99 => ⟨S_, .f32⟩
  | 100 => ⟨S20000x5x4, .f32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S131072x1, .i32⟩
  | 116 => ⟨S131072x1, .i32⟩
  | 117 => ⟨S131072x2, .i32⟩
  | 118 => ⟨S20000x5x4, .f32⟩
  | 119 => ⟨S_, .i32⟩
  | 120 => ⟨S20000, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S8x131072x4, .f32⟩

abbrev hbmTy0_5 (i : Nat) : BufTy := match i % 128 with
  | 0 => ⟨S131072, .i32⟩
  | 1 => ⟨S131072x1, .i32⟩
  | 2 => ⟨S20000, .i32⟩
  | 3 => ⟨S_, .i32⟩
  | 4 => ⟨S_, .i32⟩
  | 5 => ⟨S131072, .i32⟩
  | 6 => ⟨S131072, .i32⟩
  | 7 => ⟨S131072, .i32⟩
  | 8 => ⟨S_, .i32⟩
  | 9 => ⟨S131072, .i32⟩
  | 10 => ⟨S131072, .i1⟩
  | 11 => ⟨S131072, .i32⟩
  | 12 => ⟨S131072, .i32⟩
  | 13 => ⟨S_, .i32⟩
  | 14 => ⟨S131072, .i32⟩
  | 15 => ⟨S131072, .i1⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S_, .i32⟩
  | 23 => ⟨S131072, .i32⟩
  | 24 => ⟨S131072, .i32⟩
  | 25 => ⟨S131072, .i32⟩
  | 26 => ⟨S_, .i32⟩
  | 27 => ⟨S131072, .i32⟩
  | 28 => ⟨S131072, .i1⟩
  | 29 => ⟨S131072, .i32⟩
  | 30 => ⟨S131072, .i32⟩
  | 31 => ⟨S_, .i32⟩
  | 32 => ⟨S131072, .i32⟩
  | 33 => ⟨S131072, .i1⟩
  | 34 => ⟨S131072, .i1⟩
  | 35 => ⟨S_, .i32⟩
  | 36 => ⟨S131072, .i32⟩
  | 37 => ⟨S131072, .i32⟩
  | 38 => ⟨S131072, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i1⟩
  | 53 => ⟨S_, .i32⟩
  | 54 => ⟨S_, .i1⟩
  | 55 => ⟨S131072, .i1⟩
  | 56 => ⟨S131072, .i1⟩
  | 57 => ⟨S131072, .i1⟩
  | 58 => ⟨S131072, .i32⟩
  | 59 => ⟨S131072, .i32⟩
  | 60 => ⟨S131072, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i1⟩
  | 75 => ⟨S_, .i32⟩
  | 76 => ⟨S_, .i1⟩
  | 77 => ⟨S131072, .i1⟩
  | 78 => ⟨S131072, .i1⟩
  | 79 => ⟨S131072, .i1⟩
  | 80 => ⟨S131072, .i32⟩
  | 81 => ⟨S131072, .i32⟩
  | 82 => ⟨S131072, .i32⟩
  | 83 => ⟨S131072x1, .i32⟩
  | 84 => ⟨S131072x1, .i32⟩
  | 85 => ⟨S131072x1, .i32⟩
  | 86 => ⟨S131072x3, .i32⟩
  | 87 => ⟨S_, .i32⟩
  | 88 => ⟨S131072, .i32⟩
  | 89 => ⟨S131072, .i1⟩
  | 90 => ⟨S131072, .i1⟩
  | 91 => ⟨S_, .i32⟩
  | 92 => ⟨S_, .i32⟩
  | 93 => ⟨S131072, .i32⟩
  | 94 => ⟨S131072, .i32⟩
  | 95 => ⟨S_, .i32⟩
  | 96 => ⟨S20000x3, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S20000x3, .i32⟩
  | 106 => ⟨S_, .i32⟩
  | 107 => ⟨S_, .i32⟩
  | 108 => ⟨S20000x4, .i32⟩
  | 109 => ⟨S1x131072x4, .f32⟩
  | 110 => ⟨S131072x4, .f32⟩
  | 111 => ⟨S131072x3, .f32⟩
  | 112 => ⟨S1x3, .f32⟩
  | 113 => ⟨S131072x3, .f32⟩
  | 114 => ⟨S131072x3, .f32⟩
  | 115 => ⟨S1x3, .f32⟩
  | 116 => ⟨S131072x3, .f32⟩
  | 117 => ⟨S131072x3, .f32⟩
  | 118 => ⟨S131072x3, .f32⟩
  | 119 => ⟨S131072x3, .i32⟩
  | 120 => ⟨S_, .i32⟩
  | 121 => ⟨S131072x3, .i32⟩
  | 122 => ⟨S131072x3, .i1⟩
  | 123 => ⟨S1x3, .i32⟩
  | 124 => ⟨S131072x3, .i32⟩
  | 125 => ⟨S131072x3, .i1⟩
  | 126 => ⟨S131072x3, .i1⟩
  | 127 => ⟨S_, .i1⟩
  | _ => ⟨S8x131072x4, .f32⟩

abbrev hbmTy0_6 (i : Nat) : BufTy := match i % 128 with
  | 0 => ⟨S131072, .i1⟩
  | 1 => ⟨S131072x1, .i32⟩
  | 2 => ⟨S131072, .i32⟩
  | 3 => ⟨S_, .i32⟩
  | 4 => ⟨S131072, .i32⟩
  | 5 => ⟨S131072, .i32⟩
  | 6 => ⟨S131072x1, .i32⟩
  | 7 => ⟨S131072, .i32⟩
  | 8 => ⟨S131072, .i32⟩
  | 9 => ⟨S_, .i32⟩
  | 10 => ⟨S131072, .i32⟩
  | 11 => ⟨S131072, .i32⟩
  | 12 => ⟨S131072x1, .i32⟩
  | 13 => ⟨S131072, .i32⟩
  | 14 => ⟨S131072, .i32⟩
  | 15 => ⟨S_, .i32⟩
  | 16 => ⟨S_, .i32⟩
  | 17 => ⟨S131072, .i32⟩
  | 18 => ⟨S131072, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x4, .f32⟩
  | 40 => ⟨S_, .i32⟩
  | 41 => ⟨S131072, .i32⟩
  | 42 => ⟨S131072, .i1⟩
  | 43 => ⟨S131071, .i32⟩
  | 44 => ⟨S131071, .i32⟩
  | 45 => ⟨S131071, .i1⟩
  | 46 => ⟨S131072, .i1⟩
  | 47 => ⟨S131072, .i1⟩
  | 48 => ⟨S131072, .i32⟩
  | 49 => ⟨S_, .i32⟩
  | 50 => ⟨S_, .i32⟩
  | 51 => ⟨S131072, .i32⟩
  | 52 => ⟨S_, .i32⟩
  | 53 => ⟨S131072, .i32⟩
  | 54 => ⟨S131072, .i32⟩
  | 55 => ⟨S131072, .i32⟩
  | 56 => ⟨S_, .i32⟩
  | 57 => ⟨S_, .i32⟩
  | 58 => ⟨S131072, .i32⟩
  | 59 => ⟨S131072, .i32⟩
  | 60 => ⟨S_, .i32⟩
  | 61 => ⟨S_, .i32⟩
  | 62 => ⟨S131072, .i32⟩
  | 63 => ⟨S131072, .i32⟩
  | 64 => ⟨S_, .i32⟩
  | 65 => ⟨S131072, .i32⟩
  | 66 => ⟨S131072, .i1⟩
  | 67 => ⟨S131072, .i1⟩
  | 68 => ⟨S_, .i32⟩
  | 69 => ⟨S131072, .i32⟩
  | 70 => ⟨S131072, .i1⟩
  | 71 => ⟨S131072, .i1⟩
  | 72 => ⟨S_, .i32⟩
  | 73 => ⟨S131072, .i32⟩
  | 74 => ⟨S131072, .i1⟩
  | 75 => ⟨S131072, .i1⟩
  | 76 => ⟨S_, .i32⟩
  | 77 => ⟨S_, .i32⟩
  | 78 => ⟨S131072, .i32⟩
  | 79 => ⟨S131072, .i32⟩
  | 80 => ⟨S_, .i32⟩
  | 81 => ⟨S_, .i32⟩
  | 82 => ⟨S131072, .i32⟩
  | 83 => ⟨S131072, .i32⟩
  | 84 => ⟨S_, .f32⟩
  | 85 => ⟨S20000x5x4, .f32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x1, .i32⟩
  | 102 => ⟨S131072x2, .i32⟩
  | 103 => ⟨S20000x5x4, .f32⟩
  | 104 => ⟨S_, .i32⟩
  | 105 => ⟨S20000, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S20000, .i32⟩
  | 116 => ⟨S_, .i32⟩
  | 117 => ⟨S_, .i32⟩
  | 118 => ⟨S131072, .i32⟩
  | 119 => ⟨S131072, .i32⟩
  | 120 => ⟨S131072, .i32⟩
  | 121 => ⟨S_, .i32⟩
  | 122 => ⟨S131072, .i32⟩
  | 123 => ⟨S131072, .i1⟩
  | 124 => ⟨S131072, .i32⟩
  | 125 => ⟨S131072, .i32⟩
  | 126 => ⟨S_, .i32⟩
  | 127 => ⟨S131072, .i32⟩
  | _ => ⟨S8x131072x4, .f32⟩

abbrev hbmTy0_7 (i : Nat) : BufTy := match i % 128 with
  | 0 => ⟨S131072, .i1⟩
  | 1 => ⟨S131072, .i1⟩
  | 2 => ⟨S_, .i32⟩
  | 3 => ⟨S131072, .i32⟩
  | 4 => ⟨S131072, .i32⟩
  | 5 => ⟨S131072, .i32⟩
  | 6 => ⟨S_, .i32⟩
  | 7 => ⟨S_, .i32⟩
  | 8 => ⟨S131072, .i32⟩
  | 9 => ⟨S131072, .i32⟩
  | 10 => ⟨S131072, .i32⟩
  | 11 => ⟨S_, .i32⟩
  | 12 => ⟨S131072, .i32⟩
  | 13 => ⟨S131072, .i1⟩
  | 14 => ⟨S131072, .i32⟩
  | 15 => ⟨S131072, .i32⟩
  | 16 => ⟨S_, .i32⟩
  | 17 => ⟨S131072, .i32⟩
  | 18 => ⟨S131072, .i1⟩
  | 19 => ⟨S131072, .i1⟩
  | 20 => ⟨S_, .i32⟩
  | 21 => ⟨S131072, .i32⟩
  | 22 => ⟨S131072, .i32⟩
  | 23 => ⟨S131072, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i1⟩
  | 38 => ⟨S_, .i32⟩
  | 39 => ⟨S_, .i1⟩
  | 40 => ⟨S131072, .i1⟩
  | 41 => ⟨S131072, .i1⟩
  | 42 => ⟨S131072, .i1⟩
  | 43 => ⟨S131072, .i32⟩
  | 44 => ⟨S131072, .i32⟩
  | 45 => ⟨S131072, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i1⟩
  | 60 => ⟨S_, .i32⟩
  | 61 => ⟨S_, .i1⟩
  | 62 => ⟨S131072, .i1⟩
  | 63 => ⟨S131072, .i1⟩
  | 64 => ⟨S131072, .i1⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x1, .i32⟩
  | 71 => ⟨S131072x3, .i32⟩
  | 72 => ⟨S_, .i32⟩
  | 73 => ⟨S131072, .i32⟩
  | 74 => ⟨S131072, .i1⟩
  | 75 => ⟨S131072, .i1⟩
  | 76 => ⟨S_, .i32⟩
  | 77 => ⟨S_, .i32⟩
  | 78 => ⟨S131072, .i32⟩
  | 79 => ⟨S131072, .i32⟩
  | 80 => ⟨S_, .i32⟩
  | 81 => ⟨S20000x3, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S20000x3, .i32⟩
  | 91 => ⟨S_, .i32⟩
  | 92 => ⟨S_, .i32⟩
  | 93 => ⟨S20000x4, .i32⟩
  | 94 => ⟨S1x131072x4, .f32⟩
  | 95 => ⟨S131072x4, .f32⟩
  | 96 => ⟨S131072x3, .f32⟩
  | 97 => ⟨S1x3, .f32⟩
  | 98 => ⟨S131072x3, .f32⟩
  | 99 => ⟨S131072x3, .f32⟩
  | 100 => ⟨S1x3, .f32⟩
  | 101 => ⟨S131072x3, .f32⟩
  | 102 => ⟨S131072x3, .f32⟩
  | 103 => ⟨S131072x3, .f32⟩
  | 104 => ⟨S131072x3, .i32⟩
  | 105 => ⟨S_, .i32⟩
  | 106 => ⟨S131072x3, .i32⟩
  | 107 => ⟨S131072x3, .i1⟩
  | 108 => ⟨S1x3, .i32⟩
  | 109 => ⟨S131072x3, .i32⟩
  | 110 => ⟨S131072x3, .i1⟩
  | 111 => ⟨S131072x3, .i1⟩
  | 112 => ⟨S_, .i1⟩
  | 113 => ⟨S131072, .i1⟩
  | 114 => ⟨S131072x1, .i32⟩
  | 115 => ⟨S131072, .i32⟩
  | 116 => ⟨S_, .i32⟩
  | 117 => ⟨S131072, .i32⟩
  | 118 => ⟨S131072, .i32⟩
  | 119 => ⟨S131072x1, .i32⟩
  | 120 => ⟨S131072, .i32⟩
  | 121 => ⟨S131072, .i32⟩
  | 122 => ⟨S_, .i32⟩
  | 123 => ⟨S131072, .i32⟩
  | 124 => ⟨S131072, .i32⟩
  | 125 => ⟨S131072x1, .i32⟩
  | 126 => ⟨S131072, .i32⟩
  | 127 => ⟨S131072, .i32⟩
  | _ => ⟨S8x131072x4, .f32⟩

abbrev hbmTy0_8 (i : Nat) : BufTy := match i % 128 with
  | 0 => ⟨S_, .i32⟩
  | 1 => ⟨S_, .i32⟩
  | 2 => ⟨S131072, .i32⟩
  | 3 => ⟨S131072, .i32⟩
  | 4 => ⟨S131072, .i32⟩
  | 5 => ⟨S131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072, .i32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S131072x1, .i32⟩
  | 24 => ⟨S131072x4, .f32⟩
  | 25 => ⟨S_, .i32⟩
  | 26 => ⟨S131072, .i32⟩
  | 27 => ⟨S131072, .i1⟩
  | 28 => ⟨S131071, .i32⟩
  | 29 => ⟨S131071, .i32⟩
  | 30 => ⟨S131071, .i1⟩
  | 31 => ⟨S131072, .i1⟩
  | 32 => ⟨S131072, .i1⟩
  | 33 => ⟨S131072, .i32⟩
  | 34 => ⟨S_, .i32⟩
  | 35 => ⟨S_, .i32⟩
  | 36 => ⟨S131072, .i32⟩
  | 37 => ⟨S_, .i32⟩
  | 38 => ⟨S131072, .i32⟩
  | 39 => ⟨S131072, .i32⟩
  | 40 => ⟨S131072, .i32⟩
  | 41 => ⟨S_, .i32⟩
  | 42 => ⟨S_, .i32⟩
  | 43 => ⟨S131072, .i32⟩
  | 44 => ⟨S131072, .i32⟩
  | 45 => ⟨S_, .i32⟩
  | 46 => ⟨S_, .i32⟩
  | 47 => ⟨S131072, .i32⟩
  | 48 => ⟨S131072, .i32⟩
  | 49 => ⟨S_, .i32⟩
  | 50 => ⟨S131072, .i32⟩
  | 51 => ⟨S131072, .i1⟩
  | 52 => ⟨S131072, .i1⟩
  | 53 => ⟨S_, .i32⟩
  | 54 => ⟨S131072, .i32⟩
  | 55 => ⟨S131072, .i1⟩
  | 56 => ⟨S131072, .i1⟩
  | 57 => ⟨S_, .i32⟩
  | 58 => ⟨S131072, .i32⟩
  | 59 => ⟨S131072, .i1⟩
  | 60 => ⟨S131072, .i1⟩
  | 61 => ⟨S_, .i32⟩
  | 62 => ⟨S_, .i32⟩
  | 63 => ⟨S131072, .i32⟩
  | 64 => ⟨S131072, .i32⟩
  | 65 => ⟨S_, .i32⟩
  | 66 => ⟨S_, .i32⟩
  | 67 => ⟨S131072, .i32⟩
  | 68 => ⟨S131072, .i32⟩
  | 69 => ⟨S_, .f32⟩
  | 70 => ⟨S20000x5x4, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S131072x1, .i32⟩
  | 87 => ⟨S131072x2, .i32⟩
  | 88 => ⟨S20000x5x4, .f32⟩
  | 89 => ⟨S_, .i32⟩
  | 90 => ⟨S20000, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S131072x1, .i32⟩
  | 100 => ⟨S20000, .i32⟩
  | 101 => ⟨S_, .i32⟩
  | 102 => ⟨S_, .i32⟩
  | 103 => ⟨S131072, .i32⟩
  | 104 => ⟨S131072, .i32⟩
  | 105 => ⟨S131072, .i32⟩
  | 106 => ⟨S_, .i32⟩
  | 107 => ⟨S131072, .i32⟩
  | 108 => ⟨S131072, .i1⟩
  | 109 => ⟨S131072, .i32⟩
  | 110 => ⟨S131072, .i32⟩
  | 111 => ⟨S_, .i32⟩
  | 112 => ⟨S131072, .i32⟩
  | 113 => ⟨S131072, .i1⟩
  | 114 => ⟨S131072, .i1⟩
  | 115 => ⟨S_, .i32⟩
  | 116 => ⟨S131072, .i32⟩
  | 117 => ⟨S131072, .i32⟩
  | 118 => ⟨S131072, .i32⟩
  | 119 => ⟨S_, .i32⟩
  | 120 => ⟨S_, .i32⟩
  | 121 => ⟨S131072, .i32⟩
  | 122 => ⟨S131072, .i32⟩
  | 123 => ⟨S131072, .i32⟩
  | 124 => ⟨S_, .i32⟩
  | 125 => ⟨S131072, .i32⟩
  | 126 => ⟨S131072, .i1⟩
  | 127 => ⟨S131072, .i32⟩
  | _ => ⟨S8x131072x4, .f32⟩

abbrev hbmTy0_9 (i : Nat) : BufTy := match i % 128 with
  | 0 => ⟨S131072, .i32⟩
  | 1 => ⟨S_, .i32⟩
  | 2 => ⟨S131072, .i32⟩
  | 3 => ⟨S131072, .i1⟩
  | 4 => ⟨S131072, .i1⟩
  | 5 => ⟨S_, .i32⟩
  | 6 => ⟨S131072, .i32⟩
  | 7 => ⟨S131072, .i32⟩
  | 8 => ⟨S131072, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S131072, .i32⟩
  | 16 => ⟨S131072, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i1⟩
  | 23 => ⟨S_, .i32⟩
  | 24 => ⟨S_, .i1⟩
  | 25 => ⟨S131072, .i1⟩
  | 26 => ⟨S131072, .i1⟩
  | 27 => ⟨S131072, .i1⟩
  | 28 => ⟨S131072, .i32⟩
  | 29 => ⟨S131072, .i32⟩
  | 30 => ⟨S131072, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i1⟩
  | 45 => ⟨S_, .i32⟩
  | 46 => ⟨S_, .i1⟩
  | 47 => ⟨S131072, .i1⟩
  | 48 => ⟨S131072, .i1⟩
  | 49 => ⟨S131072, .i1⟩
  | 50 => ⟨S131072, .i32⟩
  | 51 => ⟨S131072, .i32⟩
  | 52 => ⟨S131072, .i32⟩
  | 53 => ⟨S131072x1, .i32⟩
  | 54 => ⟨S131072x1, .i32⟩
  | 55 => ⟨S131072x1, .i32⟩
  | 56 => ⟨S131072x3, .i32⟩
  | 57 => ⟨S_, .i32⟩
  | 58 => ⟨S131072, .i32⟩
  | 59 => ⟨S131072, .i1⟩
  | 60 => ⟨S131072, .i1⟩
  | 61 => ⟨S_, .i32⟩
  | 62 => ⟨S_, .i32⟩
  | 63 => ⟨S131072, .i32⟩
  | 64 => ⟨S131072, .i32⟩
  | 65 => ⟨S_, .i32⟩
  | 66 => ⟨S20000x3, .i32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S20000x3, .i32⟩
  | 76 => ⟨S_, .i32⟩
  | 77 => ⟨S_, .i32⟩
  | 78 => ⟨S20000x4, .i32⟩
  | 79 => ⟨S1x131072x4, .f32⟩
  | 80 => ⟨S131072x4, .f32⟩
  | 81 => ⟨S131072x3, .f32⟩
  | 82 => ⟨S1x3, .f32⟩
  | 83 => ⟨S131072x3, .f32⟩
  | 84 => ⟨S131072x3, .f32⟩
  | 85 => ⟨S1x3, .f32⟩
  | 86 => ⟨S131072x3, .f32⟩
  | 87 => ⟨S131072x3, .f32⟩
  | 88 => ⟨S131072x3, .f32⟩
  | 89 => ⟨S131072x3, .i32⟩
  | 90 => ⟨S_, .i32⟩
  | 91 => ⟨S131072x3, .i32⟩
  | 92 => ⟨S131072x3, .i1⟩
  | 93 => ⟨S1x3, .i32⟩
  | 94 => ⟨S131072x3, .i32⟩
  | 95 => ⟨S131072x3, .i1⟩
  | 96 => ⟨S131072x3, .i1⟩
  | 97 => ⟨S_, .i1⟩
  | 98 => ⟨S131072, .i1⟩
  | 99 => ⟨S131072x1, .i32⟩
  | 100 => ⟨S131072, .i32⟩
  | 101 => ⟨S_, .i32⟩
  | 102 => ⟨S131072, .i32⟩
  | 103 => ⟨S131072, .i32⟩
  | 104 => ⟨S131072x1, .i32⟩
  | 105 => ⟨S131072, .i32⟩
  | 106 => ⟨S131072, .i32⟩
  | 107 => ⟨S_, .i32⟩
  | 108 => ⟨S131072, .i32⟩
  | 109 => ⟨S131072, .i32⟩
  | 110 => ⟨S131072x1, .i32⟩
  | 111 => ⟨S131072, .i32⟩
  | 112 => ⟨S131072, .i32⟩
  | 113 => ⟨S_, .i32⟩
  | 114 => ⟨S_, .i32⟩
  | 115 => ⟨S131072, .i32⟩
  | 116 => ⟨S131072, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S8x131072x4, .f32⟩

abbrev hbmTy0_10 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x4, .f32⟩
  | 10 => ⟨S_, .i32⟩
  | 11 => ⟨S131072, .i32⟩
  | 12 => ⟨S131072, .i1⟩
  | 13 => ⟨S131071, .i32⟩
  | 14 => ⟨S131071, .i32⟩
  | 15 => ⟨S131071, .i1⟩
  | 16 => ⟨S131072, .i1⟩
  | 17 => ⟨S131072, .i1⟩
  | 18 => ⟨S131072, .i32⟩
  | 19 => ⟨S_, .i32⟩
  | 20 => ⟨S_, .i32⟩
  | 21 => ⟨S131072, .i32⟩
  | 22 => ⟨S_, .i32⟩
  | 23 => ⟨S131072, .i32⟩
  | 24 => ⟨S131072, .i32⟩
  | 25 => ⟨S131072, .i32⟩
  | 26 => ⟨S_, .i32⟩
  | 27 => ⟨S_, .i32⟩
  | 28 => ⟨S131072, .i32⟩
  | 29 => ⟨S131072, .i32⟩
  | 30 => ⟨S_, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i1⟩
  | 37 => ⟨S131072, .i1⟩
  | 38 => ⟨S_, .i32⟩
  | 39 => ⟨S131072, .i32⟩
  | 40 => ⟨S131072, .i1⟩
  | 41 => ⟨S131072, .i1⟩
  | 42 => ⟨S_, .i32⟩
  | 43 => ⟨S131072, .i32⟩
  | 44 => ⟨S131072, .i1⟩
  | 45 => ⟨S131072, .i1⟩
  | 46 => ⟨S_, .i32⟩
  | 47 => ⟨S_, .i32⟩
  | 48 => ⟨S131072, .i32⟩
  | 49 => ⟨S131072, .i32⟩
  | 50 => ⟨S_, .i32⟩
  | 51 => ⟨S_, .i32⟩
  | 52 => ⟨S131072, .i32⟩
  | 53 => ⟨S131072, .i32⟩
  | 54 => ⟨S_, .f32⟩
  | 55 => ⟨S20000x5x4, .f32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072x1, .i32⟩
  | 72 => ⟨S131072x2, .i32⟩
  | 73 => ⟨S20000x5x4, .f32⟩
  | 74 => ⟨S_, .i32⟩
  | 75 => ⟨S20000, .i32⟩
  | 76 => ⟨S131072, .i32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S20000, .i32⟩
  | 86 => ⟨S_, .i32⟩
  | 87 => ⟨S_, .i32⟩
  | 88 => ⟨S131072, .i32⟩
  | 89 => ⟨S131072, .i32⟩
  | 90 => ⟨S131072, .i32⟩
  | 91 => ⟨S_, .i32⟩
  | 92 => ⟨S131072, .i32⟩
  | 93 => ⟨S131072, .i1⟩
  | 94 => ⟨S131072, .i32⟩
  | 95 => ⟨S131072, .i32⟩
  | 96 => ⟨S_, .i32⟩
  | 97 => ⟨S131072, .i32⟩
  | 98 => ⟨S131072, .i1⟩
  | 99 => ⟨S131072, .i1⟩
  | 100 => ⟨S_, .i32⟩
  | 101 => ⟨S131072, .i32⟩
  | 102 => ⟨S131072, .i32⟩
  | 103 => ⟨S131072, .i32⟩
  | 104 => ⟨S_, .i32⟩
  | 105 => ⟨S_, .i32⟩
  | 106 => ⟨S131072, .i32⟩
  | 107 => ⟨S131072, .i32⟩
  | 108 => ⟨S131072, .i32⟩
  | 109 => ⟨S_, .i32⟩
  | 110 => ⟨S131072, .i32⟩
  | 111 => ⟨S131072, .i1⟩
  | 112 => ⟨S131072, .i32⟩
  | 113 => ⟨S131072, .i32⟩
  | 114 => ⟨S_, .i32⟩
  | 115 => ⟨S131072, .i32⟩
  | 116 => ⟨S131072, .i1⟩
  | 117 => ⟨S131072, .i1⟩
  | 118 => ⟨S_, .i32⟩
  | 119 => ⟨S131072, .i32⟩
  | 120 => ⟨S131072, .i32⟩
  | 121 => ⟨S131072, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8x131072x4, .f32⟩

abbrev hbmTy0_11 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i1⟩
  | 8 => ⟨S_, .i32⟩
  | 9 => ⟨S_, .i1⟩
  | 10 => ⟨S131072, .i1⟩
  | 11 => ⟨S131072, .i1⟩
  | 12 => ⟨S131072, .i1⟩
  | 13 => ⟨S131072, .i32⟩
  | 14 => ⟨S131072, .i32⟩
  | 15 => ⟨S131072, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S131072, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i1⟩
  | 30 => ⟨S_, .i32⟩
  | 31 => ⟨S_, .i1⟩
  | 32 => ⟨S131072, .i1⟩
  | 33 => ⟨S131072, .i1⟩
  | 34 => ⟨S131072, .i1⟩
  | 35 => ⟨S131072, .i32⟩
  | 36 => ⟨S131072, .i32⟩
  | 37 => ⟨S131072, .i32⟩
  | 38 => ⟨S131072x1, .i32⟩
  | 39 => ⟨S131072x1, .i32⟩
  | 40 => ⟨S131072x1, .i32⟩
  | 41 => ⟨S131072x3, .i32⟩
  | 42 => ⟨S_, .i32⟩
  | 43 => ⟨S131072, .i32⟩
  | 44 => ⟨S131072, .i1⟩
  | 45 => ⟨S131072, .i1⟩
  | 46 => ⟨S_, .i32⟩
  | 47 => ⟨S_, .i32⟩
  | 48 => ⟨S131072, .i32⟩
  | 49 => ⟨S131072, .i32⟩
  | 50 => ⟨S_, .i32⟩
  | 51 => ⟨S20000x3, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S20000x3, .i32⟩
  | 61 => ⟨S_, .i32⟩
  | 62 => ⟨S_, .i32⟩
  | 63 => ⟨S20000x4, .i32⟩
  | 64 => ⟨S1x131072x4, .f32⟩
  | 65 => ⟨S131072x4, .f32⟩
  | 66 => ⟨S131072x3, .f32⟩
  | 67 => ⟨S1x3, .f32⟩
  | 68 => ⟨S131072x3, .f32⟩
  | 69 => ⟨S131072x3, .f32⟩
  | 70 => ⟨S1x3, .f32⟩
  | 71 => ⟨S131072x3, .f32⟩
  | 72 => ⟨S131072x3, .f32⟩
  | 73 => ⟨S131072x3, .f32⟩
  | 74 => ⟨S131072x3, .i32⟩
  | 75 => ⟨S_, .i32⟩
  | 76 => ⟨S131072x3, .i32⟩
  | 77 => ⟨S131072x3, .i1⟩
  | 78 => ⟨S1x3, .i32⟩
  | 79 => ⟨S131072x3, .i32⟩
  | 80 => ⟨S131072x3, .i1⟩
  | 81 => ⟨S131072x3, .i1⟩
  | 82 => ⟨S_, .i1⟩
  | 83 => ⟨S131072, .i1⟩
  | 84 => ⟨S131072x1, .i32⟩
  | 85 => ⟨S131072, .i32⟩
  | 86 => ⟨S_, .i32⟩
  | 87 => ⟨S131072, .i32⟩
  | 88 => ⟨S131072, .i32⟩
  | 89 => ⟨S131072x1, .i32⟩
  | 90 => ⟨S131072, .i32⟩
  | 91 => ⟨S131072, .i32⟩
  | 92 => ⟨S_, .i32⟩
  | 93 => ⟨S131072, .i32⟩
  | 94 => ⟨S131072, .i32⟩
  | 95 => ⟨S131072x1, .i32⟩
  | 96 => ⟨S131072, .i32⟩
  | 97 => ⟨S131072, .i32⟩
  | 98 => ⟨S_, .i32⟩
  | 99 => ⟨S_, .i32⟩
  | 100 => ⟨S131072, .i32⟩
  | 101 => ⟨S131072, .i32⟩
  | 102 => ⟨S131072, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S131072x1, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x4, .f32⟩
  | 123 => ⟨S_, .i32⟩
  | 124 => ⟨S131072, .i32⟩
  | 125 => ⟨S131072, .i1⟩
  | 126 => ⟨S131071, .i32⟩
  | 127 => ⟨S131071, .i32⟩
  | _ => ⟨S8x131072x4, .f32⟩

abbrev hbmTy0_12 (i : Nat) : BufTy := match i % 128 with
  | 0 => ⟨S131071, .i1⟩
  | 1 => ⟨S131072, .i1⟩
  | 2 => ⟨S131072, .i1⟩
  | 3 => ⟨S131072, .i32⟩
  | 4 => ⟨S_, .i32⟩
  | 5 => ⟨S_, .i32⟩
  | 6 => ⟨S131072, .i32⟩
  | 7 => ⟨S_, .i32⟩
  | 8 => ⟨S131072, .i32⟩
  | 9 => ⟨S131072, .i32⟩
  | 10 => ⟨S131072, .i32⟩
  | 11 => ⟨S_, .i32⟩
  | 12 => ⟨S_, .i32⟩
  | 13 => ⟨S131072, .i32⟩
  | 14 => ⟨S131072, .i32⟩
  | 15 => ⟨S_, .i32⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S131072, .i1⟩
  | 23 => ⟨S_, .i32⟩
  | 24 => ⟨S131072, .i32⟩
  | 25 => ⟨S131072, .i1⟩
  | 26 => ⟨S131072, .i1⟩
  | 27 => ⟨S_, .i32⟩
  | 28 => ⟨S131072, .i32⟩
  | 29 => ⟨S131072, .i1⟩
  | 30 => ⟨S131072, .i1⟩
  | 31 => ⟨S_, .i32⟩
  | 32 => ⟨S_, .i32⟩
  | 33 => ⟨S131072, .i32⟩
  | 34 => ⟨S131072, .i32⟩
  | 35 => ⟨S_, .i32⟩
  | 36 => ⟨S_, .i32⟩
  | 37 => ⟨S131072, .i32⟩
  | 38 => ⟨S131072, .i32⟩
  | 39 => ⟨S_, .f32⟩
  | 40 => ⟨S20000x5x4, .f32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S131072x1, .i32⟩
  | 56 => ⟨S131072x1, .i32⟩
  | 57 => ⟨S131072x2, .i32⟩
  | 58 => ⟨S20000x5x4, .f32⟩
  | 59 => ⟨S_, .i32⟩
  | 60 => ⟨S20000, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S20000, .i32⟩
  | 71 => ⟨S_, .i32⟩
  | 72 => ⟨S_, .i32⟩
  | 73 => ⟨S131072, .i32⟩
  | 74 => ⟨S131072, .i32⟩
  | 75 => ⟨S131072, .i32⟩
  | 76 => ⟨S_, .i32⟩
  | 77 => ⟨S131072, .i32⟩
  | 78 => ⟨S131072, .i1⟩
  | 79 => ⟨S131072, .i32⟩
  | 80 => ⟨S131072, .i32⟩
  | 81 => ⟨S_, .i32⟩
  | 82 => ⟨S131072, .i32⟩
  | 83 => ⟨S131072, .i1⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S_, .i32⟩
  | 91 => ⟨S131072, .i32⟩
  | 92 => ⟨S131072, .i32⟩
  | 93 => ⟨S131072, .i32⟩
  | 94 => ⟨S_, .i32⟩
  | 95 => ⟨S131072, .i32⟩
  | 96 => ⟨S131072, .i1⟩
  | 97 => ⟨S131072, .i32⟩
  | 98 => ⟨S131072, .i32⟩
  | 99 => ⟨S_, .i32⟩
  | 100 => ⟨S131072, .i32⟩
  | 101 => ⟨S131072, .i1⟩
  | 102 => ⟨S131072, .i1⟩
  | 103 => ⟨S_, .i32⟩
  | 104 => ⟨S131072, .i32⟩
  | 105 => ⟨S131072, .i32⟩
  | 106 => ⟨S131072, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i1⟩
  | 121 => ⟨S_, .i32⟩
  | 122 => ⟨S_, .i1⟩
  | 123 => ⟨S131072, .i1⟩
  | 124 => ⟨S131072, .i1⟩
  | 125 => ⟨S131072, .i1⟩
  | 126 => ⟨S131072, .i32⟩
  | 127 => ⟨S131072, .i32⟩
  | _ => ⟨S8x131072x4, .f32⟩

abbrev hbmTy0_13 (i : Nat) : BufTy := match i % 128 with
  | 0 => ⟨S131072, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S131072, .i32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i1⟩
  | 15 => ⟨S_, .i32⟩
  | 16 => ⟨S_, .i1⟩
  | 17 => ⟨S131072, .i1⟩
  | 18 => ⟨S131072, .i1⟩
  | 19 => ⟨S131072, .i1⟩
  | 20 => ⟨S131072, .i32⟩
  | 21 => ⟨S131072, .i32⟩
  | 22 => ⟨S131072, .i32⟩
  | 23 => ⟨S131072x1, .i32⟩
  | 24 => ⟨S131072x1, .i32⟩
  | 25 => ⟨S131072x1, .i32⟩
  | 26 => ⟨S131072x3, .i32⟩
  | 27 => ⟨S_, .i32⟩
  | 28 => ⟨S131072, .i32⟩
  | 29 => ⟨S131072, .i1⟩
  | 30 => ⟨S131072, .i1⟩
  | 31 => ⟨S_, .i32⟩
  | 32 => ⟨S_, .i32⟩
  | 33 => ⟨S131072, .i32⟩
  | 34 => ⟨S131072, .i32⟩
  | 35 => ⟨S_, .i32⟩
  | 36 => ⟨S20000x3, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S20000x3, .i32⟩
  | 46 => ⟨S_, .i32⟩
  | 47 => ⟨S_, .i32⟩
  | 48 => ⟨S20000x4, .i32⟩
  | 49 => ⟨S1x131072x4, .f32⟩
  | 50 => ⟨S131072x4, .f32⟩
  | 51 => ⟨S131072x3, .f32⟩
  | 52 => ⟨S1x3, .f32⟩
  | 53 => ⟨S131072x3, .f32⟩
  | 54 => ⟨S131072x3, .f32⟩
  | 55 => ⟨S1x3, .f32⟩
  | 56 => ⟨S131072x3, .f32⟩
  | 57 => ⟨S131072x3, .f32⟩
  | 58 => ⟨S131072x3, .f32⟩
  | 59 => ⟨S131072x3, .i32⟩
  | 60 => ⟨S_, .i32⟩
  | 61 => ⟨S131072x3, .i32⟩
  | 62 => ⟨S131072x3, .i1⟩
  | 63 => ⟨S1x3, .i32⟩
  | 64 => ⟨S131072x3, .i32⟩
  | 65 => ⟨S131072x3, .i1⟩
  | 66 => ⟨S131072x3, .i1⟩
  | 67 => ⟨S_, .i1⟩
  | 68 => ⟨S131072, .i1⟩
  | 69 => ⟨S131072x1, .i32⟩
  | 70 => ⟨S131072, .i32⟩
  | 71 => ⟨S_, .i32⟩
  | 72 => ⟨S131072, .i32⟩
  | 73 => ⟨S131072, .i32⟩
  | 74 => ⟨S131072x1, .i32⟩
  | 75 => ⟨S131072, .i32⟩
  | 76 => ⟨S131072, .i32⟩
  | 77 => ⟨S_, .i32⟩
  | 78 => ⟨S131072, .i32⟩
  | 79 => ⟨S131072, .i32⟩
  | 80 => ⟨S131072x1, .i32⟩
  | 81 => ⟨S131072, .i32⟩
  | 82 => ⟨S131072, .i32⟩
  | 83 => ⟨S_, .i32⟩
  | 84 => ⟨S_, .i32⟩
  | 85 => ⟨S131072, .i32⟩
  | 86 => ⟨S131072, .i32⟩
  | 87 => ⟨S131072, .i32⟩
  | 88 => ⟨S131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S131072x4, .f32⟩
  | 108 => ⟨S_, .i32⟩
  | 109 => ⟨S131072, .i32⟩
  | 110 => ⟨S131072, .i1⟩
  | 111 => ⟨S131071, .i32⟩
  | 112 => ⟨S131071, .i32⟩
  | 113 => ⟨S131071, .i1⟩
  | 114 => ⟨S131072, .i1⟩
  | 115 => ⟨S131072, .i1⟩
  | 116 => ⟨S131072, .i32⟩
  | 117 => ⟨S_, .i32⟩
  | 118 => ⟨S_, .i32⟩
  | 119 => ⟨S131072, .i32⟩
  | 120 => ⟨S_, .i32⟩
  | 121 => ⟨S131072, .i32⟩
  | 122 => ⟨S131072, .i32⟩
  | 123 => ⟨S131072, .i32⟩
  | 124 => ⟨S_, .i32⟩
  | 125 => ⟨S_, .i32⟩
  | 126 => ⟨S131072, .i32⟩
  | 127 => ⟨S131072, .i32⟩
  | _ => ⟨S8x131072x4, .f32⟩

abbrev hbmTy0_14 (i : Nat) : BufTy := match i % 128 with
  | 0 => ⟨S_, .i32⟩
  | 1 => ⟨S_, .i32⟩
  | 2 => ⟨S131072, .i32⟩
  | 3 => ⟨S131072, .i32⟩
  | 4 => ⟨S_, .i32⟩
  | 5 => ⟨S131072, .i32⟩
  | 6 => ⟨S131072, .i1⟩
  | 7 => ⟨S131072, .i1⟩
  | 8 => ⟨S_, .i32⟩
  | 9 => ⟨S131072, .i32⟩
  | 10 => ⟨S131072, .i1⟩
  | 11 => ⟨S131072, .i1⟩
  | 12 => ⟨S_, .i32⟩
  | 13 => ⟨S131072, .i32⟩
  | 14 => ⟨S131072, .i1⟩
  | 15 => ⟨S131072, .i1⟩
  | 16 => ⟨S_, .i32⟩
  | 17 => ⟨S_, .i32⟩
  | 18 => ⟨S131072, .i32⟩
  | 19 => ⟨S131072, .i32⟩
  | 20 => ⟨S_, .i32⟩
  | 21 => ⟨S_, .i32⟩
  | 22 => ⟨S131072, .i32⟩
  | 23 => ⟨S131072, .i32⟩
  | 24 => ⟨S_, .f32⟩
  | 25 => ⟨S20000x5x4, .f32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S131072x1, .i32⟩
  | 41 => ⟨S131072x1, .i32⟩
  | 42 => ⟨S131072x2, .i32⟩
  | 43 => ⟨S20000x5x4, .f32⟩
  | 44 => ⟨S_, .i32⟩
  | 45 => ⟨S20000, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S20000, .i32⟩
  | 56 => ⟨S_, .i32⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S131072, .i32⟩
  | 65 => ⟨S131072, .i32⟩
  | 66 => ⟨S_, .i32⟩
  | 67 => ⟨S131072, .i32⟩
  | 68 => ⟨S131072, .i1⟩
  | 69 => ⟨S131072, .i1⟩
  | 70 => ⟨S_, .i32⟩
  | 71 => ⟨S131072, .i32⟩
  | 72 => ⟨S131072, .i32⟩
  | 73 => ⟨S131072, .i32⟩
  | 74 => ⟨S_, .i32⟩
  | 75 => ⟨S_, .i32⟩
  | 76 => ⟨S131072, .i32⟩
  | 77 => ⟨S131072, .i32⟩
  | 78 => ⟨S131072, .i32⟩
  | 79 => ⟨S_, .i32⟩
  | 80 => ⟨S131072, .i32⟩
  | 81 => ⟨S131072, .i1⟩
  | 82 => ⟨S131072, .i32⟩
  | 83 => ⟨S131072, .i32⟩
  | 84 => ⟨S_, .i32⟩
  | 85 => ⟨S131072, .i32⟩
  | 86 => ⟨S131072, .i1⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S131072, .i32⟩
  | 99 => ⟨S131072, .i32⟩
  | 100 => ⟨S_, .i32⟩
  | 101 => ⟨S131072, .i32⟩
  | 102 => ⟨S131072, .i1⟩
  | 103 => ⟨S_, .i32⟩
  | 104 => ⟨S131072, .i32⟩
  | 105 => ⟨S131072, .i1⟩
  | 106 => ⟨S_, .i32⟩
  | 107 => ⟨S_, .i1⟩
  | 108 => ⟨S131072, .i1⟩
  | 109 => ⟨S131072, .i1⟩
  | 110 => ⟨S131072, .i1⟩
  | 111 => ⟨S131072, .i32⟩
  | 112 => ⟨S131072, .i32⟩
  | 113 => ⟨S131072, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i1⟩
  | _ => ⟨S8x131072x4, .f32⟩

abbrev hbmTy0_15 (i : Nat) : BufTy := match i % 128 with
  | 0 => ⟨S_, .i32⟩
  | 1 => ⟨S_, .i1⟩
  | 2 => ⟨S131072, .i1⟩
  | 3 => ⟨S131072, .i1⟩
  | 4 => ⟨S131072, .i1⟩
  | 5 => ⟨S131072, .i32⟩
  | 6 => ⟨S131072, .i32⟩
  | 7 => ⟨S131072, .i32⟩
  | 8 => ⟨S131072x1, .i32⟩
  | 9 => ⟨S131072x1, .i32⟩
  | 10 => ⟨S131072x1, .i32⟩
  | 11 => ⟨S131072x3, .i32⟩
  | 12 => ⟨S_, .i32⟩
  | 13 => ⟨S131072, .i32⟩
  | 14 => ⟨S131072, .i1⟩
  | 15 => ⟨S131072, .i1⟩
  | 16 => ⟨S_, .i32⟩
  | 17 => ⟨S_, .i32⟩
  | 18 => ⟨S131072, .i32⟩
  | 19 => ⟨S131072, .i32⟩
  | 20 => ⟨S_, .i32⟩
  | 21 => ⟨S20000x3, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S20000x3, .i32⟩
  | 31 => ⟨S_, .i32⟩
  | 32 => ⟨S_, .i32⟩
  | 33 => ⟨S20000x4, .i32⟩
  | 34 => ⟨S160000x5x4, .f32⟩
  | 35 => ⟨S160000x4, .i32⟩
  | 36 => ⟨S160000, .i32⟩
  | _ => ⟨S8x131072x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S8x131072x4, .f32⟩

abbrev bufTy : (tb : Table) → Fin (tcTables nBuf tb) → BufTy
  | .hbm, ⟨i, _⟩ => hbmTy i
  | _, _ => ⟨S8x131072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_cst_2 : Ref sig .tc := ⟨.hbm, 5, rfl⟩
abbrev main_c_3 : Ref sig .tc := ⟨.hbm, 6, rfl⟩
abbrev main_c_4 : Ref sig .tc := ⟨.hbm, 7, rfl⟩
abbrev main_cst_5 : Ref sig .tc := ⟨.hbm, 8, rfl⟩
abbrev main_c_6 : Ref sig .tc := ⟨.hbm, 9, rfl⟩
abbrev main_c_7 : Ref sig .tc := ⟨.hbm, 10, rfl⟩
abbrev main_cst_8 : Ref sig .tc := ⟨.hbm, 11, rfl⟩
abbrev main_c_9 : Ref sig .tc := ⟨.hbm, 12, rfl⟩
abbrev main_c_10 : Ref sig .tc := ⟨.hbm, 13, rfl⟩
abbrev main_cst_11 : Ref sig .tc := ⟨.hbm, 14, rfl⟩
abbrev main_c_12 : Ref sig .tc := ⟨.hbm, 15, rfl⟩
abbrev main_c_13 : Ref sig .tc := ⟨.hbm, 16, rfl⟩
abbrev main_cst_14 : Ref sig .tc := ⟨.hbm, 17, rfl⟩
abbrev main_c_15 : Ref sig .tc := ⟨.hbm, 18, rfl⟩
abbrev main_c_16 : Ref sig .tc := ⟨.hbm, 19, rfl⟩
abbrev main_cst_17 : Ref sig .tc := ⟨.hbm, 20, rfl⟩
abbrev main_c_18 : Ref sig .tc := ⟨.hbm, 21, rfl⟩
abbrev main_c_19 : Ref sig .tc := ⟨.hbm, 22, rfl⟩
abbrev main_cst_20 : Ref sig .tc := ⟨.hbm, 23, rfl⟩
abbrev main_c_21 : Ref sig .tc := ⟨.hbm, 24, rfl⟩
abbrev main_c_22 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_23 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_24 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_25 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_26 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_27 : Ref sig .tc := ⟨.hbm, 60, rfl⟩
abbrev main_call0_v0 : Ref sig .tc := ⟨.hbm, 61, rfl⟩
abbrev main_call0_v1 : Ref sig .tc := ⟨.hbm, 62, rfl⟩
abbrev main_v30 : Ref sig .tc := ⟨.hbm, 63, rfl⟩
abbrev main_call1_v0 : Ref sig .tc := ⟨.hbm, 64, rfl⟩
abbrev main_call1_v1_0 : Ref sig .tc := ⟨.hbm, 65, rfl⟩
abbrev main_v31 : Ref sig .tc := ⟨.hbm, 66, rfl⟩
abbrev main_c_28 : Ref sig .tc := ⟨.hbm, 67, rfl⟩
abbrev main_v32 : Ref sig .tc := ⟨.hbm, 68, rfl⟩
abbrev main_v33 : Ref sig .tc := ⟨.hbm, 69, rfl⟩
abbrev main_c_29 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_30 : Ref sig .tc := ⟨.hbm, 76, rfl⟩
abbrev main_v39 : Ref sig .tc := ⟨.hbm, 77, rfl⟩
abbrev main_v40 : Ref sig .tc := ⟨.hbm, 78, rfl⟩
abbrev main_c_31 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_32 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call2_call0_c : Ref sig .tc := ⟨.hbm, 94, rfl⟩
abbrev main_call2_call0_v0 : Ref sig .tc := ⟨.hbm, 95, rfl⟩
abbrev main_v54 : Ref sig .tc := ⟨.hbm, 96, rfl⟩
abbrev main_c_33 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_34 : Ref sig .tc := ⟨.hbm, 101, rfl⟩
abbrev main_call3_v0 : Ref sig .tc := ⟨.hbm, 102, rfl⟩
abbrev main_call3_v1 : Ref sig .tc := ⟨.hbm, 103, rfl⟩
abbrev main_v58 : Ref sig .tc := ⟨.hbm, 104, rfl⟩
abbrev main_call4_c : Ref sig .tc := ⟨.hbm, 105, rfl⟩
abbrev main_call4_v0 : Ref sig .tc := ⟨.hbm, 106, rfl⟩
abbrev main_v59 : Ref sig .tc := ⟨.hbm, 107, rfl⟩
abbrev main_v60 : Ref sig .tc := ⟨.hbm, 108, rfl⟩
abbrev main_c_35 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_36 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_37 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_c_38 : Ref sig .tc := ⟨.hbm, 121, rfl⟩
abbrev main_call5_v0 : Ref sig .tc := ⟨.hbm, 122, rfl⟩
abbrev main_call5_v1 : Ref sig .tc := ⟨.hbm, 123, rfl⟩
abbrev main_v70 : Ref sig .tc := ⟨.hbm, 124, rfl⟩
abbrev main_c_39 : Ref sig .tc := ⟨.hbm, 125, rfl⟩
abbrev main_call6_v0 : Ref sig .tc := ⟨.hbm, 126, rfl⟩
abbrev main_call6_v1 : Ref sig .tc := ⟨.hbm, 127, rfl⟩
abbrev main_v71 : Ref sig .tc := ⟨.hbm, 128, rfl⟩
abbrev main_cst_40 : Ref sig .tc := ⟨.hbm, 129, rfl⟩
abbrev main_v72 : Ref sig .tc := ⟨.hbm, 130, rfl⟩
abbrev main_c_41 : Ref sig .tc := ⟨.hbm, 131, rfl⟩
abbrev main_v73 : Ref sig .tc := ⟨.hbm, 132, rfl⟩
abbrev main_v74 : Ref sig .tc := ⟨.hbm, 133, rfl⟩
abbrev main_c_42 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_c_43 : Ref sig .tc := ⟨.hbm, 138, rfl⟩
abbrev main_v78 : Ref sig .tc := ⟨.hbm, 139, rfl⟩
abbrev main_v79 : Ref sig .tc := ⟨.hbm, 140, rfl⟩
abbrev main_c_44 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_45 : Ref sig .tc := ⟨.hbm, 149, rfl⟩
abbrev main_v87 : Ref sig .tc := ⟨.hbm, 150, rfl⟩
abbrev main_v88 : Ref sig .tc := ⟨.hbm, 151, rfl⟩
abbrev main_c_46 : Ref sig .tc := ⟨.hbm, 152, rfl⟩
abbrev main_v89 : Ref sig .tc := ⟨.hbm, 153, rfl⟩
abbrev main_v90 : Ref sig .tc := ⟨.hbm, 154, rfl⟩
abbrev main_c_47 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_c_48 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_v6 : Ref sig .tc := ⟨.hbm, 168, rfl⟩
abbrev main_call7_v7 : Ref sig .tc := ⟨.hbm, 169, rfl⟩
abbrev main_call7_v8 : Ref sig .tc := ⟨.hbm, 170, rfl⟩
abbrev main_call7_c : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_c_0 : Ref sig .tc := ⟨.hbm, 175, rfl⟩
abbrev main_call7_v12 : Ref sig .tc := ⟨.hbm, 176, rfl⟩
abbrev main_call7_v13 : Ref sig .tc := ⟨.hbm, 177, rfl⟩
abbrev main_v96 : Ref sig .tc := ⟨.hbm, 178, rfl⟩
abbrev main_c_49 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_c : Ref sig .tc := ⟨.hbm, 189, rfl⟩
abbrev main_call8_v9 : Ref sig .tc := ⟨.hbm, 190, rfl⟩
abbrev main_call8_v10 : Ref sig .tc := ⟨.hbm, 191, rfl⟩
abbrev main_call8_v11 : Ref sig .tc := ⟨.hbm, 192, rfl⟩
abbrev main_call8_c_0 : Ref sig .tc := ⟨.hbm, 193, rfl⟩
abbrev main_call8_v12 : Ref sig .tc := ⟨.hbm, 194, rfl⟩
abbrev main_call8_v13 : Ref sig .tc := ⟨.hbm, 195, rfl⟩
abbrev main_v97 : Ref sig .tc := ⟨.hbm, 196, rfl⟩
abbrev main_c_50 : Ref sig .tc := ⟨.hbm, 197, rfl⟩
abbrev main_call9_v0 : Ref sig .tc := ⟨.hbm, 198, rfl⟩
abbrev main_call9_c : Ref sig .tc := ⟨.hbm, 199, rfl⟩
abbrev main_call9_v1 : Ref sig .tc := ⟨.hbm, 200, rfl⟩
abbrev main_call9_c_0 : Ref sig .tc := ⟨.hbm, 201, rfl⟩
abbrev main_call9_v2 : Ref sig .tc := ⟨.hbm, 202, rfl⟩
abbrev main_call9_v3 : Ref sig .tc := ⟨.hbm, 203, rfl⟩
abbrev main_call9_v4 : Ref sig .tc := ⟨.hbm, 204, rfl⟩
abbrev main_call9_c_1 : Ref sig .tc := ⟨.hbm, 205, rfl⟩
abbrev main_call9_v5 : Ref sig .tc := ⟨.hbm, 206, rfl⟩
abbrev main_call9_v6 : Ref sig .tc := ⟨.hbm, 207, rfl⟩
abbrev main_call9_c_2 : Ref sig .tc := ⟨.hbm, 208, rfl⟩
abbrev main_call9_v7 : Ref sig .tc := ⟨.hbm, 209, rfl⟩
abbrev main_call9_v8 : Ref sig .tc := ⟨.hbm, 210, rfl⟩
abbrev main_call9_c_3 : Ref sig .tc := ⟨.hbm, 211, rfl⟩
abbrev main_call9_v9 : Ref sig .tc := ⟨.hbm, 212, rfl⟩
abbrev main_call9_v10 : Ref sig .tc := ⟨.hbm, 213, rfl⟩
abbrev main_call9_v11 : Ref sig .tc := ⟨.hbm, 214, rfl⟩
abbrev main_call9_v12 : Ref sig .tc := ⟨.hbm, 215, rfl⟩
abbrev main_call9_v13 : Ref sig .tc := ⟨.hbm, 216, rfl⟩
abbrev main_call9_v14 : Ref sig .tc := ⟨.hbm, 217, rfl⟩
abbrev main_v98 : Ref sig .tc := ⟨.hbm, 218, rfl⟩
abbrev main_c_51 : Ref sig .tc := ⟨.hbm, 219, rfl⟩
abbrev main_call10_v0 : Ref sig .tc := ⟨.hbm, 220, rfl⟩
abbrev main_call10_c : Ref sig .tc := ⟨.hbm, 221, rfl⟩
abbrev main_call10_v1 : Ref sig .tc := ⟨.hbm, 222, rfl⟩
abbrev main_call10_c_0 : Ref sig .tc := ⟨.hbm, 223, rfl⟩
abbrev main_call10_v2 : Ref sig .tc := ⟨.hbm, 224, rfl⟩
abbrev main_call10_v3 : Ref sig .tc := ⟨.hbm, 225, rfl⟩
abbrev main_call10_v4 : Ref sig .tc := ⟨.hbm, 226, rfl⟩
abbrev main_call10_c_1 : Ref sig .tc := ⟨.hbm, 227, rfl⟩
abbrev main_call10_v5 : Ref sig .tc := ⟨.hbm, 228, rfl⟩
abbrev main_call10_v6 : Ref sig .tc := ⟨.hbm, 229, rfl⟩
abbrev main_call10_c_2 : Ref sig .tc := ⟨.hbm, 230, rfl⟩
abbrev main_call10_v7 : Ref sig .tc := ⟨.hbm, 231, rfl⟩
abbrev main_call10_v8 : Ref sig .tc := ⟨.hbm, 232, rfl⟩
abbrev main_call10_c_3 : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_v12 : Ref sig .tc := ⟨.hbm, 237, rfl⟩
abbrev main_call10_v13 : Ref sig .tc := ⟨.hbm, 238, rfl⟩
abbrev main_call10_v14 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_c_52 : Ref sig .tc := ⟨.hbm, 245, rfl⟩
abbrev main_v104 : Ref sig .tc := ⟨.hbm, 246, rfl⟩
abbrev main_v105 : Ref sig .tc := ⟨.hbm, 247, rfl⟩
abbrev main_v106 : Ref sig .tc := ⟨.hbm, 248, rfl⟩
abbrev main_c_53 : Ref sig .tc := ⟨.hbm, 249, rfl⟩
abbrev main_call11_v0 : Ref sig .tc := ⟨.hbm, 250, rfl⟩
abbrev main_call11_v1 : Ref sig .tc := ⟨.hbm, 251, rfl⟩
abbrev main_v107 : Ref sig .tc := ⟨.hbm, 252, rfl⟩
abbrev main_c_54 : Ref sig .tc := ⟨.hbm, 253, rfl⟩
abbrev main_v108 : Ref sig .tc := ⟨.hbm, 254, rfl⟩
abbrev main_c_55 : Ref sig .tc := ⟨.hbm, 255, rfl⟩
abbrev main_v109 : Ref sig .tc := ⟨.hbm, 256, rfl⟩
abbrev main_v110 : Ref sig .tc := ⟨.hbm, 257, rfl⟩
abbrev main_c_56 : Ref sig .tc := ⟨.hbm, 258, rfl⟩
abbrev main_v111 : Ref sig .tc := ⟨.hbm, 259, rfl⟩
abbrev main_v112 : Ref sig .tc := ⟨.hbm, 260, rfl⟩
abbrev main_v113 : Ref sig .tc := ⟨.hbm, 261, rfl⟩
abbrev main_v114 : Ref sig .tc := ⟨.hbm, 262, rfl⟩
abbrev main_v115 : Ref sig .tc := ⟨.hbm, 263, rfl⟩
abbrev main_c_57 : Ref sig .tc := ⟨.hbm, 264, rfl⟩
abbrev main_call12_v0 : Ref sig .tc := ⟨.hbm, 265, rfl⟩
abbrev main_v116 : Ref sig .tc := ⟨.hbm, 266, rfl⟩
abbrev main_v117 : Ref sig .tc := ⟨.hbm, 267, rfl⟩
abbrev main_v118 : Ref sig .tc := ⟨.hbm, 268, rfl⟩
abbrev main_v119 : Ref sig .tc := ⟨.hbm, 269, rfl⟩
abbrev main_v120 : Ref sig .tc := ⟨.hbm, 270, rfl⟩
abbrev main_v121 : Ref sig .tc := ⟨.hbm, 271, rfl⟩
abbrev main_v122 : Ref sig .tc := ⟨.hbm, 272, rfl⟩
abbrev main_v123 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_c_58 : Ref sig .tc := ⟨.hbm, 278, rfl⟩
abbrev main_v128 : Ref sig .tc := ⟨.hbm, 279, rfl⟩
abbrev main_v129 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_c_59 : Ref sig .tc := ⟨.hbm, 285, rfl⟩
abbrev main_v134 : Ref sig .tc := ⟨.hbm, 286, rfl⟩
abbrev main_v135 : Ref sig .tc := ⟨.hbm, 287, rfl⟩
abbrev main_v136 : Ref sig .tc := ⟨.hbm, 288, rfl⟩
abbrev main_c_60 : Ref sig .tc := ⟨.hbm, 289, rfl⟩
abbrev main_v137 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_c_61 : Ref sig .tc := ⟨.hbm, 295, rfl⟩
abbrev main_v142 : Ref sig .tc := ⟨.hbm, 296, rfl⟩
abbrev main_v143 : Ref sig .tc := ⟨.hbm, 297, rfl⟩
abbrev main_v144 : Ref sig .tc := ⟨.hbm, 298, rfl⟩
abbrev main_v145 : Ref sig .tc := ⟨.hbm, 299, rfl⟩
abbrev main_v146 : Ref sig .tc := ⟨.hbm, 300, rfl⟩
abbrev main_c_62 : Ref sig .tc := ⟨.hbm, 301, rfl⟩
abbrev main_call13_v0 : Ref sig .tc := ⟨.hbm, 302, rfl⟩
abbrev main_call13_v1 : Ref sig .tc := ⟨.hbm, 303, rfl⟩
abbrev main_v147 : Ref sig .tc := ⟨.hbm, 304, rfl⟩
abbrev main_call14_v0 : Ref sig .tc := ⟨.hbm, 305, rfl⟩
abbrev main_call14_v1_0 : Ref sig .tc := ⟨.hbm, 306, rfl⟩
abbrev main_v148 : Ref sig .tc := ⟨.hbm, 307, rfl⟩
abbrev main_c_63 : Ref sig .tc := ⟨.hbm, 308, rfl⟩
abbrev main_v149 : Ref sig .tc := ⟨.hbm, 309, rfl⟩
abbrev main_v150 : Ref sig .tc := ⟨.hbm, 310, rfl⟩
abbrev main_c_64 : Ref sig .tc := ⟨.hbm, 311, rfl⟩
abbrev main_v151 : Ref sig .tc := ⟨.hbm, 312, rfl⟩
abbrev main_v152 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_c_65 : Ref sig .tc := ⟨.hbm, 317, rfl⟩
abbrev main_v156 : Ref sig .tc := ⟨.hbm, 318, rfl⟩
abbrev main_v157 : Ref sig .tc := ⟨.hbm, 319, rfl⟩
abbrev main_c_66 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_c_67 : Ref sig .tc := ⟨.hbm, 326, rfl⟩
abbrev main_v163 : Ref sig .tc := ⟨.hbm, 327, rfl⟩
abbrev main_v164 : Ref sig .tc := ⟨.hbm, 328, rfl⟩
abbrev main_v165 : Ref sig .tc := ⟨.hbm, 329, rfl⟩
abbrev main_v166 : Ref sig .tc := ⟨.hbm, 330, rfl⟩
abbrev main_v167 : Ref sig .tc := ⟨.hbm, 331, rfl⟩
abbrev main_v168 : Ref sig .tc := ⟨.hbm, 332, rfl⟩
abbrev main_v169 : Ref sig .tc := ⟨.hbm, 333, rfl⟩
abbrev main_v170 : Ref sig .tc := ⟨.hbm, 334, rfl⟩
abbrev main_call15_call0_c : Ref sig .tc := ⟨.hbm, 335, rfl⟩
abbrev main_call15_call0_v0 : Ref sig .tc := ⟨.hbm, 336, rfl⟩
abbrev main_v171 : Ref sig .tc := ⟨.hbm, 337, rfl⟩
abbrev main_c_68 : Ref sig .tc := ⟨.hbm, 338, rfl⟩
abbrev main_v172 : Ref sig .tc := ⟨.hbm, 339, rfl⟩
abbrev main_v173 : Ref sig .tc := ⟨.hbm, 340, rfl⟩
abbrev main_v174 : Ref sig .tc := ⟨.hbm, 341, rfl⟩
abbrev main_c_69 : Ref sig .tc := ⟨.hbm, 342, rfl⟩
abbrev main_call16_v0 : Ref sig .tc := ⟨.hbm, 343, rfl⟩
abbrev main_call16_v1 : Ref sig .tc := ⟨.hbm, 344, rfl⟩
abbrev main_v175 : Ref sig .tc := ⟨.hbm, 345, rfl⟩
abbrev main_call17_c : Ref sig .tc := ⟨.hbm, 346, rfl⟩
abbrev main_call17_v0 : Ref sig .tc := ⟨.hbm, 347, rfl⟩
abbrev main_v176 : Ref sig .tc := ⟨.hbm, 348, rfl⟩
abbrev main_v177 : Ref sig .tc := ⟨.hbm, 349, rfl⟩
abbrev main_c_70 : Ref sig .tc := ⟨.hbm, 350, rfl⟩
abbrev main_v178 : Ref sig .tc := ⟨.hbm, 351, rfl⟩
abbrev main_v179 : Ref sig .tc := ⟨.hbm, 352, rfl⟩
abbrev main_v180 : Ref sig .tc := ⟨.hbm, 353, rfl⟩
abbrev main_c_71 : Ref sig .tc := ⟨.hbm, 354, rfl⟩
abbrev main_v181 : Ref sig .tc := ⟨.hbm, 355, rfl⟩
abbrev main_v182 : Ref sig .tc := ⟨.hbm, 356, rfl⟩
abbrev main_v183 : Ref sig .tc := ⟨.hbm, 357, rfl⟩
abbrev main_c_72 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩
abbrev main_c_73 : Ref sig .tc := ⟨.hbm, 362, rfl⟩
abbrev main_call18_v0 : Ref sig .tc := ⟨.hbm, 363, rfl⟩
abbrev main_call18_v1 : Ref sig .tc := ⟨.hbm, 364, rfl⟩
abbrev main_v187 : Ref sig .tc := ⟨.hbm, 365, rfl⟩
abbrev main_c_74 : Ref sig .tc := ⟨.hbm, 366, rfl⟩
abbrev main_call19_v0 : Ref sig .tc := ⟨.hbm, 367, rfl⟩
abbrev main_call19_v1 : Ref sig .tc := ⟨.hbm, 368, rfl⟩
abbrev main_v188 : Ref sig .tc := ⟨.hbm, 369, rfl⟩
abbrev main_cst_75 : Ref sig .tc := ⟨.hbm, 370, rfl⟩
abbrev main_v189 : Ref sig .tc := ⟨.hbm, 371, rfl⟩
abbrev main_c_76 : Ref sig .tc := ⟨.hbm, 372, rfl⟩
abbrev main_v190 : Ref sig .tc := ⟨.hbm, 373, rfl⟩
abbrev main_v191 : Ref sig .tc := ⟨.hbm, 374, rfl⟩
abbrev main_c_77 : Ref sig .tc := ⟨.hbm, 375, rfl⟩
abbrev main_v192 : Ref sig .tc := ⟨.hbm, 376, rfl⟩
abbrev main_v193 : Ref sig .tc := ⟨.hbm, 377, rfl⟩
abbrev main_v194 : Ref sig .tc := ⟨.hbm, 378, rfl⟩
abbrev main_c_78 : Ref sig .tc := ⟨.hbm, 379, rfl⟩
abbrev main_v195 : Ref sig .tc := ⟨.hbm, 380, rfl⟩
abbrev main_v196 : Ref sig .tc := ⟨.hbm, 381, rfl⟩
abbrev main_c_79 : Ref sig .tc := ⟨.hbm, 382, rfl⟩
abbrev main_v197 : Ref sig .tc := ⟨.hbm, 383, rfl⟩
abbrev main_v198 : Ref sig .tc := ⟨.hbm, 384, rfl⟩
abbrev main_v199 : Ref sig .tc := ⟨.hbm, 385, rfl⟩
abbrev main_v200 : Ref sig .tc := ⟨.hbm, 386, rfl⟩
abbrev main_v201 : Ref sig .tc := ⟨.hbm, 387, rfl⟩
abbrev main_v202 : Ref sig .tc := ⟨.hbm, 388, rfl⟩
abbrev main_v203 : Ref sig .tc := ⟨.hbm, 389, rfl⟩
abbrev main_c_80 : Ref sig .tc := ⟨.hbm, 390, rfl⟩
abbrev main_v204 : Ref sig .tc := ⟨.hbm, 391, rfl⟩
abbrev main_v205 : Ref sig .tc := ⟨.hbm, 392, rfl⟩
abbrev main_c_81 : Ref sig .tc := ⟨.hbm, 393, rfl⟩
abbrev main_v206 : Ref sig .tc := ⟨.hbm, 394, rfl⟩
abbrev main_v207 : Ref sig .tc := ⟨.hbm, 395, rfl⟩
abbrev main_c_82 : Ref sig .tc := ⟨.hbm, 396, rfl⟩
abbrev main_v208 : Ref sig .tc := ⟨.hbm, 397, rfl⟩
abbrev main_v209 : Ref sig .tc := ⟨.hbm, 398, rfl⟩
abbrev main_v210 : Ref sig .tc := ⟨.hbm, 399, rfl⟩
abbrev main_v211 : Ref sig .tc := ⟨.hbm, 400, rfl⟩
abbrev main_v212 : Ref sig .tc := ⟨.hbm, 401, rfl⟩
abbrev main_c_83 : Ref sig .tc := ⟨.hbm, 402, rfl⟩
abbrev main_call20_v0 : Ref sig .tc := ⟨.hbm, 403, rfl⟩
abbrev main_call20_v1 : Ref sig .tc := ⟨.hbm, 404, rfl⟩
abbrev main_call20_v2 : Ref sig .tc := ⟨.hbm, 405, rfl⟩
abbrev main_call20_v3 : Ref sig .tc := ⟨.hbm, 406, rfl⟩
abbrev main_call20_v4 : Ref sig .tc := ⟨.hbm, 407, rfl⟩
abbrev main_call20_v5 : Ref sig .tc := ⟨.hbm, 408, rfl⟩
abbrev main_call20_v6 : Ref sig .tc := ⟨.hbm, 409, rfl⟩
abbrev main_call20_v7 : Ref sig .tc := ⟨.hbm, 410, rfl⟩
abbrev main_call20_v8 : Ref sig .tc := ⟨.hbm, 411, rfl⟩
abbrev main_call20_c : Ref sig .tc := ⟨.hbm, 412, rfl⟩
abbrev main_call20_v9 : Ref sig .tc := ⟨.hbm, 413, rfl⟩
abbrev main_call20_v10 : Ref sig .tc := ⟨.hbm, 414, rfl⟩
abbrev main_call20_v11 : Ref sig .tc := ⟨.hbm, 415, rfl⟩
abbrev main_call20_c_0 : Ref sig .tc := ⟨.hbm, 416, rfl⟩
abbrev main_call20_v12 : Ref sig .tc := ⟨.hbm, 417, rfl⟩
abbrev main_call20_v13 : Ref sig .tc := ⟨.hbm, 418, rfl⟩
abbrev main_v213 : Ref sig .tc := ⟨.hbm, 419, rfl⟩
abbrev main_c_84 : Ref sig .tc := ⟨.hbm, 420, rfl⟩
abbrev main_call21_v0 : Ref sig .tc := ⟨.hbm, 421, rfl⟩
abbrev main_call21_v1 : Ref sig .tc := ⟨.hbm, 422, rfl⟩
abbrev main_call21_v2 : Ref sig .tc := ⟨.hbm, 423, rfl⟩
abbrev main_call21_v3 : Ref sig .tc := ⟨.hbm, 424, rfl⟩
abbrev main_call21_v4 : Ref sig .tc := ⟨.hbm, 425, rfl⟩
abbrev main_call21_v5 : Ref sig .tc := ⟨.hbm, 426, rfl⟩
abbrev main_call21_v6 : Ref sig .tc := ⟨.hbm, 427, rfl⟩
abbrev main_call21_v7 : Ref sig .tc := ⟨.hbm, 428, rfl⟩
abbrev main_call21_v8 : Ref sig .tc := ⟨.hbm, 429, rfl⟩
abbrev main_call21_c : Ref sig .tc := ⟨.hbm, 430, rfl⟩
abbrev main_call21_v9 : Ref sig .tc := ⟨.hbm, 431, rfl⟩
abbrev main_call21_v10 : Ref sig .tc := ⟨.hbm, 432, rfl⟩
abbrev main_call21_v11 : Ref sig .tc := ⟨.hbm, 433, rfl⟩
abbrev main_call21_c_0 : Ref sig .tc := ⟨.hbm, 434, rfl⟩
abbrev main_call21_v12 : Ref sig .tc := ⟨.hbm, 435, rfl⟩
abbrev main_call21_v13 : Ref sig .tc := ⟨.hbm, 436, rfl⟩
abbrev main_v214 : Ref sig .tc := ⟨.hbm, 437, rfl⟩
abbrev main_c_85 : Ref sig .tc := ⟨.hbm, 438, rfl⟩
abbrev main_call22_v0 : Ref sig .tc := ⟨.hbm, 439, rfl⟩
abbrev main_call22_c : Ref sig .tc := ⟨.hbm, 440, rfl⟩
abbrev main_call22_v1 : Ref sig .tc := ⟨.hbm, 441, rfl⟩
abbrev main_call22_c_0 : Ref sig .tc := ⟨.hbm, 442, rfl⟩
abbrev main_call22_v2 : Ref sig .tc := ⟨.hbm, 443, rfl⟩
abbrev main_call22_v3 : Ref sig .tc := ⟨.hbm, 444, rfl⟩
abbrev main_call22_v4 : Ref sig .tc := ⟨.hbm, 445, rfl⟩
abbrev main_call22_c_1 : Ref sig .tc := ⟨.hbm, 446, rfl⟩
abbrev main_call22_v5 : Ref sig .tc := ⟨.hbm, 447, rfl⟩
abbrev main_call22_v6 : Ref sig .tc := ⟨.hbm, 448, rfl⟩
abbrev main_call22_c_2 : Ref sig .tc := ⟨.hbm, 449, rfl⟩
abbrev main_call22_v7 : Ref sig .tc := ⟨.hbm, 450, rfl⟩
abbrev main_call22_v8 : Ref sig .tc := ⟨.hbm, 451, rfl⟩
abbrev main_call22_c_3 : Ref sig .tc := ⟨.hbm, 452, rfl⟩
abbrev main_call22_v9 : Ref sig .tc := ⟨.hbm, 453, rfl⟩
abbrev main_call22_v10 : Ref sig .tc := ⟨.hbm, 454, rfl⟩
abbrev main_call22_v11 : Ref sig .tc := ⟨.hbm, 455, rfl⟩
abbrev main_call22_v12 : Ref sig .tc := ⟨.hbm, 456, rfl⟩
abbrev main_call22_v13 : Ref sig .tc := ⟨.hbm, 457, rfl⟩
abbrev main_call22_v14 : Ref sig .tc := ⟨.hbm, 458, rfl⟩
abbrev main_v215 : Ref sig .tc := ⟨.hbm, 459, rfl⟩
abbrev main_c_86 : Ref sig .tc := ⟨.hbm, 460, rfl⟩
abbrev main_call23_v0 : Ref sig .tc := ⟨.hbm, 461, rfl⟩
abbrev main_call23_c : Ref sig .tc := ⟨.hbm, 462, rfl⟩
abbrev main_call23_v1 : Ref sig .tc := ⟨.hbm, 463, rfl⟩
abbrev main_call23_c_0 : Ref sig .tc := ⟨.hbm, 464, rfl⟩
abbrev main_call23_v2 : Ref sig .tc := ⟨.hbm, 465, rfl⟩
abbrev main_call23_v3 : Ref sig .tc := ⟨.hbm, 466, rfl⟩
abbrev main_call23_v4 : Ref sig .tc := ⟨.hbm, 467, rfl⟩
abbrev main_call23_c_1 : Ref sig .tc := ⟨.hbm, 468, rfl⟩
abbrev main_call23_v5 : Ref sig .tc := ⟨.hbm, 469, rfl⟩
abbrev main_call23_v6 : Ref sig .tc := ⟨.hbm, 470, rfl⟩
abbrev main_call23_c_2 : Ref sig .tc := ⟨.hbm, 471, rfl⟩
abbrev main_call23_v7 : Ref sig .tc := ⟨.hbm, 472, rfl⟩
abbrev main_call23_v8 : Ref sig .tc := ⟨.hbm, 473, rfl⟩
abbrev main_call23_c_3 : Ref sig .tc := ⟨.hbm, 474, rfl⟩
abbrev main_call23_v9 : Ref sig .tc := ⟨.hbm, 475, rfl⟩
abbrev main_call23_v10 : Ref sig .tc := ⟨.hbm, 476, rfl⟩
abbrev main_call23_v11 : Ref sig .tc := ⟨.hbm, 477, rfl⟩
abbrev main_call23_v12 : Ref sig .tc := ⟨.hbm, 478, rfl⟩
abbrev main_call23_v13 : Ref sig .tc := ⟨.hbm, 479, rfl⟩
abbrev main_call23_v14 : Ref sig .tc := ⟨.hbm, 480, rfl⟩
abbrev main_v216 : Ref sig .tc := ⟨.hbm, 481, rfl⟩
abbrev main_v217 : Ref sig .tc := ⟨.hbm, 482, rfl⟩
abbrev main_v218 : Ref sig .tc := ⟨.hbm, 483, rfl⟩
abbrev main_v219 : Ref sig .tc := ⟨.hbm, 484, rfl⟩
abbrev main_v220 : Ref sig .tc := ⟨.hbm, 485, rfl⟩
abbrev main_c_87 : Ref sig .tc := ⟨.hbm, 486, rfl⟩
abbrev main_v221 : Ref sig .tc := ⟨.hbm, 487, rfl⟩
abbrev main_v222 : Ref sig .tc := ⟨.hbm, 488, rfl⟩
abbrev main_v223 : Ref sig .tc := ⟨.hbm, 489, rfl⟩
abbrev main_c_88 : Ref sig .tc := ⟨.hbm, 490, rfl⟩
abbrev main_call24_v0 : Ref sig .tc := ⟨.hbm, 491, rfl⟩
abbrev main_call24_v1 : Ref sig .tc := ⟨.hbm, 492, rfl⟩
abbrev main_v224 : Ref sig .tc := ⟨.hbm, 493, rfl⟩
abbrev main_c_89 : Ref sig .tc := ⟨.hbm, 494, rfl⟩
abbrev main_v225 : Ref sig .tc := ⟨.hbm, 495, rfl⟩
abbrev main_c_90 : Ref sig .tc := ⟨.hbm, 496, rfl⟩
abbrev main_v226 : Ref sig .tc := ⟨.hbm, 497, rfl⟩
abbrev main_v227 : Ref sig .tc := ⟨.hbm, 498, rfl⟩
abbrev main_c_91 : Ref sig .tc := ⟨.hbm, 499, rfl⟩
abbrev main_v228 : Ref sig .tc := ⟨.hbm, 500, rfl⟩
abbrev main_v229 : Ref sig .tc := ⟨.hbm, 501, rfl⟩
abbrev main_v230 : Ref sig .tc := ⟨.hbm, 502, rfl⟩
abbrev main_v231 : Ref sig .tc := ⟨.hbm, 503, rfl⟩
abbrev main_v232 : Ref sig .tc := ⟨.hbm, 504, rfl⟩
abbrev main_c_92 : Ref sig .tc := ⟨.hbm, 505, rfl⟩
abbrev main_call25_v0 : Ref sig .tc := ⟨.hbm, 506, rfl⟩
abbrev main_v233 : Ref sig .tc := ⟨.hbm, 507, rfl⟩
abbrev main_v234 : Ref sig .tc := ⟨.hbm, 508, rfl⟩
abbrev main_v235 : Ref sig .tc := ⟨.hbm, 509, rfl⟩
abbrev main_v236 : Ref sig .tc := ⟨.hbm, 510, rfl⟩
abbrev main_v237 : Ref sig .tc := ⟨.hbm, 511, rfl⟩
abbrev main_v238 : Ref sig .tc := ⟨.hbm, 512, rfl⟩
abbrev main_v239 : Ref sig .tc := ⟨.hbm, 513, rfl⟩
abbrev main_v240 : Ref sig .tc := ⟨.hbm, 514, rfl⟩
abbrev main_v241 : Ref sig .tc := ⟨.hbm, 515, rfl⟩
abbrev main_v242 : Ref sig .tc := ⟨.hbm, 516, rfl⟩
abbrev main_v243 : Ref sig .tc := ⟨.hbm, 517, rfl⟩
abbrev main_v244 : Ref sig .tc := ⟨.hbm, 518, rfl⟩
abbrev main_c_93 : Ref sig .tc := ⟨.hbm, 519, rfl⟩
abbrev main_v245 : Ref sig .tc := ⟨.hbm, 520, rfl⟩
abbrev main_v246 : Ref sig .tc := ⟨.hbm, 521, rfl⟩
abbrev main_v247 : Ref sig .tc := ⟨.hbm, 522, rfl⟩
abbrev main_v248 : Ref sig .tc := ⟨.hbm, 523, rfl⟩
abbrev main_v249 : Ref sig .tc := ⟨.hbm, 524, rfl⟩
abbrev main_v250 : Ref sig .tc := ⟨.hbm, 525, rfl⟩
abbrev main_c_94 : Ref sig .tc := ⟨.hbm, 526, rfl⟩
abbrev main_v251 : Ref sig .tc := ⟨.hbm, 527, rfl⟩
abbrev main_v252 : Ref sig .tc := ⟨.hbm, 528, rfl⟩
abbrev main_v253 : Ref sig .tc := ⟨.hbm, 529, rfl⟩
abbrev main_c_95 : Ref sig .tc := ⟨.hbm, 530, rfl⟩
abbrev main_v254 : Ref sig .tc := ⟨.hbm, 531, rfl⟩
abbrev main_v255 : Ref sig .tc := ⟨.hbm, 532, rfl⟩
abbrev main_v256 : Ref sig .tc := ⟨.hbm, 533, rfl⟩
abbrev main_v257 : Ref sig .tc := ⟨.hbm, 534, rfl⟩
abbrev main_v258 : Ref sig .tc := ⟨.hbm, 535, rfl⟩
abbrev main_c_96 : Ref sig .tc := ⟨.hbm, 536, rfl⟩
abbrev main_v259 : Ref sig .tc := ⟨.hbm, 537, rfl⟩
abbrev main_v260 : Ref sig .tc := ⟨.hbm, 538, rfl⟩
abbrev main_v261 : Ref sig .tc := ⟨.hbm, 539, rfl⟩
abbrev main_v262 : Ref sig .tc := ⟨.hbm, 540, rfl⟩
abbrev main_v263 : Ref sig .tc := ⟨.hbm, 541, rfl⟩
abbrev main_c_97 : Ref sig .tc := ⟨.hbm, 542, rfl⟩
abbrev main_call26_v0 : Ref sig .tc := ⟨.hbm, 543, rfl⟩
abbrev main_call26_v1 : Ref sig .tc := ⟨.hbm, 544, rfl⟩
abbrev main_v264 : Ref sig .tc := ⟨.hbm, 545, rfl⟩
abbrev main_call27_v0 : Ref sig .tc := ⟨.hbm, 546, rfl⟩
abbrev main_call27_v1_0 : Ref sig .tc := ⟨.hbm, 547, rfl⟩
abbrev main_v265 : Ref sig .tc := ⟨.hbm, 548, rfl⟩
abbrev main_c_98 : Ref sig .tc := ⟨.hbm, 549, rfl⟩
abbrev main_v266 : Ref sig .tc := ⟨.hbm, 550, rfl⟩
abbrev main_v267 : Ref sig .tc := ⟨.hbm, 551, rfl⟩
abbrev main_c_99 : Ref sig .tc := ⟨.hbm, 552, rfl⟩
abbrev main_v268 : Ref sig .tc := ⟨.hbm, 553, rfl⟩
abbrev main_v269 : Ref sig .tc := ⟨.hbm, 554, rfl⟩
abbrev main_v270 : Ref sig .tc := ⟨.hbm, 555, rfl⟩
abbrev main_v271 : Ref sig .tc := ⟨.hbm, 556, rfl⟩
abbrev main_v272 : Ref sig .tc := ⟨.hbm, 557, rfl⟩
abbrev main_c_100 : Ref sig .tc := ⟨.hbm, 558, rfl⟩
abbrev main_v273 : Ref sig .tc := ⟨.hbm, 559, rfl⟩
abbrev main_v274 : Ref sig .tc := ⟨.hbm, 560, rfl⟩
abbrev main_c_101 : Ref sig .tc := ⟨.hbm, 561, rfl⟩
abbrev main_v275 : Ref sig .tc := ⟨.hbm, 562, rfl⟩
abbrev main_v276 : Ref sig .tc := ⟨.hbm, 563, rfl⟩
abbrev main_v277 : Ref sig .tc := ⟨.hbm, 564, rfl⟩
abbrev main_v278 : Ref sig .tc := ⟨.hbm, 565, rfl⟩
abbrev main_v279 : Ref sig .tc := ⟨.hbm, 566, rfl⟩
abbrev main_c_102 : Ref sig .tc := ⟨.hbm, 567, rfl⟩
abbrev main_v280 : Ref sig .tc := ⟨.hbm, 568, rfl⟩
abbrev main_v281 : Ref sig .tc := ⟨.hbm, 569, rfl⟩
abbrev main_v282 : Ref sig .tc := ⟨.hbm, 570, rfl⟩
abbrev main_v283 : Ref sig .tc := ⟨.hbm, 571, rfl⟩
abbrev main_v284 : Ref sig .tc := ⟨.hbm, 572, rfl⟩
abbrev main_v285 : Ref sig .tc := ⟨.hbm, 573, rfl⟩
abbrev main_v286 : Ref sig .tc := ⟨.hbm, 574, rfl⟩
abbrev main_v287 : Ref sig .tc := ⟨.hbm, 575, rfl⟩
abbrev main_call28_call0_c : Ref sig .tc := ⟨.hbm, 576, rfl⟩
abbrev main_call28_call0_v0 : Ref sig .tc := ⟨.hbm, 577, rfl⟩
abbrev main_v288 : Ref sig .tc := ⟨.hbm, 578, rfl⟩
abbrev main_c_103 : Ref sig .tc := ⟨.hbm, 579, rfl⟩
abbrev main_v289 : Ref sig .tc := ⟨.hbm, 580, rfl⟩
abbrev main_v290 : Ref sig .tc := ⟨.hbm, 581, rfl⟩
abbrev main_v291 : Ref sig .tc := ⟨.hbm, 582, rfl⟩
abbrev main_c_104 : Ref sig .tc := ⟨.hbm, 583, rfl⟩
abbrev main_call29_v0 : Ref sig .tc := ⟨.hbm, 584, rfl⟩
abbrev main_call29_v1 : Ref sig .tc := ⟨.hbm, 585, rfl⟩
abbrev main_v292 : Ref sig .tc := ⟨.hbm, 586, rfl⟩
abbrev main_call30_c : Ref sig .tc := ⟨.hbm, 587, rfl⟩
abbrev main_call30_v0 : Ref sig .tc := ⟨.hbm, 588, rfl⟩
abbrev main_v293 : Ref sig .tc := ⟨.hbm, 589, rfl⟩
abbrev main_v294 : Ref sig .tc := ⟨.hbm, 590, rfl⟩
abbrev main_c_105 : Ref sig .tc := ⟨.hbm, 591, rfl⟩
abbrev main_v295 : Ref sig .tc := ⟨.hbm, 592, rfl⟩
abbrev main_v296 : Ref sig .tc := ⟨.hbm, 593, rfl⟩
abbrev main_v297 : Ref sig .tc := ⟨.hbm, 594, rfl⟩
abbrev main_c_106 : Ref sig .tc := ⟨.hbm, 595, rfl⟩
abbrev main_v298 : Ref sig .tc := ⟨.hbm, 596, rfl⟩
abbrev main_v299 : Ref sig .tc := ⟨.hbm, 597, rfl⟩
abbrev main_v300 : Ref sig .tc := ⟨.hbm, 598, rfl⟩
abbrev main_c_107 : Ref sig .tc := ⟨.hbm, 599, rfl⟩
abbrev main_v301 : Ref sig .tc := ⟨.hbm, 600, rfl⟩
abbrev main_v302 : Ref sig .tc := ⟨.hbm, 601, rfl⟩
abbrev main_v303 : Ref sig .tc := ⟨.hbm, 602, rfl⟩
abbrev main_c_108 : Ref sig .tc := ⟨.hbm, 603, rfl⟩
abbrev main_call31_v0 : Ref sig .tc := ⟨.hbm, 604, rfl⟩
abbrev main_call31_v1 : Ref sig .tc := ⟨.hbm, 605, rfl⟩
abbrev main_v304 : Ref sig .tc := ⟨.hbm, 606, rfl⟩
abbrev main_c_109 : Ref sig .tc := ⟨.hbm, 607, rfl⟩
abbrev main_call32_v0 : Ref sig .tc := ⟨.hbm, 608, rfl⟩
abbrev main_call32_v1 : Ref sig .tc := ⟨.hbm, 609, rfl⟩
abbrev main_v305 : Ref sig .tc := ⟨.hbm, 610, rfl⟩
abbrev main_cst_110 : Ref sig .tc := ⟨.hbm, 611, rfl⟩
abbrev main_v306 : Ref sig .tc := ⟨.hbm, 612, rfl⟩
abbrev main_c_111 : Ref sig .tc := ⟨.hbm, 613, rfl⟩
abbrev main_v307 : Ref sig .tc := ⟨.hbm, 614, rfl⟩
abbrev main_v308 : Ref sig .tc := ⟨.hbm, 615, rfl⟩
abbrev main_c_112 : Ref sig .tc := ⟨.hbm, 616, rfl⟩
abbrev main_v309 : Ref sig .tc := ⟨.hbm, 617, rfl⟩
abbrev main_v310 : Ref sig .tc := ⟨.hbm, 618, rfl⟩
abbrev main_v311 : Ref sig .tc := ⟨.hbm, 619, rfl⟩
abbrev main_c_113 : Ref sig .tc := ⟨.hbm, 620, rfl⟩
abbrev main_v312 : Ref sig .tc := ⟨.hbm, 621, rfl⟩
abbrev main_v313 : Ref sig .tc := ⟨.hbm, 622, rfl⟩
abbrev main_c_114 : Ref sig .tc := ⟨.hbm, 623, rfl⟩
abbrev main_v314 : Ref sig .tc := ⟨.hbm, 624, rfl⟩
abbrev main_v315 : Ref sig .tc := ⟨.hbm, 625, rfl⟩
abbrev main_v316 : Ref sig .tc := ⟨.hbm, 626, rfl⟩
abbrev main_v317 : Ref sig .tc := ⟨.hbm, 627, rfl⟩
abbrev main_v318 : Ref sig .tc := ⟨.hbm, 628, rfl⟩
abbrev main_v319 : Ref sig .tc := ⟨.hbm, 629, rfl⟩
abbrev main_v320 : Ref sig .tc := ⟨.hbm, 630, rfl⟩
abbrev main_c_115 : Ref sig .tc := ⟨.hbm, 631, rfl⟩
abbrev main_v321 : Ref sig .tc := ⟨.hbm, 632, rfl⟩
abbrev main_v322 : Ref sig .tc := ⟨.hbm, 633, rfl⟩
abbrev main_c_116 : Ref sig .tc := ⟨.hbm, 634, rfl⟩
abbrev main_v323 : Ref sig .tc := ⟨.hbm, 635, rfl⟩
abbrev main_v324 : Ref sig .tc := ⟨.hbm, 636, rfl⟩
abbrev main_c_117 : Ref sig .tc := ⟨.hbm, 637, rfl⟩
abbrev main_v325 : Ref sig .tc := ⟨.hbm, 638, rfl⟩
abbrev main_v326 : Ref sig .tc := ⟨.hbm, 639, rfl⟩
abbrev main_v327 : Ref sig .tc := ⟨.hbm, 640, rfl⟩
abbrev main_v328 : Ref sig .tc := ⟨.hbm, 641, rfl⟩
abbrev main_v329 : Ref sig .tc := ⟨.hbm, 642, rfl⟩
abbrev main_c_118 : Ref sig .tc := ⟨.hbm, 643, rfl⟩
abbrev main_call33_v0 : Ref sig .tc := ⟨.hbm, 644, rfl⟩
abbrev main_call33_v1 : Ref sig .tc := ⟨.hbm, 645, rfl⟩
abbrev main_call33_v2 : Ref sig .tc := ⟨.hbm, 646, rfl⟩
abbrev main_call33_v3 : Ref sig .tc := ⟨.hbm, 647, rfl⟩
abbrev main_call33_v4 : Ref sig .tc := ⟨.hbm, 648, rfl⟩
abbrev main_call33_v5 : Ref sig .tc := ⟨.hbm, 649, rfl⟩
abbrev main_call33_v6 : Ref sig .tc := ⟨.hbm, 650, rfl⟩
abbrev main_call33_v7 : Ref sig .tc := ⟨.hbm, 651, rfl⟩
abbrev main_call33_v8 : Ref sig .tc := ⟨.hbm, 652, rfl⟩
abbrev main_call33_c : Ref sig .tc := ⟨.hbm, 653, rfl⟩
abbrev main_call33_v9 : Ref sig .tc := ⟨.hbm, 654, rfl⟩
abbrev main_call33_v10 : Ref sig .tc := ⟨.hbm, 655, rfl⟩
abbrev main_call33_v11 : Ref sig .tc := ⟨.hbm, 656, rfl⟩
abbrev main_call33_c_0 : Ref sig .tc := ⟨.hbm, 657, rfl⟩
abbrev main_call33_v12 : Ref sig .tc := ⟨.hbm, 658, rfl⟩
abbrev main_call33_v13 : Ref sig .tc := ⟨.hbm, 659, rfl⟩
abbrev main_v330 : Ref sig .tc := ⟨.hbm, 660, rfl⟩
abbrev main_c_119 : Ref sig .tc := ⟨.hbm, 661, rfl⟩
abbrev main_call34_v0 : Ref sig .tc := ⟨.hbm, 662, rfl⟩
abbrev main_call34_v1 : Ref sig .tc := ⟨.hbm, 663, rfl⟩
abbrev main_call34_v2 : Ref sig .tc := ⟨.hbm, 664, rfl⟩
abbrev main_call34_v3 : Ref sig .tc := ⟨.hbm, 665, rfl⟩
abbrev main_call34_v4 : Ref sig .tc := ⟨.hbm, 666, rfl⟩
abbrev main_call34_v5 : Ref sig .tc := ⟨.hbm, 667, rfl⟩
abbrev main_call34_v6 : Ref sig .tc := ⟨.hbm, 668, rfl⟩
abbrev main_call34_v7 : Ref sig .tc := ⟨.hbm, 669, rfl⟩
abbrev main_call34_v8 : Ref sig .tc := ⟨.hbm, 670, rfl⟩
abbrev main_call34_c : Ref sig .tc := ⟨.hbm, 671, rfl⟩
abbrev main_call34_v9 : Ref sig .tc := ⟨.hbm, 672, rfl⟩
abbrev main_call34_v10 : Ref sig .tc := ⟨.hbm, 673, rfl⟩
abbrev main_call34_v11 : Ref sig .tc := ⟨.hbm, 674, rfl⟩
abbrev main_call34_c_0 : Ref sig .tc := ⟨.hbm, 675, rfl⟩
abbrev main_call34_v12 : Ref sig .tc := ⟨.hbm, 676, rfl⟩
abbrev main_call34_v13 : Ref sig .tc := ⟨.hbm, 677, rfl⟩
abbrev main_v331 : Ref sig .tc := ⟨.hbm, 678, rfl⟩
abbrev main_c_120 : Ref sig .tc := ⟨.hbm, 679, rfl⟩
abbrev main_call35_v0 : Ref sig .tc := ⟨.hbm, 680, rfl⟩
abbrev main_call35_c : Ref sig .tc := ⟨.hbm, 681, rfl⟩
abbrev main_call35_v1 : Ref sig .tc := ⟨.hbm, 682, rfl⟩
abbrev main_call35_c_0 : Ref sig .tc := ⟨.hbm, 683, rfl⟩
abbrev main_call35_v2 : Ref sig .tc := ⟨.hbm, 684, rfl⟩
abbrev main_call35_v3 : Ref sig .tc := ⟨.hbm, 685, rfl⟩
abbrev main_call35_v4 : Ref sig .tc := ⟨.hbm, 686, rfl⟩
abbrev main_call35_c_1 : Ref sig .tc := ⟨.hbm, 687, rfl⟩
abbrev main_call35_v5 : Ref sig .tc := ⟨.hbm, 688, rfl⟩
abbrev main_call35_v6 : Ref sig .tc := ⟨.hbm, 689, rfl⟩
abbrev main_call35_c_2 : Ref sig .tc := ⟨.hbm, 690, rfl⟩
abbrev main_call35_v7 : Ref sig .tc := ⟨.hbm, 691, rfl⟩
abbrev main_call35_v8 : Ref sig .tc := ⟨.hbm, 692, rfl⟩
abbrev main_call35_c_3 : Ref sig .tc := ⟨.hbm, 693, rfl⟩
abbrev main_call35_v9 : Ref sig .tc := ⟨.hbm, 694, rfl⟩
abbrev main_call35_v10 : Ref sig .tc := ⟨.hbm, 695, rfl⟩
abbrev main_call35_v11 : Ref sig .tc := ⟨.hbm, 696, rfl⟩
abbrev main_call35_v12 : Ref sig .tc := ⟨.hbm, 697, rfl⟩
abbrev main_call35_v13 : Ref sig .tc := ⟨.hbm, 698, rfl⟩
abbrev main_call35_v14 : Ref sig .tc := ⟨.hbm, 699, rfl⟩
abbrev main_v332 : Ref sig .tc := ⟨.hbm, 700, rfl⟩
abbrev main_c_121 : Ref sig .tc := ⟨.hbm, 701, rfl⟩
abbrev main_call36_v0 : Ref sig .tc := ⟨.hbm, 702, rfl⟩
abbrev main_call36_c : Ref sig .tc := ⟨.hbm, 703, rfl⟩
abbrev main_call36_v1 : Ref sig .tc := ⟨.hbm, 704, rfl⟩
abbrev main_call36_c_0 : Ref sig .tc := ⟨.hbm, 705, rfl⟩
abbrev main_call36_v2 : Ref sig .tc := ⟨.hbm, 706, rfl⟩
abbrev main_call36_v3 : Ref sig .tc := ⟨.hbm, 707, rfl⟩
abbrev main_call36_v4 : Ref sig .tc := ⟨.hbm, 708, rfl⟩
abbrev main_call36_c_1 : Ref sig .tc := ⟨.hbm, 709, rfl⟩
abbrev main_call36_v5 : Ref sig .tc := ⟨.hbm, 710, rfl⟩
abbrev main_call36_v6 : Ref sig .tc := ⟨.hbm, 711, rfl⟩
abbrev main_call36_c_2 : Ref sig .tc := ⟨.hbm, 712, rfl⟩
abbrev main_call36_v7 : Ref sig .tc := ⟨.hbm, 713, rfl⟩
abbrev main_call36_v8 : Ref sig .tc := ⟨.hbm, 714, rfl⟩
abbrev main_call36_c_3 : Ref sig .tc := ⟨.hbm, 715, rfl⟩
abbrev main_call36_v9 : Ref sig .tc := ⟨.hbm, 716, rfl⟩
abbrev main_call36_v10 : Ref sig .tc := ⟨.hbm, 717, rfl⟩
abbrev main_call36_v11 : Ref sig .tc := ⟨.hbm, 718, rfl⟩
abbrev main_call36_v12 : Ref sig .tc := ⟨.hbm, 719, rfl⟩
abbrev main_call36_v13 : Ref sig .tc := ⟨.hbm, 720, rfl⟩
abbrev main_call36_v14 : Ref sig .tc := ⟨.hbm, 721, rfl⟩
abbrev main_v333 : Ref sig .tc := ⟨.hbm, 722, rfl⟩
abbrev main_v334 : Ref sig .tc := ⟨.hbm, 723, rfl⟩
abbrev main_v335 : Ref sig .tc := ⟨.hbm, 724, rfl⟩
abbrev main_v336 : Ref sig .tc := ⟨.hbm, 725, rfl⟩
abbrev main_v337 : Ref sig .tc := ⟨.hbm, 726, rfl⟩
abbrev main_c_122 : Ref sig .tc := ⟨.hbm, 727, rfl⟩
abbrev main_v338 : Ref sig .tc := ⟨.hbm, 728, rfl⟩
abbrev main_v339 : Ref sig .tc := ⟨.hbm, 729, rfl⟩
abbrev main_v340 : Ref sig .tc := ⟨.hbm, 730, rfl⟩
abbrev main_c_123 : Ref sig .tc := ⟨.hbm, 731, rfl⟩
abbrev main_call37_v0 : Ref sig .tc := ⟨.hbm, 732, rfl⟩
abbrev main_call37_v1 : Ref sig .tc := ⟨.hbm, 733, rfl⟩
abbrev main_v341 : Ref sig .tc := ⟨.hbm, 734, rfl⟩
abbrev main_c_124 : Ref sig .tc := ⟨.hbm, 735, rfl⟩
abbrev main_v342 : Ref sig .tc := ⟨.hbm, 736, rfl⟩
abbrev main_c_125 : Ref sig .tc := ⟨.hbm, 737, rfl⟩
abbrev main_v343 : Ref sig .tc := ⟨.hbm, 738, rfl⟩
abbrev main_v344 : Ref sig .tc := ⟨.hbm, 739, rfl⟩
abbrev main_c_126 : Ref sig .tc := ⟨.hbm, 740, rfl⟩
abbrev main_v345 : Ref sig .tc := ⟨.hbm, 741, rfl⟩
abbrev main_v346 : Ref sig .tc := ⟨.hbm, 742, rfl⟩
abbrev main_v347 : Ref sig .tc := ⟨.hbm, 743, rfl⟩
abbrev main_v348 : Ref sig .tc := ⟨.hbm, 744, rfl⟩
abbrev main_v349 : Ref sig .tc := ⟨.hbm, 745, rfl⟩
abbrev main_c_127 : Ref sig .tc := ⟨.hbm, 746, rfl⟩
abbrev main_call38_v0 : Ref sig .tc := ⟨.hbm, 747, rfl⟩
abbrev main_v350 : Ref sig .tc := ⟨.hbm, 748, rfl⟩
abbrev main_v351 : Ref sig .tc := ⟨.hbm, 749, rfl⟩
abbrev main_v352 : Ref sig .tc := ⟨.hbm, 750, rfl⟩
abbrev main_v353 : Ref sig .tc := ⟨.hbm, 751, rfl⟩
abbrev main_v354 : Ref sig .tc := ⟨.hbm, 752, rfl⟩
abbrev main_v355 : Ref sig .tc := ⟨.hbm, 753, rfl⟩
abbrev main_v356 : Ref sig .tc := ⟨.hbm, 754, rfl⟩
abbrev main_v357 : Ref sig .tc := ⟨.hbm, 755, rfl⟩
abbrev main_v358 : Ref sig .tc := ⟨.hbm, 756, rfl⟩
abbrev main_v359 : Ref sig .tc := ⟨.hbm, 757, rfl⟩
abbrev main_v360 : Ref sig .tc := ⟨.hbm, 758, rfl⟩
abbrev main_v361 : Ref sig .tc := ⟨.hbm, 759, rfl⟩
abbrev main_c_128 : Ref sig .tc := ⟨.hbm, 760, rfl⟩
abbrev main_v362 : Ref sig .tc := ⟨.hbm, 761, rfl⟩
abbrev main_v363 : Ref sig .tc := ⟨.hbm, 762, rfl⟩
abbrev main_v364 : Ref sig .tc := ⟨.hbm, 763, rfl⟩
abbrev main_v365 : Ref sig .tc := ⟨.hbm, 764, rfl⟩
abbrev main_v366 : Ref sig .tc := ⟨.hbm, 765, rfl⟩
abbrev main_v367 : Ref sig .tc := ⟨.hbm, 766, rfl⟩
abbrev main_c_129 : Ref sig .tc := ⟨.hbm, 767, rfl⟩
abbrev main_v368 : Ref sig .tc := ⟨.hbm, 768, rfl⟩
abbrev main_v369 : Ref sig .tc := ⟨.hbm, 769, rfl⟩
abbrev main_v370 : Ref sig .tc := ⟨.hbm, 770, rfl⟩
abbrev main_c_130 : Ref sig .tc := ⟨.hbm, 771, rfl⟩
abbrev main_v371 : Ref sig .tc := ⟨.hbm, 772, rfl⟩
abbrev main_v372 : Ref sig .tc := ⟨.hbm, 773, rfl⟩
abbrev main_v373 : Ref sig .tc := ⟨.hbm, 774, rfl⟩
abbrev main_v374 : Ref sig .tc := ⟨.hbm, 775, rfl⟩
abbrev main_v375 : Ref sig .tc := ⟨.hbm, 776, rfl⟩
abbrev main_c_131 : Ref sig .tc := ⟨.hbm, 777, rfl⟩
abbrev main_v376 : Ref sig .tc := ⟨.hbm, 778, rfl⟩
abbrev main_v377 : Ref sig .tc := ⟨.hbm, 779, rfl⟩
abbrev main_v378 : Ref sig .tc := ⟨.hbm, 780, rfl⟩
abbrev main_v379 : Ref sig .tc := ⟨.hbm, 781, rfl⟩
abbrev main_v380 : Ref sig .tc := ⟨.hbm, 782, rfl⟩
abbrev main_c_132 : Ref sig .tc := ⟨.hbm, 783, rfl⟩
abbrev main_call39_v0 : Ref sig .tc := ⟨.hbm, 784, rfl⟩
abbrev main_call39_v1 : Ref sig .tc := ⟨.hbm, 785, rfl⟩
abbrev main_v381 : Ref sig .tc := ⟨.hbm, 786, rfl⟩
abbrev main_call40_v0 : Ref sig .tc := ⟨.hbm, 787, rfl⟩
abbrev main_call40_v1_0 : Ref sig .tc := ⟨.hbm, 788, rfl⟩
abbrev main_v382 : Ref sig .tc := ⟨.hbm, 789, rfl⟩
abbrev main_c_133 : Ref sig .tc := ⟨.hbm, 790, rfl⟩
abbrev main_v383 : Ref sig .tc := ⟨.hbm, 791, rfl⟩
abbrev main_v384 : Ref sig .tc := ⟨.hbm, 792, rfl⟩
abbrev main_c_134 : Ref sig .tc := ⟨.hbm, 793, rfl⟩
abbrev main_v385 : Ref sig .tc := ⟨.hbm, 794, rfl⟩
abbrev main_v386 : Ref sig .tc := ⟨.hbm, 795, rfl⟩
abbrev main_v387 : Ref sig .tc := ⟨.hbm, 796, rfl⟩
abbrev main_v388 : Ref sig .tc := ⟨.hbm, 797, rfl⟩
abbrev main_v389 : Ref sig .tc := ⟨.hbm, 798, rfl⟩
abbrev main_c_135 : Ref sig .tc := ⟨.hbm, 799, rfl⟩
abbrev main_v390 : Ref sig .tc := ⟨.hbm, 800, rfl⟩
abbrev main_v391 : Ref sig .tc := ⟨.hbm, 801, rfl⟩
abbrev main_c_136 : Ref sig .tc := ⟨.hbm, 802, rfl⟩
abbrev main_v392 : Ref sig .tc := ⟨.hbm, 803, rfl⟩
abbrev main_v393 : Ref sig .tc := ⟨.hbm, 804, rfl⟩
abbrev main_v394 : Ref sig .tc := ⟨.hbm, 805, rfl⟩
abbrev main_v395 : Ref sig .tc := ⟨.hbm, 806, rfl⟩
abbrev main_v396 : Ref sig .tc := ⟨.hbm, 807, rfl⟩
abbrev main_c_137 : Ref sig .tc := ⟨.hbm, 808, rfl⟩
abbrev main_v397 : Ref sig .tc := ⟨.hbm, 809, rfl⟩
abbrev main_v398 : Ref sig .tc := ⟨.hbm, 810, rfl⟩
abbrev main_v399 : Ref sig .tc := ⟨.hbm, 811, rfl⟩
abbrev main_v400 : Ref sig .tc := ⟨.hbm, 812, rfl⟩
abbrev main_v401 : Ref sig .tc := ⟨.hbm, 813, rfl⟩
abbrev main_v402 : Ref sig .tc := ⟨.hbm, 814, rfl⟩
abbrev main_v403 : Ref sig .tc := ⟨.hbm, 815, rfl⟩
abbrev main_v404 : Ref sig .tc := ⟨.hbm, 816, rfl⟩
abbrev main_call41_call0_c : Ref sig .tc := ⟨.hbm, 817, rfl⟩
abbrev main_call41_call0_v0 : Ref sig .tc := ⟨.hbm, 818, rfl⟩
abbrev main_v405 : Ref sig .tc := ⟨.hbm, 819, rfl⟩
abbrev main_c_138 : Ref sig .tc := ⟨.hbm, 820, rfl⟩
abbrev main_v406 : Ref sig .tc := ⟨.hbm, 821, rfl⟩
abbrev main_v407 : Ref sig .tc := ⟨.hbm, 822, rfl⟩
abbrev main_v408 : Ref sig .tc := ⟨.hbm, 823, rfl⟩
abbrev main_c_139 : Ref sig .tc := ⟨.hbm, 824, rfl⟩
abbrev main_call42_v0 : Ref sig .tc := ⟨.hbm, 825, rfl⟩
abbrev main_call42_v1 : Ref sig .tc := ⟨.hbm, 826, rfl⟩
abbrev main_v409 : Ref sig .tc := ⟨.hbm, 827, rfl⟩
abbrev main_call43_c : Ref sig .tc := ⟨.hbm, 828, rfl⟩
abbrev main_call43_v0 : Ref sig .tc := ⟨.hbm, 829, rfl⟩
abbrev main_v410 : Ref sig .tc := ⟨.hbm, 830, rfl⟩
abbrev main_v411 : Ref sig .tc := ⟨.hbm, 831, rfl⟩
abbrev main_c_140 : Ref sig .tc := ⟨.hbm, 832, rfl⟩
abbrev main_v412 : Ref sig .tc := ⟨.hbm, 833, rfl⟩
abbrev main_v413 : Ref sig .tc := ⟨.hbm, 834, rfl⟩
abbrev main_v414 : Ref sig .tc := ⟨.hbm, 835, rfl⟩
abbrev main_c_141 : Ref sig .tc := ⟨.hbm, 836, rfl⟩
abbrev main_v415 : Ref sig .tc := ⟨.hbm, 837, rfl⟩
abbrev main_v416 : Ref sig .tc := ⟨.hbm, 838, rfl⟩
abbrev main_v417 : Ref sig .tc := ⟨.hbm, 839, rfl⟩
abbrev main_c_142 : Ref sig .tc := ⟨.hbm, 840, rfl⟩
abbrev main_v418 : Ref sig .tc := ⟨.hbm, 841, rfl⟩
abbrev main_v419 : Ref sig .tc := ⟨.hbm, 842, rfl⟩
abbrev main_v420 : Ref sig .tc := ⟨.hbm, 843, rfl⟩
abbrev main_c_143 : Ref sig .tc := ⟨.hbm, 844, rfl⟩
abbrev main_call44_v0 : Ref sig .tc := ⟨.hbm, 845, rfl⟩
abbrev main_call44_v1 : Ref sig .tc := ⟨.hbm, 846, rfl⟩
abbrev main_v421 : Ref sig .tc := ⟨.hbm, 847, rfl⟩
abbrev main_c_144 : Ref sig .tc := ⟨.hbm, 848, rfl⟩
abbrev main_call45_v0 : Ref sig .tc := ⟨.hbm, 849, rfl⟩
abbrev main_call45_v1 : Ref sig .tc := ⟨.hbm, 850, rfl⟩
abbrev main_v422 : Ref sig .tc := ⟨.hbm, 851, rfl⟩
abbrev main_cst_145 : Ref sig .tc := ⟨.hbm, 852, rfl⟩
abbrev main_v423 : Ref sig .tc := ⟨.hbm, 853, rfl⟩
abbrev main_c_146 : Ref sig .tc := ⟨.hbm, 854, rfl⟩
abbrev main_v424 : Ref sig .tc := ⟨.hbm, 855, rfl⟩
abbrev main_v425 : Ref sig .tc := ⟨.hbm, 856, rfl⟩
abbrev main_c_147 : Ref sig .tc := ⟨.hbm, 857, rfl⟩
abbrev main_v426 : Ref sig .tc := ⟨.hbm, 858, rfl⟩
abbrev main_v427 : Ref sig .tc := ⟨.hbm, 859, rfl⟩
abbrev main_v428 : Ref sig .tc := ⟨.hbm, 860, rfl⟩
abbrev main_c_148 : Ref sig .tc := ⟨.hbm, 861, rfl⟩
abbrev main_v429 : Ref sig .tc := ⟨.hbm, 862, rfl⟩
abbrev main_v430 : Ref sig .tc := ⟨.hbm, 863, rfl⟩
abbrev main_c_149 : Ref sig .tc := ⟨.hbm, 864, rfl⟩
abbrev main_v431 : Ref sig .tc := ⟨.hbm, 865, rfl⟩
abbrev main_v432 : Ref sig .tc := ⟨.hbm, 866, rfl⟩
abbrev main_v433 : Ref sig .tc := ⟨.hbm, 867, rfl⟩
abbrev main_v434 : Ref sig .tc := ⟨.hbm, 868, rfl⟩
abbrev main_v435 : Ref sig .tc := ⟨.hbm, 869, rfl⟩
abbrev main_v436 : Ref sig .tc := ⟨.hbm, 870, rfl⟩
abbrev main_v437 : Ref sig .tc := ⟨.hbm, 871, rfl⟩
abbrev main_c_150 : Ref sig .tc := ⟨.hbm, 872, rfl⟩
abbrev main_v438 : Ref sig .tc := ⟨.hbm, 873, rfl⟩
abbrev main_v439 : Ref sig .tc := ⟨.hbm, 874, rfl⟩
abbrev main_c_151 : Ref sig .tc := ⟨.hbm, 875, rfl⟩
abbrev main_v440 : Ref sig .tc := ⟨.hbm, 876, rfl⟩
abbrev main_v441 : Ref sig .tc := ⟨.hbm, 877, rfl⟩
abbrev main_c_152 : Ref sig .tc := ⟨.hbm, 878, rfl⟩
abbrev main_v442 : Ref sig .tc := ⟨.hbm, 879, rfl⟩
abbrev main_v443 : Ref sig .tc := ⟨.hbm, 880, rfl⟩
abbrev main_v444 : Ref sig .tc := ⟨.hbm, 881, rfl⟩
abbrev main_v445 : Ref sig .tc := ⟨.hbm, 882, rfl⟩
abbrev main_v446 : Ref sig .tc := ⟨.hbm, 883, rfl⟩
abbrev main_c_153 : Ref sig .tc := ⟨.hbm, 884, rfl⟩
abbrev main_call46_v0 : Ref sig .tc := ⟨.hbm, 885, rfl⟩
abbrev main_call46_v1 : Ref sig .tc := ⟨.hbm, 886, rfl⟩
abbrev main_call46_v2 : Ref sig .tc := ⟨.hbm, 887, rfl⟩
abbrev main_call46_v3 : Ref sig .tc := ⟨.hbm, 888, rfl⟩
abbrev main_call46_v4 : Ref sig .tc := ⟨.hbm, 889, rfl⟩
abbrev main_call46_v5 : Ref sig .tc := ⟨.hbm, 890, rfl⟩
abbrev main_call46_v6 : Ref sig .tc := ⟨.hbm, 891, rfl⟩
abbrev main_call46_v7 : Ref sig .tc := ⟨.hbm, 892, rfl⟩
abbrev main_call46_v8 : Ref sig .tc := ⟨.hbm, 893, rfl⟩
abbrev main_call46_c : Ref sig .tc := ⟨.hbm, 894, rfl⟩
abbrev main_call46_v9 : Ref sig .tc := ⟨.hbm, 895, rfl⟩
abbrev main_call46_v10 : Ref sig .tc := ⟨.hbm, 896, rfl⟩
abbrev main_call46_v11 : Ref sig .tc := ⟨.hbm, 897, rfl⟩
abbrev main_call46_c_0 : Ref sig .tc := ⟨.hbm, 898, rfl⟩
abbrev main_call46_v12 : Ref sig .tc := ⟨.hbm, 899, rfl⟩
abbrev main_call46_v13 : Ref sig .tc := ⟨.hbm, 900, rfl⟩
abbrev main_v447 : Ref sig .tc := ⟨.hbm, 901, rfl⟩
abbrev main_c_154 : Ref sig .tc := ⟨.hbm, 902, rfl⟩
abbrev main_call47_v0 : Ref sig .tc := ⟨.hbm, 903, rfl⟩
abbrev main_call47_v1 : Ref sig .tc := ⟨.hbm, 904, rfl⟩
abbrev main_call47_v2 : Ref sig .tc := ⟨.hbm, 905, rfl⟩
abbrev main_call47_v3 : Ref sig .tc := ⟨.hbm, 906, rfl⟩
abbrev main_call47_v4 : Ref sig .tc := ⟨.hbm, 907, rfl⟩
abbrev main_call47_v5 : Ref sig .tc := ⟨.hbm, 908, rfl⟩
abbrev main_call47_v6 : Ref sig .tc := ⟨.hbm, 909, rfl⟩
abbrev main_call47_v7 : Ref sig .tc := ⟨.hbm, 910, rfl⟩
abbrev main_call47_v8 : Ref sig .tc := ⟨.hbm, 911, rfl⟩
abbrev main_call47_c : Ref sig .tc := ⟨.hbm, 912, rfl⟩
abbrev main_call47_v9 : Ref sig .tc := ⟨.hbm, 913, rfl⟩
abbrev main_call47_v10 : Ref sig .tc := ⟨.hbm, 914, rfl⟩
abbrev main_call47_v11 : Ref sig .tc := ⟨.hbm, 915, rfl⟩
abbrev main_call47_c_0 : Ref sig .tc := ⟨.hbm, 916, rfl⟩
abbrev main_call47_v12 : Ref sig .tc := ⟨.hbm, 917, rfl⟩
abbrev main_call47_v13 : Ref sig .tc := ⟨.hbm, 918, rfl⟩
abbrev main_v448 : Ref sig .tc := ⟨.hbm, 919, rfl⟩
abbrev main_c_155 : Ref sig .tc := ⟨.hbm, 920, rfl⟩
abbrev main_call48_v0 : Ref sig .tc := ⟨.hbm, 921, rfl⟩
abbrev main_call48_c : Ref sig .tc := ⟨.hbm, 922, rfl⟩
abbrev main_call48_v1 : Ref sig .tc := ⟨.hbm, 923, rfl⟩
abbrev main_call48_c_0 : Ref sig .tc := ⟨.hbm, 924, rfl⟩
abbrev main_call48_v2 : Ref sig .tc := ⟨.hbm, 925, rfl⟩
abbrev main_call48_v3 : Ref sig .tc := ⟨.hbm, 926, rfl⟩
abbrev main_call48_v4 : Ref sig .tc := ⟨.hbm, 927, rfl⟩
abbrev main_call48_c_1 : Ref sig .tc := ⟨.hbm, 928, rfl⟩
abbrev main_call48_v5 : Ref sig .tc := ⟨.hbm, 929, rfl⟩
abbrev main_call48_v6 : Ref sig .tc := ⟨.hbm, 930, rfl⟩
abbrev main_call48_c_2 : Ref sig .tc := ⟨.hbm, 931, rfl⟩
abbrev main_call48_v7 : Ref sig .tc := ⟨.hbm, 932, rfl⟩
abbrev main_call48_v8 : Ref sig .tc := ⟨.hbm, 933, rfl⟩
abbrev main_call48_c_3 : Ref sig .tc := ⟨.hbm, 934, rfl⟩
abbrev main_call48_v9 : Ref sig .tc := ⟨.hbm, 935, rfl⟩
abbrev main_call48_v10 : Ref sig .tc := ⟨.hbm, 936, rfl⟩
abbrev main_call48_v11 : Ref sig .tc := ⟨.hbm, 937, rfl⟩
abbrev main_call48_v12 : Ref sig .tc := ⟨.hbm, 938, rfl⟩
abbrev main_call48_v13 : Ref sig .tc := ⟨.hbm, 939, rfl⟩
abbrev main_call48_v14 : Ref sig .tc := ⟨.hbm, 940, rfl⟩
abbrev main_v449 : Ref sig .tc := ⟨.hbm, 941, rfl⟩
abbrev main_c_156 : Ref sig .tc := ⟨.hbm, 942, rfl⟩
abbrev main_call49_v0 : Ref sig .tc := ⟨.hbm, 943, rfl⟩
abbrev main_call49_c : Ref sig .tc := ⟨.hbm, 944, rfl⟩
abbrev main_call49_v1 : Ref sig .tc := ⟨.hbm, 945, rfl⟩
abbrev main_call49_c_0 : Ref sig .tc := ⟨.hbm, 946, rfl⟩
abbrev main_call49_v2 : Ref sig .tc := ⟨.hbm, 947, rfl⟩
abbrev main_call49_v3 : Ref sig .tc := ⟨.hbm, 948, rfl⟩
abbrev main_call49_v4 : Ref sig .tc := ⟨.hbm, 949, rfl⟩
abbrev main_call49_c_1 : Ref sig .tc := ⟨.hbm, 950, rfl⟩
abbrev main_call49_v5 : Ref sig .tc := ⟨.hbm, 951, rfl⟩
abbrev main_call49_v6 : Ref sig .tc := ⟨.hbm, 952, rfl⟩
abbrev main_call49_c_2 : Ref sig .tc := ⟨.hbm, 953, rfl⟩
abbrev main_call49_v7 : Ref sig .tc := ⟨.hbm, 954, rfl⟩
abbrev main_call49_v8 : Ref sig .tc := ⟨.hbm, 955, rfl⟩
abbrev main_call49_c_3 : Ref sig .tc := ⟨.hbm, 956, rfl⟩
abbrev main_call49_v9 : Ref sig .tc := ⟨.hbm, 957, rfl⟩
abbrev main_call49_v10 : Ref sig .tc := ⟨.hbm, 958, rfl⟩
abbrev main_call49_v11 : Ref sig .tc := ⟨.hbm, 959, rfl⟩
abbrev main_call49_v12 : Ref sig .tc := ⟨.hbm, 960, rfl⟩
abbrev main_call49_v13 : Ref sig .tc := ⟨.hbm, 961, rfl⟩
abbrev main_call49_v14 : Ref sig .tc := ⟨.hbm, 962, rfl⟩
abbrev main_v450 : Ref sig .tc := ⟨.hbm, 963, rfl⟩
abbrev main_v451 : Ref sig .tc := ⟨.hbm, 964, rfl⟩
abbrev main_v452 : Ref sig .tc := ⟨.hbm, 965, rfl⟩
abbrev main_v453 : Ref sig .tc := ⟨.hbm, 966, rfl⟩
abbrev main_v454 : Ref sig .tc := ⟨.hbm, 967, rfl⟩
abbrev main_c_157 : Ref sig .tc := ⟨.hbm, 968, rfl⟩
abbrev main_v455 : Ref sig .tc := ⟨.hbm, 969, rfl⟩
abbrev main_v456 : Ref sig .tc := ⟨.hbm, 970, rfl⟩
abbrev main_v457 : Ref sig .tc := ⟨.hbm, 971, rfl⟩
abbrev main_c_158 : Ref sig .tc := ⟨.hbm, 972, rfl⟩
abbrev main_call50_v0 : Ref sig .tc := ⟨.hbm, 973, rfl⟩
abbrev main_call50_v1 : Ref sig .tc := ⟨.hbm, 974, rfl⟩
abbrev main_v458 : Ref sig .tc := ⟨.hbm, 975, rfl⟩
abbrev main_c_159 : Ref sig .tc := ⟨.hbm, 976, rfl⟩
abbrev main_v459 : Ref sig .tc := ⟨.hbm, 977, rfl⟩
abbrev main_c_160 : Ref sig .tc := ⟨.hbm, 978, rfl⟩
abbrev main_v460 : Ref sig .tc := ⟨.hbm, 979, rfl⟩
abbrev main_v461 : Ref sig .tc := ⟨.hbm, 980, rfl⟩
abbrev main_c_161 : Ref sig .tc := ⟨.hbm, 981, rfl⟩
abbrev main_v462 : Ref sig .tc := ⟨.hbm, 982, rfl⟩
abbrev main_v463 : Ref sig .tc := ⟨.hbm, 983, rfl⟩
abbrev main_v464 : Ref sig .tc := ⟨.hbm, 984, rfl⟩
abbrev main_v465 : Ref sig .tc := ⟨.hbm, 985, rfl⟩
abbrev main_v466 : Ref sig .tc := ⟨.hbm, 986, rfl⟩
abbrev main_c_162 : Ref sig .tc := ⟨.hbm, 987, rfl⟩
abbrev main_call51_v0 : Ref sig .tc := ⟨.hbm, 988, rfl⟩
abbrev main_v467 : Ref sig .tc := ⟨.hbm, 989, rfl⟩
abbrev main_v468 : Ref sig .tc := ⟨.hbm, 990, rfl⟩
abbrev main_v469 : Ref sig .tc := ⟨.hbm, 991, rfl⟩
abbrev main_v470 : Ref sig .tc := ⟨.hbm, 992, rfl⟩
abbrev main_v471 : Ref sig .tc := ⟨.hbm, 993, rfl⟩
abbrev main_v472 : Ref sig .tc := ⟨.hbm, 994, rfl⟩
abbrev main_v473 : Ref sig .tc := ⟨.hbm, 995, rfl⟩
abbrev main_v474 : Ref sig .tc := ⟨.hbm, 996, rfl⟩
abbrev main_v475 : Ref sig .tc := ⟨.hbm, 997, rfl⟩
abbrev main_v476 : Ref sig .tc := ⟨.hbm, 998, rfl⟩
abbrev main_v477 : Ref sig .tc := ⟨.hbm, 999, rfl⟩
abbrev main_v478 : Ref sig .tc := ⟨.hbm, 1000, rfl⟩
abbrev main_c_163 : Ref sig .tc := ⟨.hbm, 1001, rfl⟩
abbrev main_v479 : Ref sig .tc := ⟨.hbm, 1002, rfl⟩
abbrev main_v480 : Ref sig .tc := ⟨.hbm, 1003, rfl⟩
abbrev main_v481 : Ref sig .tc := ⟨.hbm, 1004, rfl⟩
abbrev main_v482 : Ref sig .tc := ⟨.hbm, 1005, rfl⟩
abbrev main_v483 : Ref sig .tc := ⟨.hbm, 1006, rfl⟩
abbrev main_v484 : Ref sig .tc := ⟨.hbm, 1007, rfl⟩
abbrev main_c_164 : Ref sig .tc := ⟨.hbm, 1008, rfl⟩
abbrev main_v485 : Ref sig .tc := ⟨.hbm, 1009, rfl⟩
abbrev main_v486 : Ref sig .tc := ⟨.hbm, 1010, rfl⟩
abbrev main_v487 : Ref sig .tc := ⟨.hbm, 1011, rfl⟩
abbrev main_c_165 : Ref sig .tc := ⟨.hbm, 1012, rfl⟩
abbrev main_v488 : Ref sig .tc := ⟨.hbm, 1013, rfl⟩
abbrev main_v489 : Ref sig .tc := ⟨.hbm, 1014, rfl⟩
abbrev main_v490 : Ref sig .tc := ⟨.hbm, 1015, rfl⟩
abbrev main_v491 : Ref sig .tc := ⟨.hbm, 1016, rfl⟩
abbrev main_v492 : Ref sig .tc := ⟨.hbm, 1017, rfl⟩
abbrev main_c_166 : Ref sig .tc := ⟨.hbm, 1018, rfl⟩
abbrev main_v493 : Ref sig .tc := ⟨.hbm, 1019, rfl⟩
abbrev main_v494 : Ref sig .tc := ⟨.hbm, 1020, rfl⟩
abbrev main_v495 : Ref sig .tc := ⟨.hbm, 1021, rfl⟩
abbrev main_v496 : Ref sig .tc := ⟨.hbm, 1022, rfl⟩
abbrev main_v497 : Ref sig .tc := ⟨.hbm, 1023, rfl⟩
abbrev main_c_167 : Ref sig .tc := ⟨.hbm, 1024, rfl⟩
abbrev main_call52_v0 : Ref sig .tc := ⟨.hbm, 1025, rfl⟩
abbrev main_call52_v1 : Ref sig .tc := ⟨.hbm, 1026, rfl⟩
abbrev main_v498 : Ref sig .tc := ⟨.hbm, 1027, rfl⟩
abbrev main_call53_v0 : Ref sig .tc := ⟨.hbm, 1028, rfl⟩
abbrev main_call53_v1_0 : Ref sig .tc := ⟨.hbm, 1029, rfl⟩
abbrev main_v499 : Ref sig .tc := ⟨.hbm, 1030, rfl⟩
abbrev main_c_168 : Ref sig .tc := ⟨.hbm, 1031, rfl⟩
abbrev main_v500 : Ref sig .tc := ⟨.hbm, 1032, rfl⟩
abbrev main_v501 : Ref sig .tc := ⟨.hbm, 1033, rfl⟩
abbrev main_c_169 : Ref sig .tc := ⟨.hbm, 1034, rfl⟩
abbrev main_v502 : Ref sig .tc := ⟨.hbm, 1035, rfl⟩
abbrev main_v503 : Ref sig .tc := ⟨.hbm, 1036, rfl⟩
abbrev main_v504 : Ref sig .tc := ⟨.hbm, 1037, rfl⟩
abbrev main_v505 : Ref sig .tc := ⟨.hbm, 1038, rfl⟩
abbrev main_v506 : Ref sig .tc := ⟨.hbm, 1039, rfl⟩
abbrev main_c_170 : Ref sig .tc := ⟨.hbm, 1040, rfl⟩
abbrev main_v507 : Ref sig .tc := ⟨.hbm, 1041, rfl⟩
abbrev main_v508 : Ref sig .tc := ⟨.hbm, 1042, rfl⟩
abbrev main_c_171 : Ref sig .tc := ⟨.hbm, 1043, rfl⟩
abbrev main_v509 : Ref sig .tc := ⟨.hbm, 1044, rfl⟩
abbrev main_v510 : Ref sig .tc := ⟨.hbm, 1045, rfl⟩
abbrev main_v511 : Ref sig .tc := ⟨.hbm, 1046, rfl⟩
abbrev main_v512 : Ref sig .tc := ⟨.hbm, 1047, rfl⟩
abbrev main_v513 : Ref sig .tc := ⟨.hbm, 1048, rfl⟩
abbrev main_c_172 : Ref sig .tc := ⟨.hbm, 1049, rfl⟩
abbrev main_v514 : Ref sig .tc := ⟨.hbm, 1050, rfl⟩
abbrev main_v515 : Ref sig .tc := ⟨.hbm, 1051, rfl⟩
abbrev main_v516 : Ref sig .tc := ⟨.hbm, 1052, rfl⟩
abbrev main_v517 : Ref sig .tc := ⟨.hbm, 1053, rfl⟩
abbrev main_v518 : Ref sig .tc := ⟨.hbm, 1054, rfl⟩
abbrev main_v519 : Ref sig .tc := ⟨.hbm, 1055, rfl⟩
abbrev main_v520 : Ref sig .tc := ⟨.hbm, 1056, rfl⟩
abbrev main_v521 : Ref sig .tc := ⟨.hbm, 1057, rfl⟩
abbrev main_call54_call0_c : Ref sig .tc := ⟨.hbm, 1058, rfl⟩
abbrev main_call54_call0_v0 : Ref sig .tc := ⟨.hbm, 1059, rfl⟩
abbrev main_v522 : Ref sig .tc := ⟨.hbm, 1060, rfl⟩
abbrev main_c_173 : Ref sig .tc := ⟨.hbm, 1061, rfl⟩
abbrev main_v523 : Ref sig .tc := ⟨.hbm, 1062, rfl⟩
abbrev main_v524 : Ref sig .tc := ⟨.hbm, 1063, rfl⟩
abbrev main_v525 : Ref sig .tc := ⟨.hbm, 1064, rfl⟩
abbrev main_c_174 : Ref sig .tc := ⟨.hbm, 1065, rfl⟩
abbrev main_call55_v0 : Ref sig .tc := ⟨.hbm, 1066, rfl⟩
abbrev main_call55_v1 : Ref sig .tc := ⟨.hbm, 1067, rfl⟩
abbrev main_v526 : Ref sig .tc := ⟨.hbm, 1068, rfl⟩
abbrev main_call56_c : Ref sig .tc := ⟨.hbm, 1069, rfl⟩
abbrev main_call56_v0 : Ref sig .tc := ⟨.hbm, 1070, rfl⟩
abbrev main_v527 : Ref sig .tc := ⟨.hbm, 1071, rfl⟩
abbrev main_v528 : Ref sig .tc := ⟨.hbm, 1072, rfl⟩
abbrev main_c_175 : Ref sig .tc := ⟨.hbm, 1073, rfl⟩
abbrev main_v529 : Ref sig .tc := ⟨.hbm, 1074, rfl⟩
abbrev main_v530 : Ref sig .tc := ⟨.hbm, 1075, rfl⟩
abbrev main_v531 : Ref sig .tc := ⟨.hbm, 1076, rfl⟩
abbrev main_c_176 : Ref sig .tc := ⟨.hbm, 1077, rfl⟩
abbrev main_v532 : Ref sig .tc := ⟨.hbm, 1078, rfl⟩
abbrev main_v533 : Ref sig .tc := ⟨.hbm, 1079, rfl⟩
abbrev main_v534 : Ref sig .tc := ⟨.hbm, 1080, rfl⟩
abbrev main_c_177 : Ref sig .tc := ⟨.hbm, 1081, rfl⟩
abbrev main_v535 : Ref sig .tc := ⟨.hbm, 1082, rfl⟩
abbrev main_v536 : Ref sig .tc := ⟨.hbm, 1083, rfl⟩
abbrev main_v537 : Ref sig .tc := ⟨.hbm, 1084, rfl⟩
abbrev main_c_178 : Ref sig .tc := ⟨.hbm, 1085, rfl⟩
abbrev main_call57_v0 : Ref sig .tc := ⟨.hbm, 1086, rfl⟩
abbrev main_call57_v1 : Ref sig .tc := ⟨.hbm, 1087, rfl⟩
abbrev main_v538 : Ref sig .tc := ⟨.hbm, 1088, rfl⟩
abbrev main_c_179 : Ref sig .tc := ⟨.hbm, 1089, rfl⟩
abbrev main_call58_v0 : Ref sig .tc := ⟨.hbm, 1090, rfl⟩
abbrev main_call58_v1 : Ref sig .tc := ⟨.hbm, 1091, rfl⟩
abbrev main_v539 : Ref sig .tc := ⟨.hbm, 1092, rfl⟩
abbrev main_cst_180 : Ref sig .tc := ⟨.hbm, 1093, rfl⟩
abbrev main_v540 : Ref sig .tc := ⟨.hbm, 1094, rfl⟩
abbrev main_c_181 : Ref sig .tc := ⟨.hbm, 1095, rfl⟩
abbrev main_v541 : Ref sig .tc := ⟨.hbm, 1096, rfl⟩
abbrev main_v542 : Ref sig .tc := ⟨.hbm, 1097, rfl⟩
abbrev main_c_182 : Ref sig .tc := ⟨.hbm, 1098, rfl⟩
abbrev main_v543 : Ref sig .tc := ⟨.hbm, 1099, rfl⟩
abbrev main_v544 : Ref sig .tc := ⟨.hbm, 1100, rfl⟩
abbrev main_v545 : Ref sig .tc := ⟨.hbm, 1101, rfl⟩
abbrev main_c_183 : Ref sig .tc := ⟨.hbm, 1102, rfl⟩
abbrev main_v546 : Ref sig .tc := ⟨.hbm, 1103, rfl⟩
abbrev main_v547 : Ref sig .tc := ⟨.hbm, 1104, rfl⟩
abbrev main_c_184 : Ref sig .tc := ⟨.hbm, 1105, rfl⟩
abbrev main_v548 : Ref sig .tc := ⟨.hbm, 1106, rfl⟩
abbrev main_v549 : Ref sig .tc := ⟨.hbm, 1107, rfl⟩
abbrev main_v550 : Ref sig .tc := ⟨.hbm, 1108, rfl⟩
abbrev main_v551 : Ref sig .tc := ⟨.hbm, 1109, rfl⟩
abbrev main_v552 : Ref sig .tc := ⟨.hbm, 1110, rfl⟩
abbrev main_v553 : Ref sig .tc := ⟨.hbm, 1111, rfl⟩
abbrev main_v554 : Ref sig .tc := ⟨.hbm, 1112, rfl⟩
abbrev main_c_185 : Ref sig .tc := ⟨.hbm, 1113, rfl⟩
abbrev main_v555 : Ref sig .tc := ⟨.hbm, 1114, rfl⟩
abbrev main_v556 : Ref sig .tc := ⟨.hbm, 1115, rfl⟩
abbrev main_c_186 : Ref sig .tc := ⟨.hbm, 1116, rfl⟩
abbrev main_v557 : Ref sig .tc := ⟨.hbm, 1117, rfl⟩
abbrev main_v558 : Ref sig .tc := ⟨.hbm, 1118, rfl⟩
abbrev main_c_187 : Ref sig .tc := ⟨.hbm, 1119, rfl⟩
abbrev main_v559 : Ref sig .tc := ⟨.hbm, 1120, rfl⟩
abbrev main_v560 : Ref sig .tc := ⟨.hbm, 1121, rfl⟩
abbrev main_v561 : Ref sig .tc := ⟨.hbm, 1122, rfl⟩
abbrev main_v562 : Ref sig .tc := ⟨.hbm, 1123, rfl⟩
abbrev main_v563 : Ref sig .tc := ⟨.hbm, 1124, rfl⟩
abbrev main_c_188 : Ref sig .tc := ⟨.hbm, 1125, rfl⟩
abbrev main_call59_v0 : Ref sig .tc := ⟨.hbm, 1126, rfl⟩
abbrev main_call59_v1 : Ref sig .tc := ⟨.hbm, 1127, rfl⟩
abbrev main_call59_v2 : Ref sig .tc := ⟨.hbm, 1128, rfl⟩
abbrev main_call59_v3 : Ref sig .tc := ⟨.hbm, 1129, rfl⟩
abbrev main_call59_v4 : Ref sig .tc := ⟨.hbm, 1130, rfl⟩
abbrev main_call59_v5 : Ref sig .tc := ⟨.hbm, 1131, rfl⟩
abbrev main_call59_v6 : Ref sig .tc := ⟨.hbm, 1132, rfl⟩
abbrev main_call59_v7 : Ref sig .tc := ⟨.hbm, 1133, rfl⟩
abbrev main_call59_v8 : Ref sig .tc := ⟨.hbm, 1134, rfl⟩
abbrev main_call59_c : Ref sig .tc := ⟨.hbm, 1135, rfl⟩
abbrev main_call59_v9 : Ref sig .tc := ⟨.hbm, 1136, rfl⟩
abbrev main_call59_v10 : Ref sig .tc := ⟨.hbm, 1137, rfl⟩
abbrev main_call59_v11 : Ref sig .tc := ⟨.hbm, 1138, rfl⟩
abbrev main_call59_c_0 : Ref sig .tc := ⟨.hbm, 1139, rfl⟩
abbrev main_call59_v12 : Ref sig .tc := ⟨.hbm, 1140, rfl⟩
abbrev main_call59_v13 : Ref sig .tc := ⟨.hbm, 1141, rfl⟩
abbrev main_v564 : Ref sig .tc := ⟨.hbm, 1142, rfl⟩
abbrev main_c_189 : Ref sig .tc := ⟨.hbm, 1143, rfl⟩
abbrev main_call60_v0 : Ref sig .tc := ⟨.hbm, 1144, rfl⟩
abbrev main_call60_v1 : Ref sig .tc := ⟨.hbm, 1145, rfl⟩
abbrev main_call60_v2 : Ref sig .tc := ⟨.hbm, 1146, rfl⟩
abbrev main_call60_v3 : Ref sig .tc := ⟨.hbm, 1147, rfl⟩
abbrev main_call60_v4 : Ref sig .tc := ⟨.hbm, 1148, rfl⟩
abbrev main_call60_v5 : Ref sig .tc := ⟨.hbm, 1149, rfl⟩
abbrev main_call60_v6 : Ref sig .tc := ⟨.hbm, 1150, rfl⟩
abbrev main_call60_v7 : Ref sig .tc := ⟨.hbm, 1151, rfl⟩
abbrev main_call60_v8 : Ref sig .tc := ⟨.hbm, 1152, rfl⟩
abbrev main_call60_c : Ref sig .tc := ⟨.hbm, 1153, rfl⟩
abbrev main_call60_v9 : Ref sig .tc := ⟨.hbm, 1154, rfl⟩
abbrev main_call60_v10 : Ref sig .tc := ⟨.hbm, 1155, rfl⟩
abbrev main_call60_v11 : Ref sig .tc := ⟨.hbm, 1156, rfl⟩
abbrev main_call60_c_0 : Ref sig .tc := ⟨.hbm, 1157, rfl⟩
abbrev main_call60_v12 : Ref sig .tc := ⟨.hbm, 1158, rfl⟩
abbrev main_call60_v13 : Ref sig .tc := ⟨.hbm, 1159, rfl⟩
abbrev main_v565 : Ref sig .tc := ⟨.hbm, 1160, rfl⟩
abbrev main_c_190 : Ref sig .tc := ⟨.hbm, 1161, rfl⟩
abbrev main_call61_v0 : Ref sig .tc := ⟨.hbm, 1162, rfl⟩
abbrev main_call61_c : Ref sig .tc := ⟨.hbm, 1163, rfl⟩
abbrev main_call61_v1 : Ref sig .tc := ⟨.hbm, 1164, rfl⟩
abbrev main_call61_c_0 : Ref sig .tc := ⟨.hbm, 1165, rfl⟩
abbrev main_call61_v2 : Ref sig .tc := ⟨.hbm, 1166, rfl⟩
abbrev main_call61_v3 : Ref sig .tc := ⟨.hbm, 1167, rfl⟩
abbrev main_call61_v4 : Ref sig .tc := ⟨.hbm, 1168, rfl⟩
abbrev main_call61_c_1 : Ref sig .tc := ⟨.hbm, 1169, rfl⟩
abbrev main_call61_v5 : Ref sig .tc := ⟨.hbm, 1170, rfl⟩
abbrev main_call61_v6 : Ref sig .tc := ⟨.hbm, 1171, rfl⟩
abbrev main_call61_c_2 : Ref sig .tc := ⟨.hbm, 1172, rfl⟩
abbrev main_call61_v7 : Ref sig .tc := ⟨.hbm, 1173, rfl⟩
abbrev main_call61_v8 : Ref sig .tc := ⟨.hbm, 1174, rfl⟩
abbrev main_call61_c_3 : Ref sig .tc := ⟨.hbm, 1175, rfl⟩
abbrev main_call61_v9 : Ref sig .tc := ⟨.hbm, 1176, rfl⟩
abbrev main_call61_v10 : Ref sig .tc := ⟨.hbm, 1177, rfl⟩
abbrev main_call61_v11 : Ref sig .tc := ⟨.hbm, 1178, rfl⟩
abbrev main_call61_v12 : Ref sig .tc := ⟨.hbm, 1179, rfl⟩
abbrev main_call61_v13 : Ref sig .tc := ⟨.hbm, 1180, rfl⟩
abbrev main_call61_v14 : Ref sig .tc := ⟨.hbm, 1181, rfl⟩
abbrev main_v566 : Ref sig .tc := ⟨.hbm, 1182, rfl⟩
abbrev main_c_191 : Ref sig .tc := ⟨.hbm, 1183, rfl⟩
abbrev main_call62_v0 : Ref sig .tc := ⟨.hbm, 1184, rfl⟩
abbrev main_call62_c : Ref sig .tc := ⟨.hbm, 1185, rfl⟩
abbrev main_call62_v1 : Ref sig .tc := ⟨.hbm, 1186, rfl⟩
abbrev main_call62_c_0 : Ref sig .tc := ⟨.hbm, 1187, rfl⟩
abbrev main_call62_v2 : Ref sig .tc := ⟨.hbm, 1188, rfl⟩
abbrev main_call62_v3 : Ref sig .tc := ⟨.hbm, 1189, rfl⟩
abbrev main_call62_v4 : Ref sig .tc := ⟨.hbm, 1190, rfl⟩
abbrev main_call62_c_1 : Ref sig .tc := ⟨.hbm, 1191, rfl⟩
abbrev main_call62_v5 : Ref sig .tc := ⟨.hbm, 1192, rfl⟩
abbrev main_call62_v6 : Ref sig .tc := ⟨.hbm, 1193, rfl⟩
abbrev main_call62_c_2 : Ref sig .tc := ⟨.hbm, 1194, rfl⟩
abbrev main_call62_v7 : Ref sig .tc := ⟨.hbm, 1195, rfl⟩
abbrev main_call62_v8 : Ref sig .tc := ⟨.hbm, 1196, rfl⟩
abbrev main_call62_c_3 : Ref sig .tc := ⟨.hbm, 1197, rfl⟩
abbrev main_call62_v9 : Ref sig .tc := ⟨.hbm, 1198, rfl⟩
abbrev main_call62_v10 : Ref sig .tc := ⟨.hbm, 1199, rfl⟩
abbrev main_call62_v11 : Ref sig .tc := ⟨.hbm, 1200, rfl⟩
abbrev main_call62_v12 : Ref sig .tc := ⟨.hbm, 1201, rfl⟩
abbrev main_call62_v13 : Ref sig .tc := ⟨.hbm, 1202, rfl⟩
abbrev main_call62_v14 : Ref sig .tc := ⟨.hbm, 1203, rfl⟩
abbrev main_v567 : Ref sig .tc := ⟨.hbm, 1204, rfl⟩
abbrev main_v568 : Ref sig .tc := ⟨.hbm, 1205, rfl⟩
abbrev main_v569 : Ref sig .tc := ⟨.hbm, 1206, rfl⟩
abbrev main_v570 : Ref sig .tc := ⟨.hbm, 1207, rfl⟩
abbrev main_v571 : Ref sig .tc := ⟨.hbm, 1208, rfl⟩
abbrev main_c_192 : Ref sig .tc := ⟨.hbm, 1209, rfl⟩
abbrev main_v572 : Ref sig .tc := ⟨.hbm, 1210, rfl⟩
abbrev main_v573 : Ref sig .tc := ⟨.hbm, 1211, rfl⟩
abbrev main_v574 : Ref sig .tc := ⟨.hbm, 1212, rfl⟩
abbrev main_c_193 : Ref sig .tc := ⟨.hbm, 1213, rfl⟩
abbrev main_call63_v0 : Ref sig .tc := ⟨.hbm, 1214, rfl⟩
abbrev main_call63_v1 : Ref sig .tc := ⟨.hbm, 1215, rfl⟩
abbrev main_v575 : Ref sig .tc := ⟨.hbm, 1216, rfl⟩
abbrev main_c_194 : Ref sig .tc := ⟨.hbm, 1217, rfl⟩
abbrev main_v576 : Ref sig .tc := ⟨.hbm, 1218, rfl⟩
abbrev main_c_195 : Ref sig .tc := ⟨.hbm, 1219, rfl⟩
abbrev main_v577 : Ref sig .tc := ⟨.hbm, 1220, rfl⟩
abbrev main_v578 : Ref sig .tc := ⟨.hbm, 1221, rfl⟩
abbrev main_c_196 : Ref sig .tc := ⟨.hbm, 1222, rfl⟩
abbrev main_v579 : Ref sig .tc := ⟨.hbm, 1223, rfl⟩
abbrev main_v580 : Ref sig .tc := ⟨.hbm, 1224, rfl⟩
abbrev main_v581 : Ref sig .tc := ⟨.hbm, 1225, rfl⟩
abbrev main_v582 : Ref sig .tc := ⟨.hbm, 1226, rfl⟩
abbrev main_v583 : Ref sig .tc := ⟨.hbm, 1227, rfl⟩
abbrev main_c_197 : Ref sig .tc := ⟨.hbm, 1228, rfl⟩
abbrev main_call64_v0 : Ref sig .tc := ⟨.hbm, 1229, rfl⟩
abbrev main_v584 : Ref sig .tc := ⟨.hbm, 1230, rfl⟩
abbrev main_v585 : Ref sig .tc := ⟨.hbm, 1231, rfl⟩
abbrev main_v586 : Ref sig .tc := ⟨.hbm, 1232, rfl⟩
abbrev main_v587 : Ref sig .tc := ⟨.hbm, 1233, rfl⟩
abbrev main_v588 : Ref sig .tc := ⟨.hbm, 1234, rfl⟩
abbrev main_v589 : Ref sig .tc := ⟨.hbm, 1235, rfl⟩
abbrev main_v590 : Ref sig .tc := ⟨.hbm, 1236, rfl⟩
abbrev main_v591 : Ref sig .tc := ⟨.hbm, 1237, rfl⟩
abbrev main_v592 : Ref sig .tc := ⟨.hbm, 1238, rfl⟩
abbrev main_v593 : Ref sig .tc := ⟨.hbm, 1239, rfl⟩
abbrev main_v594 : Ref sig .tc := ⟨.hbm, 1240, rfl⟩
abbrev main_v595 : Ref sig .tc := ⟨.hbm, 1241, rfl⟩
abbrev main_c_198 : Ref sig .tc := ⟨.hbm, 1242, rfl⟩
abbrev main_v596 : Ref sig .tc := ⟨.hbm, 1243, rfl⟩
abbrev main_v597 : Ref sig .tc := ⟨.hbm, 1244, rfl⟩
abbrev main_v598 : Ref sig .tc := ⟨.hbm, 1245, rfl⟩
abbrev main_v599 : Ref sig .tc := ⟨.hbm, 1246, rfl⟩
abbrev main_v600 : Ref sig .tc := ⟨.hbm, 1247, rfl⟩
abbrev main_v601 : Ref sig .tc := ⟨.hbm, 1248, rfl⟩
abbrev main_c_199 : Ref sig .tc := ⟨.hbm, 1249, rfl⟩
abbrev main_v602 : Ref sig .tc := ⟨.hbm, 1250, rfl⟩
abbrev main_v603 : Ref sig .tc := ⟨.hbm, 1251, rfl⟩
abbrev main_v604 : Ref sig .tc := ⟨.hbm, 1252, rfl⟩
abbrev main_c_200 : Ref sig .tc := ⟨.hbm, 1253, rfl⟩
abbrev main_v605 : Ref sig .tc := ⟨.hbm, 1254, rfl⟩
abbrev main_v606 : Ref sig .tc := ⟨.hbm, 1255, rfl⟩
abbrev main_v607 : Ref sig .tc := ⟨.hbm, 1256, rfl⟩
abbrev main_v608 : Ref sig .tc := ⟨.hbm, 1257, rfl⟩
abbrev main_v609 : Ref sig .tc := ⟨.hbm, 1258, rfl⟩
abbrev main_c_201 : Ref sig .tc := ⟨.hbm, 1259, rfl⟩
abbrev main_v610 : Ref sig .tc := ⟨.hbm, 1260, rfl⟩
abbrev main_v611 : Ref sig .tc := ⟨.hbm, 1261, rfl⟩
abbrev main_v612 : Ref sig .tc := ⟨.hbm, 1262, rfl⟩
abbrev main_v613 : Ref sig .tc := ⟨.hbm, 1263, rfl⟩
abbrev main_v614 : Ref sig .tc := ⟨.hbm, 1264, rfl⟩
abbrev main_c_202 : Ref sig .tc := ⟨.hbm, 1265, rfl⟩
abbrev main_call65_v0 : Ref sig .tc := ⟨.hbm, 1266, rfl⟩
abbrev main_call65_v1 : Ref sig .tc := ⟨.hbm, 1267, rfl⟩
abbrev main_v615 : Ref sig .tc := ⟨.hbm, 1268, rfl⟩
abbrev main_call66_v0 : Ref sig .tc := ⟨.hbm, 1269, rfl⟩
abbrev main_call66_v1_0 : Ref sig .tc := ⟨.hbm, 1270, rfl⟩
abbrev main_v616 : Ref sig .tc := ⟨.hbm, 1271, rfl⟩
abbrev main_c_203 : Ref sig .tc := ⟨.hbm, 1272, rfl⟩
abbrev main_v617 : Ref sig .tc := ⟨.hbm, 1273, rfl⟩
abbrev main_v618 : Ref sig .tc := ⟨.hbm, 1274, rfl⟩
abbrev main_c_204 : Ref sig .tc := ⟨.hbm, 1275, rfl⟩
abbrev main_v619 : Ref sig .tc := ⟨.hbm, 1276, rfl⟩
abbrev main_v620 : Ref sig .tc := ⟨.hbm, 1277, rfl⟩
abbrev main_v621 : Ref sig .tc := ⟨.hbm, 1278, rfl⟩
abbrev main_v622 : Ref sig .tc := ⟨.hbm, 1279, rfl⟩
abbrev main_v623 : Ref sig .tc := ⟨.hbm, 1280, rfl⟩
abbrev main_c_205 : Ref sig .tc := ⟨.hbm, 1281, rfl⟩
abbrev main_v624 : Ref sig .tc := ⟨.hbm, 1282, rfl⟩
abbrev main_v625 : Ref sig .tc := ⟨.hbm, 1283, rfl⟩
abbrev main_c_206 : Ref sig .tc := ⟨.hbm, 1284, rfl⟩
abbrev main_v626 : Ref sig .tc := ⟨.hbm, 1285, rfl⟩
abbrev main_v627 : Ref sig .tc := ⟨.hbm, 1286, rfl⟩
abbrev main_v628 : Ref sig .tc := ⟨.hbm, 1287, rfl⟩
abbrev main_v629 : Ref sig .tc := ⟨.hbm, 1288, rfl⟩
abbrev main_v630 : Ref sig .tc := ⟨.hbm, 1289, rfl⟩
abbrev main_c_207 : Ref sig .tc := ⟨.hbm, 1290, rfl⟩
abbrev main_v631 : Ref sig .tc := ⟨.hbm, 1291, rfl⟩
abbrev main_v632 : Ref sig .tc := ⟨.hbm, 1292, rfl⟩
abbrev main_v633 : Ref sig .tc := ⟨.hbm, 1293, rfl⟩
abbrev main_v634 : Ref sig .tc := ⟨.hbm, 1294, rfl⟩
abbrev main_v635 : Ref sig .tc := ⟨.hbm, 1295, rfl⟩
abbrev main_v636 : Ref sig .tc := ⟨.hbm, 1296, rfl⟩
abbrev main_v637 : Ref sig .tc := ⟨.hbm, 1297, rfl⟩
abbrev main_v638 : Ref sig .tc := ⟨.hbm, 1298, rfl⟩
abbrev main_call67_call0_c : Ref sig .tc := ⟨.hbm, 1299, rfl⟩
abbrev main_call67_call0_v0 : Ref sig .tc := ⟨.hbm, 1300, rfl⟩
abbrev main_v639 : Ref sig .tc := ⟨.hbm, 1301, rfl⟩
abbrev main_c_208 : Ref sig .tc := ⟨.hbm, 1302, rfl⟩
abbrev main_v640 : Ref sig .tc := ⟨.hbm, 1303, rfl⟩
abbrev main_v641 : Ref sig .tc := ⟨.hbm, 1304, rfl⟩
abbrev main_v642 : Ref sig .tc := ⟨.hbm, 1305, rfl⟩
abbrev main_c_209 : Ref sig .tc := ⟨.hbm, 1306, rfl⟩
abbrev main_call68_v0 : Ref sig .tc := ⟨.hbm, 1307, rfl⟩
abbrev main_call68_v1 : Ref sig .tc := ⟨.hbm, 1308, rfl⟩
abbrev main_v643 : Ref sig .tc := ⟨.hbm, 1309, rfl⟩
abbrev main_call69_c : Ref sig .tc := ⟨.hbm, 1310, rfl⟩
abbrev main_call69_v0 : Ref sig .tc := ⟨.hbm, 1311, rfl⟩
abbrev main_v644 : Ref sig .tc := ⟨.hbm, 1312, rfl⟩
abbrev main_v645 : Ref sig .tc := ⟨.hbm, 1313, rfl⟩
abbrev main_c_210 : Ref sig .tc := ⟨.hbm, 1314, rfl⟩
abbrev main_v646 : Ref sig .tc := ⟨.hbm, 1315, rfl⟩
abbrev main_v647 : Ref sig .tc := ⟨.hbm, 1316, rfl⟩
abbrev main_v648 : Ref sig .tc := ⟨.hbm, 1317, rfl⟩
abbrev main_c_211 : Ref sig .tc := ⟨.hbm, 1318, rfl⟩
abbrev main_v649 : Ref sig .tc := ⟨.hbm, 1319, rfl⟩
abbrev main_v650 : Ref sig .tc := ⟨.hbm, 1320, rfl⟩
abbrev main_v651 : Ref sig .tc := ⟨.hbm, 1321, rfl⟩
abbrev main_c_212 : Ref sig .tc := ⟨.hbm, 1322, rfl⟩
abbrev main_v652 : Ref sig .tc := ⟨.hbm, 1323, rfl⟩
abbrev main_v653 : Ref sig .tc := ⟨.hbm, 1324, rfl⟩
abbrev main_v654 : Ref sig .tc := ⟨.hbm, 1325, rfl⟩
abbrev main_c_213 : Ref sig .tc := ⟨.hbm, 1326, rfl⟩
abbrev main_call70_v0 : Ref sig .tc := ⟨.hbm, 1327, rfl⟩
abbrev main_call70_v1 : Ref sig .tc := ⟨.hbm, 1328, rfl⟩
abbrev main_v655 : Ref sig .tc := ⟨.hbm, 1329, rfl⟩
abbrev main_c_214 : Ref sig .tc := ⟨.hbm, 1330, rfl⟩
abbrev main_call71_v0 : Ref sig .tc := ⟨.hbm, 1331, rfl⟩
abbrev main_call71_v1 : Ref sig .tc := ⟨.hbm, 1332, rfl⟩
abbrev main_v656 : Ref sig .tc := ⟨.hbm, 1333, rfl⟩
abbrev main_cst_215 : Ref sig .tc := ⟨.hbm, 1334, rfl⟩
abbrev main_v657 : Ref sig .tc := ⟨.hbm, 1335, rfl⟩
abbrev main_c_216 : Ref sig .tc := ⟨.hbm, 1336, rfl⟩
abbrev main_v658 : Ref sig .tc := ⟨.hbm, 1337, rfl⟩
abbrev main_v659 : Ref sig .tc := ⟨.hbm, 1338, rfl⟩
abbrev main_c_217 : Ref sig .tc := ⟨.hbm, 1339, rfl⟩
abbrev main_v660 : Ref sig .tc := ⟨.hbm, 1340, rfl⟩
abbrev main_v661 : Ref sig .tc := ⟨.hbm, 1341, rfl⟩
abbrev main_v662 : Ref sig .tc := ⟨.hbm, 1342, rfl⟩
abbrev main_c_218 : Ref sig .tc := ⟨.hbm, 1343, rfl⟩
abbrev main_v663 : Ref sig .tc := ⟨.hbm, 1344, rfl⟩
abbrev main_v664 : Ref sig .tc := ⟨.hbm, 1345, rfl⟩
abbrev main_c_219 : Ref sig .tc := ⟨.hbm, 1346, rfl⟩
abbrev main_v665 : Ref sig .tc := ⟨.hbm, 1347, rfl⟩
abbrev main_v666 : Ref sig .tc := ⟨.hbm, 1348, rfl⟩
abbrev main_v667 : Ref sig .tc := ⟨.hbm, 1349, rfl⟩
abbrev main_v668 : Ref sig .tc := ⟨.hbm, 1350, rfl⟩
abbrev main_v669 : Ref sig .tc := ⟨.hbm, 1351, rfl⟩
abbrev main_v670 : Ref sig .tc := ⟨.hbm, 1352, rfl⟩
abbrev main_v671 : Ref sig .tc := ⟨.hbm, 1353, rfl⟩
abbrev main_c_220 : Ref sig .tc := ⟨.hbm, 1354, rfl⟩
abbrev main_v672 : Ref sig .tc := ⟨.hbm, 1355, rfl⟩
abbrev main_v673 : Ref sig .tc := ⟨.hbm, 1356, rfl⟩
abbrev main_c_221 : Ref sig .tc := ⟨.hbm, 1357, rfl⟩
abbrev main_v674 : Ref sig .tc := ⟨.hbm, 1358, rfl⟩
abbrev main_v675 : Ref sig .tc := ⟨.hbm, 1359, rfl⟩
abbrev main_c_222 : Ref sig .tc := ⟨.hbm, 1360, rfl⟩
abbrev main_v676 : Ref sig .tc := ⟨.hbm, 1361, rfl⟩
abbrev main_v677 : Ref sig .tc := ⟨.hbm, 1362, rfl⟩
abbrev main_v678 : Ref sig .tc := ⟨.hbm, 1363, rfl⟩
abbrev main_v679 : Ref sig .tc := ⟨.hbm, 1364, rfl⟩
abbrev main_v680 : Ref sig .tc := ⟨.hbm, 1365, rfl⟩
abbrev main_c_223 : Ref sig .tc := ⟨.hbm, 1366, rfl⟩
abbrev main_call72_v0 : Ref sig .tc := ⟨.hbm, 1367, rfl⟩
abbrev main_call72_v1 : Ref sig .tc := ⟨.hbm, 1368, rfl⟩
abbrev main_call72_v2 : Ref sig .tc := ⟨.hbm, 1369, rfl⟩
abbrev main_call72_v3 : Ref sig .tc := ⟨.hbm, 1370, rfl⟩
abbrev main_call72_v4 : Ref sig .tc := ⟨.hbm, 1371, rfl⟩
abbrev main_call72_v5 : Ref sig .tc := ⟨.hbm, 1372, rfl⟩
abbrev main_call72_v6 : Ref sig .tc := ⟨.hbm, 1373, rfl⟩
abbrev main_call72_v7 : Ref sig .tc := ⟨.hbm, 1374, rfl⟩
abbrev main_call72_v8 : Ref sig .tc := ⟨.hbm, 1375, rfl⟩
abbrev main_call72_c : Ref sig .tc := ⟨.hbm, 1376, rfl⟩
abbrev main_call72_v9 : Ref sig .tc := ⟨.hbm, 1377, rfl⟩
abbrev main_call72_v10 : Ref sig .tc := ⟨.hbm, 1378, rfl⟩
abbrev main_call72_v11 : Ref sig .tc := ⟨.hbm, 1379, rfl⟩
abbrev main_call72_c_0 : Ref sig .tc := ⟨.hbm, 1380, rfl⟩
abbrev main_call72_v12 : Ref sig .tc := ⟨.hbm, 1381, rfl⟩
abbrev main_call72_v13 : Ref sig .tc := ⟨.hbm, 1382, rfl⟩
abbrev main_v681 : Ref sig .tc := ⟨.hbm, 1383, rfl⟩
abbrev main_c_224 : Ref sig .tc := ⟨.hbm, 1384, rfl⟩
abbrev main_call73_v0 : Ref sig .tc := ⟨.hbm, 1385, rfl⟩
abbrev main_call73_v1 : Ref sig .tc := ⟨.hbm, 1386, rfl⟩
abbrev main_call73_v2 : Ref sig .tc := ⟨.hbm, 1387, rfl⟩
abbrev main_call73_v3 : Ref sig .tc := ⟨.hbm, 1388, rfl⟩
abbrev main_call73_v4 : Ref sig .tc := ⟨.hbm, 1389, rfl⟩
abbrev main_call73_v5 : Ref sig .tc := ⟨.hbm, 1390, rfl⟩
abbrev main_call73_v6 : Ref sig .tc := ⟨.hbm, 1391, rfl⟩
abbrev main_call73_v7 : Ref sig .tc := ⟨.hbm, 1392, rfl⟩
abbrev main_call73_v8 : Ref sig .tc := ⟨.hbm, 1393, rfl⟩
abbrev main_call73_c : Ref sig .tc := ⟨.hbm, 1394, rfl⟩
abbrev main_call73_v9 : Ref sig .tc := ⟨.hbm, 1395, rfl⟩
abbrev main_call73_v10 : Ref sig .tc := ⟨.hbm, 1396, rfl⟩
abbrev main_call73_v11 : Ref sig .tc := ⟨.hbm, 1397, rfl⟩
abbrev main_call73_c_0 : Ref sig .tc := ⟨.hbm, 1398, rfl⟩
abbrev main_call73_v12 : Ref sig .tc := ⟨.hbm, 1399, rfl⟩
abbrev main_call73_v13 : Ref sig .tc := ⟨.hbm, 1400, rfl⟩
abbrev main_v682 : Ref sig .tc := ⟨.hbm, 1401, rfl⟩
abbrev main_c_225 : Ref sig .tc := ⟨.hbm, 1402, rfl⟩
abbrev main_call74_v0 : Ref sig .tc := ⟨.hbm, 1403, rfl⟩
abbrev main_call74_c : Ref sig .tc := ⟨.hbm, 1404, rfl⟩
abbrev main_call74_v1 : Ref sig .tc := ⟨.hbm, 1405, rfl⟩
abbrev main_call74_c_0 : Ref sig .tc := ⟨.hbm, 1406, rfl⟩
abbrev main_call74_v2 : Ref sig .tc := ⟨.hbm, 1407, rfl⟩
abbrev main_call74_v3 : Ref sig .tc := ⟨.hbm, 1408, rfl⟩
abbrev main_call74_v4 : Ref sig .tc := ⟨.hbm, 1409, rfl⟩
abbrev main_call74_c_1 : Ref sig .tc := ⟨.hbm, 1410, rfl⟩
abbrev main_call74_v5 : Ref sig .tc := ⟨.hbm, 1411, rfl⟩
abbrev main_call74_v6 : Ref sig .tc := ⟨.hbm, 1412, rfl⟩
abbrev main_call74_c_2 : Ref sig .tc := ⟨.hbm, 1413, rfl⟩
abbrev main_call74_v7 : Ref sig .tc := ⟨.hbm, 1414, rfl⟩
abbrev main_call74_v8 : Ref sig .tc := ⟨.hbm, 1415, rfl⟩
abbrev main_call74_c_3 : Ref sig .tc := ⟨.hbm, 1416, rfl⟩
abbrev main_call74_v9 : Ref sig .tc := ⟨.hbm, 1417, rfl⟩
abbrev main_call74_v10 : Ref sig .tc := ⟨.hbm, 1418, rfl⟩
abbrev main_call74_v11 : Ref sig .tc := ⟨.hbm, 1419, rfl⟩
abbrev main_call74_v12 : Ref sig .tc := ⟨.hbm, 1420, rfl⟩
abbrev main_call74_v13 : Ref sig .tc := ⟨.hbm, 1421, rfl⟩
abbrev main_call74_v14 : Ref sig .tc := ⟨.hbm, 1422, rfl⟩
abbrev main_v683 : Ref sig .tc := ⟨.hbm, 1423, rfl⟩
abbrev main_c_226 : Ref sig .tc := ⟨.hbm, 1424, rfl⟩
abbrev main_call75_v0 : Ref sig .tc := ⟨.hbm, 1425, rfl⟩
abbrev main_call75_c : Ref sig .tc := ⟨.hbm, 1426, rfl⟩
abbrev main_call75_v1 : Ref sig .tc := ⟨.hbm, 1427, rfl⟩
abbrev main_call75_c_0 : Ref sig .tc := ⟨.hbm, 1428, rfl⟩
abbrev main_call75_v2 : Ref sig .tc := ⟨.hbm, 1429, rfl⟩
abbrev main_call75_v3 : Ref sig .tc := ⟨.hbm, 1430, rfl⟩
abbrev main_call75_v4 : Ref sig .tc := ⟨.hbm, 1431, rfl⟩
abbrev main_call75_c_1 : Ref sig .tc := ⟨.hbm, 1432, rfl⟩
abbrev main_call75_v5 : Ref sig .tc := ⟨.hbm, 1433, rfl⟩
abbrev main_call75_v6 : Ref sig .tc := ⟨.hbm, 1434, rfl⟩
abbrev main_call75_c_2 : Ref sig .tc := ⟨.hbm, 1435, rfl⟩
abbrev main_call75_v7 : Ref sig .tc := ⟨.hbm, 1436, rfl⟩
abbrev main_call75_v8 : Ref sig .tc := ⟨.hbm, 1437, rfl⟩
abbrev main_call75_c_3 : Ref sig .tc := ⟨.hbm, 1438, rfl⟩
abbrev main_call75_v9 : Ref sig .tc := ⟨.hbm, 1439, rfl⟩
abbrev main_call75_v10 : Ref sig .tc := ⟨.hbm, 1440, rfl⟩
abbrev main_call75_v11 : Ref sig .tc := ⟨.hbm, 1441, rfl⟩
abbrev main_call75_v12 : Ref sig .tc := ⟨.hbm, 1442, rfl⟩
abbrev main_call75_v13 : Ref sig .tc := ⟨.hbm, 1443, rfl⟩
abbrev main_call75_v14 : Ref sig .tc := ⟨.hbm, 1444, rfl⟩
abbrev main_v684 : Ref sig .tc := ⟨.hbm, 1445, rfl⟩
abbrev main_v685 : Ref sig .tc := ⟨.hbm, 1446, rfl⟩
abbrev main_v686 : Ref sig .tc := ⟨.hbm, 1447, rfl⟩
abbrev main_v687 : Ref sig .tc := ⟨.hbm, 1448, rfl⟩
abbrev main_v688 : Ref sig .tc := ⟨.hbm, 1449, rfl⟩
abbrev main_c_227 : Ref sig .tc := ⟨.hbm, 1450, rfl⟩
abbrev main_v689 : Ref sig .tc := ⟨.hbm, 1451, rfl⟩
abbrev main_v690 : Ref sig .tc := ⟨.hbm, 1452, rfl⟩
abbrev main_v691 : Ref sig .tc := ⟨.hbm, 1453, rfl⟩
abbrev main_c_228 : Ref sig .tc := ⟨.hbm, 1454, rfl⟩
abbrev main_call76_v0 : Ref sig .tc := ⟨.hbm, 1455, rfl⟩
abbrev main_call76_v1 : Ref sig .tc := ⟨.hbm, 1456, rfl⟩
abbrev main_v692 : Ref sig .tc := ⟨.hbm, 1457, rfl⟩
abbrev main_c_229 : Ref sig .tc := ⟨.hbm, 1458, rfl⟩
abbrev main_v693 : Ref sig .tc := ⟨.hbm, 1459, rfl⟩
abbrev main_c_230 : Ref sig .tc := ⟨.hbm, 1460, rfl⟩
abbrev main_v694 : Ref sig .tc := ⟨.hbm, 1461, rfl⟩
abbrev main_v695 : Ref sig .tc := ⟨.hbm, 1462, rfl⟩
abbrev main_c_231 : Ref sig .tc := ⟨.hbm, 1463, rfl⟩
abbrev main_v696 : Ref sig .tc := ⟨.hbm, 1464, rfl⟩
abbrev main_v697 : Ref sig .tc := ⟨.hbm, 1465, rfl⟩
abbrev main_v698 : Ref sig .tc := ⟨.hbm, 1466, rfl⟩
abbrev main_v699 : Ref sig .tc := ⟨.hbm, 1467, rfl⟩
abbrev main_v700 : Ref sig .tc := ⟨.hbm, 1468, rfl⟩
abbrev main_c_232 : Ref sig .tc := ⟨.hbm, 1469, rfl⟩
abbrev main_call77_v0 : Ref sig .tc := ⟨.hbm, 1470, rfl⟩
abbrev main_v701 : Ref sig .tc := ⟨.hbm, 1471, rfl⟩
abbrev main_v702 : Ref sig .tc := ⟨.hbm, 1472, rfl⟩
abbrev main_v703 : Ref sig .tc := ⟨.hbm, 1473, rfl⟩
abbrev main_v704 : Ref sig .tc := ⟨.hbm, 1474, rfl⟩
abbrev main_v705 : Ref sig .tc := ⟨.hbm, 1475, rfl⟩
abbrev main_v706 : Ref sig .tc := ⟨.hbm, 1476, rfl⟩
abbrev main_v707 : Ref sig .tc := ⟨.hbm, 1477, rfl⟩
abbrev main_v708 : Ref sig .tc := ⟨.hbm, 1478, rfl⟩
abbrev main_v709 : Ref sig .tc := ⟨.hbm, 1479, rfl⟩
abbrev main_v710 : Ref sig .tc := ⟨.hbm, 1480, rfl⟩
abbrev main_v711 : Ref sig .tc := ⟨.hbm, 1481, rfl⟩
abbrev main_v712 : Ref sig .tc := ⟨.hbm, 1482, rfl⟩
abbrev main_c_233 : Ref sig .tc := ⟨.hbm, 1483, rfl⟩
abbrev main_v713 : Ref sig .tc := ⟨.hbm, 1484, rfl⟩
abbrev main_v714 : Ref sig .tc := ⟨.hbm, 1485, rfl⟩
abbrev main_v715 : Ref sig .tc := ⟨.hbm, 1486, rfl⟩
abbrev main_v716 : Ref sig .tc := ⟨.hbm, 1487, rfl⟩
abbrev main_v717 : Ref sig .tc := ⟨.hbm, 1488, rfl⟩
abbrev main_v718 : Ref sig .tc := ⟨.hbm, 1489, rfl⟩
abbrev main_c_234 : Ref sig .tc := ⟨.hbm, 1490, rfl⟩
abbrev main_v719 : Ref sig .tc := ⟨.hbm, 1491, rfl⟩
abbrev main_v720 : Ref sig .tc := ⟨.hbm, 1492, rfl⟩
abbrev main_v721 : Ref sig .tc := ⟨.hbm, 1493, rfl⟩
abbrev main_c_235 : Ref sig .tc := ⟨.hbm, 1494, rfl⟩
abbrev main_v722 : Ref sig .tc := ⟨.hbm, 1495, rfl⟩
abbrev main_v723 : Ref sig .tc := ⟨.hbm, 1496, rfl⟩
abbrev main_v724 : Ref sig .tc := ⟨.hbm, 1497, rfl⟩
abbrev main_v725 : Ref sig .tc := ⟨.hbm, 1498, rfl⟩
abbrev main_v726 : Ref sig .tc := ⟨.hbm, 1499, rfl⟩
abbrev main_c_236 : Ref sig .tc := ⟨.hbm, 1500, rfl⟩
abbrev main_v727 : Ref sig .tc := ⟨.hbm, 1501, rfl⟩
abbrev main_v728 : Ref sig .tc := ⟨.hbm, 1502, rfl⟩
abbrev main_v729 : Ref sig .tc := ⟨.hbm, 1503, rfl⟩
abbrev main_v730 : Ref sig .tc := ⟨.hbm, 1504, rfl⟩
abbrev main_v731 : Ref sig .tc := ⟨.hbm, 1505, rfl⟩
abbrev main_c_237 : Ref sig .tc := ⟨.hbm, 1506, rfl⟩
abbrev main_call78_v0 : Ref sig .tc := ⟨.hbm, 1507, rfl⟩
abbrev main_call78_v1 : Ref sig .tc := ⟨.hbm, 1508, rfl⟩
abbrev main_v732 : Ref sig .tc := ⟨.hbm, 1509, rfl⟩
abbrev main_call79_v0 : Ref sig .tc := ⟨.hbm, 1510, rfl⟩
abbrev main_call79_v1_0 : Ref sig .tc := ⟨.hbm, 1511, rfl⟩
abbrev main_v733 : Ref sig .tc := ⟨.hbm, 1512, rfl⟩
abbrev main_c_238 : Ref sig .tc := ⟨.hbm, 1513, rfl⟩
abbrev main_v734 : Ref sig .tc := ⟨.hbm, 1514, rfl⟩
abbrev main_v735 : Ref sig .tc := ⟨.hbm, 1515, rfl⟩
abbrev main_c_239 : Ref sig .tc := ⟨.hbm, 1516, rfl⟩
abbrev main_v736 : Ref sig .tc := ⟨.hbm, 1517, rfl⟩
abbrev main_v737 : Ref sig .tc := ⟨.hbm, 1518, rfl⟩
abbrev main_v738 : Ref sig .tc := ⟨.hbm, 1519, rfl⟩
abbrev main_v739 : Ref sig .tc := ⟨.hbm, 1520, rfl⟩
abbrev main_v740 : Ref sig .tc := ⟨.hbm, 1521, rfl⟩
abbrev main_c_240 : Ref sig .tc := ⟨.hbm, 1522, rfl⟩
abbrev main_v741 : Ref sig .tc := ⟨.hbm, 1523, rfl⟩
abbrev main_v742 : Ref sig .tc := ⟨.hbm, 1524, rfl⟩
abbrev main_c_241 : Ref sig .tc := ⟨.hbm, 1525, rfl⟩
abbrev main_v743 : Ref sig .tc := ⟨.hbm, 1526, rfl⟩
abbrev main_v744 : Ref sig .tc := ⟨.hbm, 1527, rfl⟩
abbrev main_v745 : Ref sig .tc := ⟨.hbm, 1528, rfl⟩
abbrev main_v746 : Ref sig .tc := ⟨.hbm, 1529, rfl⟩
abbrev main_v747 : Ref sig .tc := ⟨.hbm, 1530, rfl⟩
abbrev main_c_242 : Ref sig .tc := ⟨.hbm, 1531, rfl⟩
abbrev main_v748 : Ref sig .tc := ⟨.hbm, 1532, rfl⟩
abbrev main_v749 : Ref sig .tc := ⟨.hbm, 1533, rfl⟩
abbrev main_v750 : Ref sig .tc := ⟨.hbm, 1534, rfl⟩
abbrev main_v751 : Ref sig .tc := ⟨.hbm, 1535, rfl⟩
abbrev main_v752 : Ref sig .tc := ⟨.hbm, 1536, rfl⟩
abbrev main_v753 : Ref sig .tc := ⟨.hbm, 1537, rfl⟩
abbrev main_v754 : Ref sig .tc := ⟨.hbm, 1538, rfl⟩
abbrev main_v755 : Ref sig .tc := ⟨.hbm, 1539, rfl⟩
abbrev main_call80_call0_c : Ref sig .tc := ⟨.hbm, 1540, rfl⟩
abbrev main_call80_call0_v0 : Ref sig .tc := ⟨.hbm, 1541, rfl⟩
abbrev main_v756 : Ref sig .tc := ⟨.hbm, 1542, rfl⟩
abbrev main_c_243 : Ref sig .tc := ⟨.hbm, 1543, rfl⟩
abbrev main_v757 : Ref sig .tc := ⟨.hbm, 1544, rfl⟩
abbrev main_v758 : Ref sig .tc := ⟨.hbm, 1545, rfl⟩
abbrev main_v759 : Ref sig .tc := ⟨.hbm, 1546, rfl⟩
abbrev main_c_244 : Ref sig .tc := ⟨.hbm, 1547, rfl⟩
abbrev main_call81_v0 : Ref sig .tc := ⟨.hbm, 1548, rfl⟩
abbrev main_call81_v1 : Ref sig .tc := ⟨.hbm, 1549, rfl⟩
abbrev main_v760 : Ref sig .tc := ⟨.hbm, 1550, rfl⟩
abbrev main_call82_c : Ref sig .tc := ⟨.hbm, 1551, rfl⟩
abbrev main_call82_v0 : Ref sig .tc := ⟨.hbm, 1552, rfl⟩
abbrev main_v761 : Ref sig .tc := ⟨.hbm, 1553, rfl⟩
abbrev main_v762 : Ref sig .tc := ⟨.hbm, 1554, rfl⟩
abbrev main_c_245 : Ref sig .tc := ⟨.hbm, 1555, rfl⟩
abbrev main_v763 : Ref sig .tc := ⟨.hbm, 1556, rfl⟩
abbrev main_v764 : Ref sig .tc := ⟨.hbm, 1557, rfl⟩
abbrev main_v765 : Ref sig .tc := ⟨.hbm, 1558, rfl⟩
abbrev main_c_246 : Ref sig .tc := ⟨.hbm, 1559, rfl⟩
abbrev main_v766 : Ref sig .tc := ⟨.hbm, 1560, rfl⟩
abbrev main_v767 : Ref sig .tc := ⟨.hbm, 1561, rfl⟩
abbrev main_v768 : Ref sig .tc := ⟨.hbm, 1562, rfl⟩
abbrev main_c_247 : Ref sig .tc := ⟨.hbm, 1563, rfl⟩
abbrev main_v769 : Ref sig .tc := ⟨.hbm, 1564, rfl⟩
abbrev main_v770 : Ref sig .tc := ⟨.hbm, 1565, rfl⟩
abbrev main_v771 : Ref sig .tc := ⟨.hbm, 1566, rfl⟩
abbrev main_c_248 : Ref sig .tc := ⟨.hbm, 1567, rfl⟩
abbrev main_call83_v0 : Ref sig .tc := ⟨.hbm, 1568, rfl⟩
abbrev main_call83_v1 : Ref sig .tc := ⟨.hbm, 1569, rfl⟩
abbrev main_v772 : Ref sig .tc := ⟨.hbm, 1570, rfl⟩
abbrev main_c_249 : Ref sig .tc := ⟨.hbm, 1571, rfl⟩
abbrev main_call84_v0 : Ref sig .tc := ⟨.hbm, 1572, rfl⟩
abbrev main_call84_v1 : Ref sig .tc := ⟨.hbm, 1573, rfl⟩
abbrev main_v773 : Ref sig .tc := ⟨.hbm, 1574, rfl⟩
abbrev main_cst_250 : Ref sig .tc := ⟨.hbm, 1575, rfl⟩
abbrev main_v774 : Ref sig .tc := ⟨.hbm, 1576, rfl⟩
abbrev main_c_251 : Ref sig .tc := ⟨.hbm, 1577, rfl⟩
abbrev main_v775 : Ref sig .tc := ⟨.hbm, 1578, rfl⟩
abbrev main_v776 : Ref sig .tc := ⟨.hbm, 1579, rfl⟩
abbrev main_c_252 : Ref sig .tc := ⟨.hbm, 1580, rfl⟩
abbrev main_v777 : Ref sig .tc := ⟨.hbm, 1581, rfl⟩
abbrev main_v778 : Ref sig .tc := ⟨.hbm, 1582, rfl⟩
abbrev main_v779 : Ref sig .tc := ⟨.hbm, 1583, rfl⟩
abbrev main_c_253 : Ref sig .tc := ⟨.hbm, 1584, rfl⟩
abbrev main_v780 : Ref sig .tc := ⟨.hbm, 1585, rfl⟩
abbrev main_v781 : Ref sig .tc := ⟨.hbm, 1586, rfl⟩
abbrev main_c_254 : Ref sig .tc := ⟨.hbm, 1587, rfl⟩
abbrev main_v782 : Ref sig .tc := ⟨.hbm, 1588, rfl⟩
abbrev main_v783 : Ref sig .tc := ⟨.hbm, 1589, rfl⟩
abbrev main_v784 : Ref sig .tc := ⟨.hbm, 1590, rfl⟩
abbrev main_v785 : Ref sig .tc := ⟨.hbm, 1591, rfl⟩
abbrev main_v786 : Ref sig .tc := ⟨.hbm, 1592, rfl⟩
abbrev main_v787 : Ref sig .tc := ⟨.hbm, 1593, rfl⟩
abbrev main_v788 : Ref sig .tc := ⟨.hbm, 1594, rfl⟩
abbrev main_c_255 : Ref sig .tc := ⟨.hbm, 1595, rfl⟩
abbrev main_v789 : Ref sig .tc := ⟨.hbm, 1596, rfl⟩
abbrev main_v790 : Ref sig .tc := ⟨.hbm, 1597, rfl⟩
abbrev main_c_256 : Ref sig .tc := ⟨.hbm, 1598, rfl⟩
abbrev main_v791 : Ref sig .tc := ⟨.hbm, 1599, rfl⟩
abbrev main_v792 : Ref sig .tc := ⟨.hbm, 1600, rfl⟩
abbrev main_c_257 : Ref sig .tc := ⟨.hbm, 1601, rfl⟩
abbrev main_v793 : Ref sig .tc := ⟨.hbm, 1602, rfl⟩
abbrev main_v794 : Ref sig .tc := ⟨.hbm, 1603, rfl⟩
abbrev main_v795 : Ref sig .tc := ⟨.hbm, 1604, rfl⟩
abbrev main_v796 : Ref sig .tc := ⟨.hbm, 1605, rfl⟩
abbrev main_v797 : Ref sig .tc := ⟨.hbm, 1606, rfl⟩
abbrev main_c_258 : Ref sig .tc := ⟨.hbm, 1607, rfl⟩
abbrev main_call85_v0 : Ref sig .tc := ⟨.hbm, 1608, rfl⟩
abbrev main_call85_v1 : Ref sig .tc := ⟨.hbm, 1609, rfl⟩
abbrev main_call85_v2 : Ref sig .tc := ⟨.hbm, 1610, rfl⟩
abbrev main_call85_v3 : Ref sig .tc := ⟨.hbm, 1611, rfl⟩
abbrev main_call85_v4 : Ref sig .tc := ⟨.hbm, 1612, rfl⟩
abbrev main_call85_v5 : Ref sig .tc := ⟨.hbm, 1613, rfl⟩
abbrev main_call85_v6 : Ref sig .tc := ⟨.hbm, 1614, rfl⟩
abbrev main_call85_v7 : Ref sig .tc := ⟨.hbm, 1615, rfl⟩
abbrev main_call85_v8 : Ref sig .tc := ⟨.hbm, 1616, rfl⟩
abbrev main_call85_c : Ref sig .tc := ⟨.hbm, 1617, rfl⟩
abbrev main_call85_v9 : Ref sig .tc := ⟨.hbm, 1618, rfl⟩
abbrev main_call85_v10 : Ref sig .tc := ⟨.hbm, 1619, rfl⟩
abbrev main_call85_v11 : Ref sig .tc := ⟨.hbm, 1620, rfl⟩
abbrev main_call85_c_0 : Ref sig .tc := ⟨.hbm, 1621, rfl⟩
abbrev main_call85_v12 : Ref sig .tc := ⟨.hbm, 1622, rfl⟩
abbrev main_call85_v13 : Ref sig .tc := ⟨.hbm, 1623, rfl⟩
abbrev main_v798 : Ref sig .tc := ⟨.hbm, 1624, rfl⟩
abbrev main_c_259 : Ref sig .tc := ⟨.hbm, 1625, rfl⟩
abbrev main_call86_v0 : Ref sig .tc := ⟨.hbm, 1626, rfl⟩
abbrev main_call86_v1 : Ref sig .tc := ⟨.hbm, 1627, rfl⟩
abbrev main_call86_v2 : Ref sig .tc := ⟨.hbm, 1628, rfl⟩
abbrev main_call86_v3 : Ref sig .tc := ⟨.hbm, 1629, rfl⟩
abbrev main_call86_v4 : Ref sig .tc := ⟨.hbm, 1630, rfl⟩
abbrev main_call86_v5 : Ref sig .tc := ⟨.hbm, 1631, rfl⟩
abbrev main_call86_v6 : Ref sig .tc := ⟨.hbm, 1632, rfl⟩
abbrev main_call86_v7 : Ref sig .tc := ⟨.hbm, 1633, rfl⟩
abbrev main_call86_v8 : Ref sig .tc := ⟨.hbm, 1634, rfl⟩
abbrev main_call86_c : Ref sig .tc := ⟨.hbm, 1635, rfl⟩
abbrev main_call86_v9 : Ref sig .tc := ⟨.hbm, 1636, rfl⟩
abbrev main_call86_v10 : Ref sig .tc := ⟨.hbm, 1637, rfl⟩
abbrev main_call86_v11 : Ref sig .tc := ⟨.hbm, 1638, rfl⟩
abbrev main_call86_c_0 : Ref sig .tc := ⟨.hbm, 1639, rfl⟩
abbrev main_call86_v12 : Ref sig .tc := ⟨.hbm, 1640, rfl⟩
abbrev main_call86_v13 : Ref sig .tc := ⟨.hbm, 1641, rfl⟩
abbrev main_v799 : Ref sig .tc := ⟨.hbm, 1642, rfl⟩
abbrev main_c_260 : Ref sig .tc := ⟨.hbm, 1643, rfl⟩
abbrev main_call87_v0 : Ref sig .tc := ⟨.hbm, 1644, rfl⟩
abbrev main_call87_c : Ref sig .tc := ⟨.hbm, 1645, rfl⟩
abbrev main_call87_v1 : Ref sig .tc := ⟨.hbm, 1646, rfl⟩
abbrev main_call87_c_0 : Ref sig .tc := ⟨.hbm, 1647, rfl⟩
abbrev main_call87_v2 : Ref sig .tc := ⟨.hbm, 1648, rfl⟩
abbrev main_call87_v3 : Ref sig .tc := ⟨.hbm, 1649, rfl⟩
abbrev main_call87_v4 : Ref sig .tc := ⟨.hbm, 1650, rfl⟩
abbrev main_call87_c_1 : Ref sig .tc := ⟨.hbm, 1651, rfl⟩
abbrev main_call87_v5 : Ref sig .tc := ⟨.hbm, 1652, rfl⟩
abbrev main_call87_v6 : Ref sig .tc := ⟨.hbm, 1653, rfl⟩
abbrev main_call87_c_2 : Ref sig .tc := ⟨.hbm, 1654, rfl⟩
abbrev main_call87_v7 : Ref sig .tc := ⟨.hbm, 1655, rfl⟩
abbrev main_call87_v8 : Ref sig .tc := ⟨.hbm, 1656, rfl⟩
abbrev main_call87_c_3 : Ref sig .tc := ⟨.hbm, 1657, rfl⟩
abbrev main_call87_v9 : Ref sig .tc := ⟨.hbm, 1658, rfl⟩
abbrev main_call87_v10 : Ref sig .tc := ⟨.hbm, 1659, rfl⟩
abbrev main_call87_v11 : Ref sig .tc := ⟨.hbm, 1660, rfl⟩
abbrev main_call87_v12 : Ref sig .tc := ⟨.hbm, 1661, rfl⟩
abbrev main_call87_v13 : Ref sig .tc := ⟨.hbm, 1662, rfl⟩
abbrev main_call87_v14 : Ref sig .tc := ⟨.hbm, 1663, rfl⟩
abbrev main_v800 : Ref sig .tc := ⟨.hbm, 1664, rfl⟩
abbrev main_c_261 : Ref sig .tc := ⟨.hbm, 1665, rfl⟩
abbrev main_call88_v0 : Ref sig .tc := ⟨.hbm, 1666, rfl⟩
abbrev main_call88_c : Ref sig .tc := ⟨.hbm, 1667, rfl⟩
abbrev main_call88_v1 : Ref sig .tc := ⟨.hbm, 1668, rfl⟩
abbrev main_call88_c_0 : Ref sig .tc := ⟨.hbm, 1669, rfl⟩
abbrev main_call88_v2 : Ref sig .tc := ⟨.hbm, 1670, rfl⟩
abbrev main_call88_v3 : Ref sig .tc := ⟨.hbm, 1671, rfl⟩
abbrev main_call88_v4 : Ref sig .tc := ⟨.hbm, 1672, rfl⟩
abbrev main_call88_c_1 : Ref sig .tc := ⟨.hbm, 1673, rfl⟩
abbrev main_call88_v5 : Ref sig .tc := ⟨.hbm, 1674, rfl⟩
abbrev main_call88_v6 : Ref sig .tc := ⟨.hbm, 1675, rfl⟩
abbrev main_call88_c_2 : Ref sig .tc := ⟨.hbm, 1676, rfl⟩
abbrev main_call88_v7 : Ref sig .tc := ⟨.hbm, 1677, rfl⟩
abbrev main_call88_v8 : Ref sig .tc := ⟨.hbm, 1678, rfl⟩
abbrev main_call88_c_3 : Ref sig .tc := ⟨.hbm, 1679, rfl⟩
abbrev main_call88_v9 : Ref sig .tc := ⟨.hbm, 1680, rfl⟩
abbrev main_call88_v10 : Ref sig .tc := ⟨.hbm, 1681, rfl⟩
abbrev main_call88_v11 : Ref sig .tc := ⟨.hbm, 1682, rfl⟩
abbrev main_call88_v12 : Ref sig .tc := ⟨.hbm, 1683, rfl⟩
abbrev main_call88_v13 : Ref sig .tc := ⟨.hbm, 1684, rfl⟩
abbrev main_call88_v14 : Ref sig .tc := ⟨.hbm, 1685, rfl⟩
abbrev main_v801 : Ref sig .tc := ⟨.hbm, 1686, rfl⟩
abbrev main_v802 : Ref sig .tc := ⟨.hbm, 1687, rfl⟩
abbrev main_v803 : Ref sig .tc := ⟨.hbm, 1688, rfl⟩
abbrev main_v804 : Ref sig .tc := ⟨.hbm, 1689, rfl⟩
abbrev main_v805 : Ref sig .tc := ⟨.hbm, 1690, rfl⟩
abbrev main_c_262 : Ref sig .tc := ⟨.hbm, 1691, rfl⟩
abbrev main_v806 : Ref sig .tc := ⟨.hbm, 1692, rfl⟩
abbrev main_v807 : Ref sig .tc := ⟨.hbm, 1693, rfl⟩
abbrev main_v808 : Ref sig .tc := ⟨.hbm, 1694, rfl⟩
abbrev main_c_263 : Ref sig .tc := ⟨.hbm, 1695, rfl⟩
abbrev main_call89_v0 : Ref sig .tc := ⟨.hbm, 1696, rfl⟩
abbrev main_call89_v1 : Ref sig .tc := ⟨.hbm, 1697, rfl⟩
abbrev main_v809 : Ref sig .tc := ⟨.hbm, 1698, rfl⟩
abbrev main_c_264 : Ref sig .tc := ⟨.hbm, 1699, rfl⟩
abbrev main_v810 : Ref sig .tc := ⟨.hbm, 1700, rfl⟩
abbrev main_c_265 : Ref sig .tc := ⟨.hbm, 1701, rfl⟩
abbrev main_v811 : Ref sig .tc := ⟨.hbm, 1702, rfl⟩
abbrev main_v812 : Ref sig .tc := ⟨.hbm, 1703, rfl⟩
abbrev main_c_266 : Ref sig .tc := ⟨.hbm, 1704, rfl⟩
abbrev main_v813 : Ref sig .tc := ⟨.hbm, 1705, rfl⟩
abbrev main_v814 : Ref sig .tc := ⟨.hbm, 1706, rfl⟩
abbrev main_v815 : Ref sig .tc := ⟨.hbm, 1707, rfl⟩
abbrev main_v816 : Ref sig .tc := ⟨.hbm, 1708, rfl⟩
abbrev main_v817 : Ref sig .tc := ⟨.hbm, 1709, rfl⟩
abbrev main_c_267 : Ref sig .tc := ⟨.hbm, 1710, rfl⟩
abbrev main_call90_v0 : Ref sig .tc := ⟨.hbm, 1711, rfl⟩
abbrev main_v818 : Ref sig .tc := ⟨.hbm, 1712, rfl⟩
abbrev main_v819 : Ref sig .tc := ⟨.hbm, 1713, rfl⟩
abbrev main_v820 : Ref sig .tc := ⟨.hbm, 1714, rfl⟩
abbrev main_v821 : Ref sig .tc := ⟨.hbm, 1715, rfl⟩
abbrev main_v822 : Ref sig .tc := ⟨.hbm, 1716, rfl⟩
abbrev main_v823 : Ref sig .tc := ⟨.hbm, 1717, rfl⟩
abbrev main_v824 : Ref sig .tc := ⟨.hbm, 1718, rfl⟩
abbrev main_v825 : Ref sig .tc := ⟨.hbm, 1719, rfl⟩
abbrev main_v826 : Ref sig .tc := ⟨.hbm, 1720, rfl⟩
abbrev main_v827 : Ref sig .tc := ⟨.hbm, 1721, rfl⟩
abbrev main_v828 : Ref sig .tc := ⟨.hbm, 1722, rfl⟩
abbrev main_v829 : Ref sig .tc := ⟨.hbm, 1723, rfl⟩
abbrev main_c_268 : Ref sig .tc := ⟨.hbm, 1724, rfl⟩
abbrev main_v830 : Ref sig .tc := ⟨.hbm, 1725, rfl⟩
abbrev main_v831 : Ref sig .tc := ⟨.hbm, 1726, rfl⟩
abbrev main_v832 : Ref sig .tc := ⟨.hbm, 1727, rfl⟩
abbrev main_v833 : Ref sig .tc := ⟨.hbm, 1728, rfl⟩
abbrev main_v834 : Ref sig .tc := ⟨.hbm, 1729, rfl⟩
abbrev main_v835 : Ref sig .tc := ⟨.hbm, 1730, rfl⟩
abbrev main_c_269 : Ref sig .tc := ⟨.hbm, 1731, rfl⟩
abbrev main_v836 : Ref sig .tc := ⟨.hbm, 1732, rfl⟩
abbrev main_v837 : Ref sig .tc := ⟨.hbm, 1733, rfl⟩
abbrev main_v838 : Ref sig .tc := ⟨.hbm, 1734, rfl⟩
abbrev main_c_270 : Ref sig .tc := ⟨.hbm, 1735, rfl⟩
abbrev main_v839 : Ref sig .tc := ⟨.hbm, 1736, rfl⟩
abbrev main_v840 : Ref sig .tc := ⟨.hbm, 1737, rfl⟩
abbrev main_v841 : Ref sig .tc := ⟨.hbm, 1738, rfl⟩
abbrev main_v842 : Ref sig .tc := ⟨.hbm, 1739, rfl⟩
abbrev main_v843 : Ref sig .tc := ⟨.hbm, 1740, rfl⟩
abbrev main_c_271 : Ref sig .tc := ⟨.hbm, 1741, rfl⟩
abbrev main_v844 : Ref sig .tc := ⟨.hbm, 1742, rfl⟩
abbrev main_v845 : Ref sig .tc := ⟨.hbm, 1743, rfl⟩
abbrev main_v846 : Ref sig .tc := ⟨.hbm, 1744, rfl⟩
abbrev main_v847 : Ref sig .tc := ⟨.hbm, 1745, rfl⟩
abbrev main_v848 : Ref sig .tc := ⟨.hbm, 1746, rfl⟩
abbrev main_c_272 : Ref sig .tc := ⟨.hbm, 1747, rfl⟩
abbrev main_call91_v0 : Ref sig .tc := ⟨.hbm, 1748, rfl⟩
abbrev main_call91_v1 : Ref sig .tc := ⟨.hbm, 1749, rfl⟩
abbrev main_v849 : Ref sig .tc := ⟨.hbm, 1750, rfl⟩
abbrev main_call92_v0 : Ref sig .tc := ⟨.hbm, 1751, rfl⟩
abbrev main_call92_v1_0 : Ref sig .tc := ⟨.hbm, 1752, rfl⟩
abbrev main_v850 : Ref sig .tc := ⟨.hbm, 1753, rfl⟩
abbrev main_c_273 : Ref sig .tc := ⟨.hbm, 1754, rfl⟩
abbrev main_v851 : Ref sig .tc := ⟨.hbm, 1755, rfl⟩
abbrev main_v852 : Ref sig .tc := ⟨.hbm, 1756, rfl⟩
abbrev main_c_274 : Ref sig .tc := ⟨.hbm, 1757, rfl⟩
abbrev main_v853 : Ref sig .tc := ⟨.hbm, 1758, rfl⟩
abbrev main_v854 : Ref sig .tc := ⟨.hbm, 1759, rfl⟩
abbrev main_v855 : Ref sig .tc := ⟨.hbm, 1760, rfl⟩
abbrev main_v856 : Ref sig .tc := ⟨.hbm, 1761, rfl⟩
abbrev main_v857 : Ref sig .tc := ⟨.hbm, 1762, rfl⟩
abbrev main_c_275 : Ref sig .tc := ⟨.hbm, 1763, rfl⟩
abbrev main_v858 : Ref sig .tc := ⟨.hbm, 1764, rfl⟩
abbrev main_v859 : Ref sig .tc := ⟨.hbm, 1765, rfl⟩
abbrev main_c_276 : Ref sig .tc := ⟨.hbm, 1766, rfl⟩
abbrev main_v860 : Ref sig .tc := ⟨.hbm, 1767, rfl⟩
abbrev main_v861 : Ref sig .tc := ⟨.hbm, 1768, rfl⟩
abbrev main_v862 : Ref sig .tc := ⟨.hbm, 1769, rfl⟩
abbrev main_v863 : Ref sig .tc := ⟨.hbm, 1770, rfl⟩
abbrev main_v864 : Ref sig .tc := ⟨.hbm, 1771, rfl⟩
abbrev main_c_277 : Ref sig .tc := ⟨.hbm, 1772, rfl⟩
abbrev main_v865 : Ref sig .tc := ⟨.hbm, 1773, rfl⟩
abbrev main_v866 : Ref sig .tc := ⟨.hbm, 1774, rfl⟩
abbrev main_v867 : Ref sig .tc := ⟨.hbm, 1775, rfl⟩
abbrev main_v868 : Ref sig .tc := ⟨.hbm, 1776, rfl⟩
abbrev main_v869 : Ref sig .tc := ⟨.hbm, 1777, rfl⟩
abbrev main_v870 : Ref sig .tc := ⟨.hbm, 1778, rfl⟩
abbrev main_v871 : Ref sig .tc := ⟨.hbm, 1779, rfl⟩
abbrev main_v872 : Ref sig .tc := ⟨.hbm, 1780, rfl⟩
abbrev main_call93_call0_c : Ref sig .tc := ⟨.hbm, 1781, rfl⟩
abbrev main_call93_call0_v0 : Ref sig .tc := ⟨.hbm, 1782, rfl⟩
abbrev main_v873 : Ref sig .tc := ⟨.hbm, 1783, rfl⟩
abbrev main_c_278 : Ref sig .tc := ⟨.hbm, 1784, rfl⟩
abbrev main_v874 : Ref sig .tc := ⟨.hbm, 1785, rfl⟩
abbrev main_v875 : Ref sig .tc := ⟨.hbm, 1786, rfl⟩
abbrev main_v876 : Ref sig .tc := ⟨.hbm, 1787, rfl⟩
abbrev main_c_279 : Ref sig .tc := ⟨.hbm, 1788, rfl⟩
abbrev main_call94_v0 : Ref sig .tc := ⟨.hbm, 1789, rfl⟩
abbrev main_call94_v1 : Ref sig .tc := ⟨.hbm, 1790, rfl⟩
abbrev main_v877 : Ref sig .tc := ⟨.hbm, 1791, rfl⟩
abbrev main_call95_c : Ref sig .tc := ⟨.hbm, 1792, rfl⟩
abbrev main_call95_v0 : Ref sig .tc := ⟨.hbm, 1793, rfl⟩
abbrev main_v878 : Ref sig .tc := ⟨.hbm, 1794, rfl⟩
abbrev main_v879 : Ref sig .tc := ⟨.hbm, 1795, rfl⟩
abbrev main_c_280 : Ref sig .tc := ⟨.hbm, 1796, rfl⟩
abbrev main_v880 : Ref sig .tc := ⟨.hbm, 1797, rfl⟩
abbrev main_v881 : Ref sig .tc := ⟨.hbm, 1798, rfl⟩
abbrev main_v882 : Ref sig .tc := ⟨.hbm, 1799, rfl⟩
abbrev main_c_281 : Ref sig .tc := ⟨.hbm, 1800, rfl⟩
abbrev main_v883 : Ref sig .tc := ⟨.hbm, 1801, rfl⟩
abbrev main_v884 : Ref sig .tc := ⟨.hbm, 1802, rfl⟩
abbrev main_v885 : Ref sig .tc := ⟨.hbm, 1803, rfl⟩
abbrev main_c_282 : Ref sig .tc := ⟨.hbm, 1804, rfl⟩
abbrev main_v886 : Ref sig .tc := ⟨.hbm, 1805, rfl⟩
abbrev main_v887 : Ref sig .tc := ⟨.hbm, 1806, rfl⟩
abbrev main_v888 : Ref sig .tc := ⟨.hbm, 1807, rfl⟩
abbrev main_c_283 : Ref sig .tc := ⟨.hbm, 1808, rfl⟩
abbrev main_call96_v0 : Ref sig .tc := ⟨.hbm, 1809, rfl⟩
abbrev main_call96_v1 : Ref sig .tc := ⟨.hbm, 1810, rfl⟩
abbrev main_v889 : Ref sig .tc := ⟨.hbm, 1811, rfl⟩
abbrev main_c_284 : Ref sig .tc := ⟨.hbm, 1812, rfl⟩
abbrev main_call97_v0 : Ref sig .tc := ⟨.hbm, 1813, rfl⟩
abbrev main_call97_v1 : Ref sig .tc := ⟨.hbm, 1814, rfl⟩
abbrev main_v890 : Ref sig .tc := ⟨.hbm, 1815, rfl⟩
abbrev main_cst_285 : Ref sig .tc := ⟨.hbm, 1816, rfl⟩
abbrev main_v891 : Ref sig .tc := ⟨.hbm, 1817, rfl⟩
abbrev main_c_286 : Ref sig .tc := ⟨.hbm, 1818, rfl⟩
abbrev main_v892 : Ref sig .tc := ⟨.hbm, 1819, rfl⟩
abbrev main_v893 : Ref sig .tc := ⟨.hbm, 1820, rfl⟩
abbrev main_c_287 : Ref sig .tc := ⟨.hbm, 1821, rfl⟩
abbrev main_v894 : Ref sig .tc := ⟨.hbm, 1822, rfl⟩
abbrev main_v895 : Ref sig .tc := ⟨.hbm, 1823, rfl⟩
abbrev main_v896 : Ref sig .tc := ⟨.hbm, 1824, rfl⟩
abbrev main_c_288 : Ref sig .tc := ⟨.hbm, 1825, rfl⟩
abbrev main_v897 : Ref sig .tc := ⟨.hbm, 1826, rfl⟩
abbrev main_v898 : Ref sig .tc := ⟨.hbm, 1827, rfl⟩
abbrev main_c_289 : Ref sig .tc := ⟨.hbm, 1828, rfl⟩
abbrev main_v899 : Ref sig .tc := ⟨.hbm, 1829, rfl⟩
abbrev main_v900 : Ref sig .tc := ⟨.hbm, 1830, rfl⟩
abbrev main_v901 : Ref sig .tc := ⟨.hbm, 1831, rfl⟩
abbrev main_v902 : Ref sig .tc := ⟨.hbm, 1832, rfl⟩
abbrev main_v903 : Ref sig .tc := ⟨.hbm, 1833, rfl⟩
abbrev main_v904 : Ref sig .tc := ⟨.hbm, 1834, rfl⟩
abbrev main_v905 : Ref sig .tc := ⟨.hbm, 1835, rfl⟩
abbrev main_c_290 : Ref sig .tc := ⟨.hbm, 1836, rfl⟩
abbrev main_v906 : Ref sig .tc := ⟨.hbm, 1837, rfl⟩
abbrev main_v907 : Ref sig .tc := ⟨.hbm, 1838, rfl⟩
abbrev main_c_291 : Ref sig .tc := ⟨.hbm, 1839, rfl⟩
abbrev main_v908 : Ref sig .tc := ⟨.hbm, 1840, rfl⟩
abbrev main_v909 : Ref sig .tc := ⟨.hbm, 1841, rfl⟩
abbrev main_c_292 : Ref sig .tc := ⟨.hbm, 1842, rfl⟩
abbrev main_v910 : Ref sig .tc := ⟨.hbm, 1843, rfl⟩
abbrev main_v911 : Ref sig .tc := ⟨.hbm, 1844, rfl⟩
abbrev main_v912 : Ref sig .tc := ⟨.hbm, 1845, rfl⟩
abbrev main_v913 : Ref sig .tc := ⟨.hbm, 1846, rfl⟩
abbrev main_v914 : Ref sig .tc := ⟨.hbm, 1847, rfl⟩
abbrev main_c_293 : Ref sig .tc := ⟨.hbm, 1848, rfl⟩
abbrev main_call98_v0 : Ref sig .tc := ⟨.hbm, 1849, rfl⟩
abbrev main_call98_v1 : Ref sig .tc := ⟨.hbm, 1850, rfl⟩
abbrev main_call98_v2 : Ref sig .tc := ⟨.hbm, 1851, rfl⟩
abbrev main_call98_v3 : Ref sig .tc := ⟨.hbm, 1852, rfl⟩
abbrev main_call98_v4 : Ref sig .tc := ⟨.hbm, 1853, rfl⟩
abbrev main_call98_v5 : Ref sig .tc := ⟨.hbm, 1854, rfl⟩
abbrev main_call98_v6 : Ref sig .tc := ⟨.hbm, 1855, rfl⟩
abbrev main_call98_v7 : Ref sig .tc := ⟨.hbm, 1856, rfl⟩
abbrev main_call98_v8 : Ref sig .tc := ⟨.hbm, 1857, rfl⟩
abbrev main_call98_c : Ref sig .tc := ⟨.hbm, 1858, rfl⟩
abbrev main_call98_v9 : Ref sig .tc := ⟨.hbm, 1859, rfl⟩
abbrev main_call98_v10 : Ref sig .tc := ⟨.hbm, 1860, rfl⟩
abbrev main_call98_v11 : Ref sig .tc := ⟨.hbm, 1861, rfl⟩
abbrev main_call98_c_0 : Ref sig .tc := ⟨.hbm, 1862, rfl⟩
abbrev main_call98_v12 : Ref sig .tc := ⟨.hbm, 1863, rfl⟩
abbrev main_call98_v13 : Ref sig .tc := ⟨.hbm, 1864, rfl⟩
abbrev main_v915 : Ref sig .tc := ⟨.hbm, 1865, rfl⟩
abbrev main_c_294 : Ref sig .tc := ⟨.hbm, 1866, rfl⟩
abbrev main_call99_v0 : Ref sig .tc := ⟨.hbm, 1867, rfl⟩
abbrev main_call99_v1 : Ref sig .tc := ⟨.hbm, 1868, rfl⟩
abbrev main_call99_v2 : Ref sig .tc := ⟨.hbm, 1869, rfl⟩
abbrev main_call99_v3 : Ref sig .tc := ⟨.hbm, 1870, rfl⟩
abbrev main_call99_v4 : Ref sig .tc := ⟨.hbm, 1871, rfl⟩
abbrev main_call99_v5 : Ref sig .tc := ⟨.hbm, 1872, rfl⟩
abbrev main_call99_v6 : Ref sig .tc := ⟨.hbm, 1873, rfl⟩
abbrev main_call99_v7 : Ref sig .tc := ⟨.hbm, 1874, rfl⟩
abbrev main_call99_v8 : Ref sig .tc := ⟨.hbm, 1875, rfl⟩
abbrev main_call99_c : Ref sig .tc := ⟨.hbm, 1876, rfl⟩
abbrev main_call99_v9 : Ref sig .tc := ⟨.hbm, 1877, rfl⟩
abbrev main_call99_v10 : Ref sig .tc := ⟨.hbm, 1878, rfl⟩
abbrev main_call99_v11 : Ref sig .tc := ⟨.hbm, 1879, rfl⟩
abbrev main_call99_c_0 : Ref sig .tc := ⟨.hbm, 1880, rfl⟩
abbrev main_call99_v12 : Ref sig .tc := ⟨.hbm, 1881, rfl⟩
abbrev main_call99_v13 : Ref sig .tc := ⟨.hbm, 1882, rfl⟩
abbrev main_v916 : Ref sig .tc := ⟨.hbm, 1883, rfl⟩
abbrev main_c_295 : Ref sig .tc := ⟨.hbm, 1884, rfl⟩
abbrev main_call100_v0 : Ref sig .tc := ⟨.hbm, 1885, rfl⟩
abbrev main_call100_c : Ref sig .tc := ⟨.hbm, 1886, rfl⟩
abbrev main_call100_v1 : Ref sig .tc := ⟨.hbm, 1887, rfl⟩
abbrev main_call100_c_0 : Ref sig .tc := ⟨.hbm, 1888, rfl⟩
abbrev main_call100_v2 : Ref sig .tc := ⟨.hbm, 1889, rfl⟩
abbrev main_call100_v3 : Ref sig .tc := ⟨.hbm, 1890, rfl⟩
abbrev main_call100_v4 : Ref sig .tc := ⟨.hbm, 1891, rfl⟩
abbrev main_call100_c_1 : Ref sig .tc := ⟨.hbm, 1892, rfl⟩
abbrev main_call100_v5 : Ref sig .tc := ⟨.hbm, 1893, rfl⟩
abbrev main_call100_v6 : Ref sig .tc := ⟨.hbm, 1894, rfl⟩
abbrev main_call100_c_2 : Ref sig .tc := ⟨.hbm, 1895, rfl⟩
abbrev main_call100_v7 : Ref sig .tc := ⟨.hbm, 1896, rfl⟩
abbrev main_call100_v8 : Ref sig .tc := ⟨.hbm, 1897, rfl⟩
abbrev main_call100_c_3 : Ref sig .tc := ⟨.hbm, 1898, rfl⟩
abbrev main_call100_v9 : Ref sig .tc := ⟨.hbm, 1899, rfl⟩
abbrev main_call100_v10 : Ref sig .tc := ⟨.hbm, 1900, rfl⟩
abbrev main_call100_v11 : Ref sig .tc := ⟨.hbm, 1901, rfl⟩
abbrev main_call100_v12 : Ref sig .tc := ⟨.hbm, 1902, rfl⟩
abbrev main_call100_v13 : Ref sig .tc := ⟨.hbm, 1903, rfl⟩
abbrev main_call100_v14 : Ref sig .tc := ⟨.hbm, 1904, rfl⟩
abbrev main_v917 : Ref sig .tc := ⟨.hbm, 1905, rfl⟩
abbrev main_c_296 : Ref sig .tc := ⟨.hbm, 1906, rfl⟩
abbrev main_call101_v0 : Ref sig .tc := ⟨.hbm, 1907, rfl⟩
abbrev main_call101_c : Ref sig .tc := ⟨.hbm, 1908, rfl⟩
abbrev main_call101_v1 : Ref sig .tc := ⟨.hbm, 1909, rfl⟩
abbrev main_call101_c_0 : Ref sig .tc := ⟨.hbm, 1910, rfl⟩
abbrev main_call101_v2 : Ref sig .tc := ⟨.hbm, 1911, rfl⟩
abbrev main_call101_v3 : Ref sig .tc := ⟨.hbm, 1912, rfl⟩
abbrev main_call101_v4 : Ref sig .tc := ⟨.hbm, 1913, rfl⟩
abbrev main_call101_c_1 : Ref sig .tc := ⟨.hbm, 1914, rfl⟩
abbrev main_call101_v5 : Ref sig .tc := ⟨.hbm, 1915, rfl⟩
abbrev main_call101_v6 : Ref sig .tc := ⟨.hbm, 1916, rfl⟩
abbrev main_call101_c_2 : Ref sig .tc := ⟨.hbm, 1917, rfl⟩
abbrev main_call101_v7 : Ref sig .tc := ⟨.hbm, 1918, rfl⟩
abbrev main_call101_v8 : Ref sig .tc := ⟨.hbm, 1919, rfl⟩
abbrev main_call101_c_3 : Ref sig .tc := ⟨.hbm, 1920, rfl⟩
abbrev main_call101_v9 : Ref sig .tc := ⟨.hbm, 1921, rfl⟩
abbrev main_call101_v10 : Ref sig .tc := ⟨.hbm, 1922, rfl⟩
abbrev main_call101_v11 : Ref sig .tc := ⟨.hbm, 1923, rfl⟩
abbrev main_call101_v12 : Ref sig .tc := ⟨.hbm, 1924, rfl⟩
abbrev main_call101_v13 : Ref sig .tc := ⟨.hbm, 1925, rfl⟩
abbrev main_call101_v14 : Ref sig .tc := ⟨.hbm, 1926, rfl⟩
abbrev main_v918 : Ref sig .tc := ⟨.hbm, 1927, rfl⟩
abbrev main_v919 : Ref sig .tc := ⟨.hbm, 1928, rfl⟩
abbrev main_v920 : Ref sig .tc := ⟨.hbm, 1929, rfl⟩
abbrev main_v921 : Ref sig .tc := ⟨.hbm, 1930, rfl⟩
abbrev main_v922 : Ref sig .tc := ⟨.hbm, 1931, rfl⟩
abbrev main_c_297 : Ref sig .tc := ⟨.hbm, 1932, rfl⟩
abbrev main_v923 : Ref sig .tc := ⟨.hbm, 1933, rfl⟩
abbrev main_v924 : Ref sig .tc := ⟨.hbm, 1934, rfl⟩
abbrev main_v925 : Ref sig .tc := ⟨.hbm, 1935, rfl⟩
abbrev main_c_298 : Ref sig .tc := ⟨.hbm, 1936, rfl⟩
abbrev main_call102_v0 : Ref sig .tc := ⟨.hbm, 1937, rfl⟩
abbrev main_call102_v1 : Ref sig .tc := ⟨.hbm, 1938, rfl⟩
abbrev main_v926 : Ref sig .tc := ⟨.hbm, 1939, rfl⟩
abbrev main_c_299 : Ref sig .tc := ⟨.hbm, 1940, rfl⟩
abbrev main_v927 : Ref sig .tc := ⟨.hbm, 1941, rfl⟩
abbrev main_c_300 : Ref sig .tc := ⟨.hbm, 1942, rfl⟩
abbrev main_v928 : Ref sig .tc := ⟨.hbm, 1943, rfl⟩
abbrev main_v929 : Ref sig .tc := ⟨.hbm, 1944, rfl⟩
abbrev main_c_301 : Ref sig .tc := ⟨.hbm, 1945, rfl⟩
abbrev main_v930 : Ref sig .tc := ⟨.hbm, 1946, rfl⟩
abbrev main_v931 : Ref sig .tc := ⟨.hbm, 1947, rfl⟩
abbrev main_v932 : Ref sig .tc := ⟨.hbm, 1948, rfl⟩
abbrev main_v933 : Ref sig .tc := ⟨.hbm, 1949, rfl⟩
abbrev main_v934 : Ref sig .tc := ⟨.hbm, 1950, rfl⟩
abbrev main_c_302 : Ref sig .tc := ⟨.hbm, 1951, rfl⟩
abbrev main_call103_v0 : Ref sig .tc := ⟨.hbm, 1952, rfl⟩
abbrev main_v935 : Ref sig .tc := ⟨.hbm, 1953, rfl⟩
abbrev main_v936 : Ref sig .tc := ⟨.hbm, 1954, rfl⟩
abbrev main_v937 : Ref sig .tc := ⟨.hbm, 1955, rfl⟩
abbrev main_v938 : Ref sig .tc := ⟨.hbm, 1956, rfl⟩

abbrev nD : Nat := 1
abbrev τ : Topo := Topo.v7x

variable {F : FTy → Type} [FloatOps F]
-- ==== Proof.Tame.lean ====
module

public import Idealize.ShloMosaic.Lib.StableHlo.Run

/-! Host operations that write one late buffer each. -/

@[expose] public section

namespace Cert

open Idealize.ShloMosaic Idealize.ShloMosaic.StableHlo

variable {τ : Topo} {sig : RefSig} {Val : EltTy → Type}

/-- Whether a buffer lies in the main memory at place `n` or later. -/
def later (n : ℕ) (y : Ref sig .tc) : Bool := decide (y.space = .hbm) && Nat.ble n y.idx.val

/-- An operation that allocates nothing and writes one buffer, of the main memory at place `n` or later. -/
structure Tame (n : ℕ) (op : HloOp τ sig Val) : Prop where
  fresh : op.fresh = ∅
  dest : ∃ y : Ref sig .tc, op.writes = {Proc.devRef .tc y} ∧ later n y = true

/-- Such an operation does not write a buffer that is not there. -/
theorem Tame.not_mem {n : ℕ} {op : HloOp τ sig Val} (h : Tame n op) {b : Ref sig .tc} (hb : later n b = false) :
    Proc.devRef .tc b ∉ op.writes := by
  obtain ⟨y, hy, hl⟩ := h.dest
  rw [hy, Finset.mem_singleton]
  intro e
  rw [Proc.devRef_injective _ e, hl] at hb
  exact Bool.noConfusion hb

/-- A line of such operations leaves the other buffers alone. -/
theorem Tame.after_early {n : ℕ} {b : Ref sig .tc} (hb : later n b = false) (ops : List (HloOp τ sig Val))
    (V : Valuation τ sig Val) (h : ∀ op ∈ ops, Tame n op) : after ops V (Proc.devRef .tc b) = V (Proc.devRef .tc b) :=
  after_of_forall_not_mem _ _ fun op hop => (h op hop).not_mem hb

end Cert
-- ==== Proof.AroundI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp
public import proofs.«01_k».proof.Proof.Tame

/-! The launch of the program `KernelIdeal`: its one region, then the host operations of the eight clouds. -/

@[expose] public section

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- The operations that voxelize one cloud, line by line: the cloud's points and voxel ids are cut out first, the rest works
    on these. -/
def cloud : Fin 8 → List (List (HloOp τ sig (Elt F)))
  | 0 => [hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15, hostOps1_16,
    hostOps1_17, hostOps1_18, hostOps1_19, hostOps1_20, hostOps1_21, hostOps1_22]
  | 1 => [hostOps1_23, hostOps1_24, hostOps1_25, hostOps1_26, hostOps1_27, hostOps1_28, hostOps1_29, hostOps1_30,
    hostOps1_31, hostOps1_32, hostOps1_33, hostOps1_34, hostOps1_35, hostOps1_36, hostOps1_37, hostOps1_38,
    hostOps1_39, hostOps1_40, hostOps1_41, hostOps1_42, hostOps1_43, hostOps1_44, hostOps1_45]
  | 2 => [hostOps1_46, hostOps1_47, hostOps1_48, hostOps1_49, hostOps1_50, hostOps1_51, hostOps1_52, hostOps1_53,
    hostOps1_54, hostOps1_55, hostOps1_56, hostOps1_57, hostOps1_58, hostOps1_59, hostOps1_60, hostOps1_61,
    hostOps1_62, hostOps1_63, hostOps1_64, hostOps1_65, hostOps1_66, hostOps1_67, hostOps1_68]
  | 3 => [hostOps1_69, hostOps1_70, hostOps1_71, hostOps1_72, hostOps1_73, hostOps1_74, hostOps1_75, hostOps1_76,
    hostOps1_77, hostOps1_78, hostOps1_79, hostOps1_80, hostOps1_81, hostOps1_82, hostOps1_83, hostOps1_84,
    hostOps1_85, hostOps1_86, hostOps1_87, hostOps1_88, hostOps1_89, hostOps1_90, hostOps1_91]
  | 4 => [hostOps1_92, hostOps1_93, hostOps1_94, hostOps1_95, hostOps1_96, hostOps1_97, hostOps1_98, hostOps1_99,
    hostOps1_100, hostOps1_101, hostOps1_102, hostOps1_103, hostOps1_104, hostOps1_105, hostOps1_106,
    hostOps1_107, hostOps1_108, hostOps1_109, hostOps1_110, hostOps1_111, hostOps1_112, hostOps1_113,
    hostOps1_114]
  | 5 => [hostOps1_115, hostOps1_116, hostOps1_117, hostOps1_118, hostOps1_119, hostOps1_120, hostOps1_121,
    hostOps1_122, hostOps1_123, hostOps1_124, hostOps1_125, hostOps1_126, hostOps1_127, hostOps1_128,
    hostOps1_129, hostOps1_130, hostOps1_131, hostOps1_132, hostOps1_133, hostOps1_134, hostOps1_135,
    hostOps1_136, hostOps1_137]
  | 6 => [hostOps1_138, hostOps1_139, hostOps1_140, hostOps1_141, hostOps1_142, hostOps1_143, hostOps1_144,
    hostOps1_145, hostOps1_146, hostOps1_147, hostOps1_148, hostOps1_149, hostOps1_150, hostOps1_151,
    hostOps1_152, hostOps1_153, hostOps1_154, hostOps1_155, hostOps1_156, hostOps1_157, hostOps1_158,
    hostOps1_159, hostOps1_160]
  | 7 => [hostOps1_161, hostOps1_162, hostOps1_163, hostOps1_164, hostOps1_165, hostOps1_166, hostOps1_167,
    hostOps1_168, hostOps1_169, hostOps1_170, hostOps1_171, hostOps1_172, hostOps1_173, hostOps1_174,
    hostOps1_175, hostOps1_176, hostOps1_177, hostOps1_178, hostOps1_179, hostOps1_180, hostOps1_181,
    hostOps1_182, hostOps1_183]

/-- All lines after the region: the eight clouds', then the three concatenations that give the results. -/
def opss : List (List (HloOp τ sig (Elt F))) :=
  cloud 0 ++ (cloud 1 ++ (cloud 2 ++ (cloud 3 ++ (cloud 4 ++ (cloud 5 ++ (cloud 6 ++ (cloud 7 ++ [hostOps1_184])))))))

/-- The operations of one cloud work on TensorCore buffers only. -/
theorem cloud_sub (i : Fin 8) :
    (cloud (F := F) i).Forall fun ops => ops.Forall fun op => op.bufs ⊆ StableHlo.tcRefs τ sig :=
  match i with
  | 0 => ⟨hostOps1_sub, hostOps1_1_sub, hostOps1_2_sub, hostOps1_3_sub, hostOps1_4_sub, hostOps1_5_sub,
    hostOps1_6_sub, hostOps1_7_sub, hostOps1_8_sub, hostOps1_9_sub, hostOps1_10_sub, hostOps1_11_sub,
    hostOps1_12_sub, hostOps1_13_sub, hostOps1_14_sub, hostOps1_15_sub, hostOps1_16_sub, hostOps1_17_sub,
    hostOps1_18_sub, hostOps1_19_sub, hostOps1_20_sub, hostOps1_21_sub, hostOps1_22_sub⟩
  | 1 => ⟨hostOps1_23_sub, hostOps1_24_sub, hostOps1_25_sub, hostOps1_26_sub, hostOps1_27_sub, hostOps1_28_sub,
    hostOps1_29_sub, hostOps1_30_sub, hostOps1_31_sub, hostOps1_32_sub, hostOps1_33_sub, hostOps1_34_sub,
    hostOps1_35_sub, hostOps1_36_sub, hostOps1_37_sub, hostOps1_38_sub, hostOps1_39_sub, hostOps1_40_sub,
    hostOps1_41_sub, hostOps1_42_sub, hostOps1_43_sub, hostOps1_44_sub, hostOps1_45_sub⟩
  | 2 => ⟨hostOps1_46_sub, hostOps1_47_sub, hostOps1_48_sub, hostOps1_49_sub, hostOps1_50_sub, hostOps1_51_sub,
    hostOps1_52_sub, hostOps1_53_sub, hostOps1_54_sub, hostOps1_55_sub, hostOps1_56_sub, hostOps1_57_sub,
    hostOps1_58_sub, hostOps1_59_sub, hostOps1_60_sub, hostOps1_61_sub, hostOps1_62_sub, hostOps1_63_sub,
    hostOps1_64_sub, hostOps1_65_sub, hostOps1_66_sub, hostOps1_67_sub, hostOps1_68_sub⟩
  | 3 => ⟨hostOps1_69_sub, hostOps1_70_sub, hostOps1_71_sub, hostOps1_72_sub, hostOps1_73_sub, hostOps1_74_sub,
    hostOps1_75_sub, hostOps1_76_sub, hostOps1_77_sub, hostOps1_78_sub, hostOps1_79_sub, hostOps1_80_sub,
    hostOps1_81_sub, hostOps1_82_sub, hostOps1_83_sub, hostOps1_84_sub, hostOps1_85_sub, hostOps1_86_sub,
    hostOps1_87_sub, hostOps1_88_sub, hostOps1_89_sub, hostOps1_90_sub, hostOps1_91_sub⟩
  | 4 => ⟨hostOps1_92_sub, hostOps1_93_sub, hostOps1_94_sub, hostOps1_95_sub, hostOps1_96_sub, hostOps1_97_sub,
    hostOps1_98_sub, hostOps1_99_sub, hostOps1_100_sub, hostOps1_101_sub, hostOps1_102_sub, hostOps1_103_sub,
    hostOps1_104_sub, hostOps1_105_sub, hostOps1_106_sub, hostOps1_107_sub, hostOps1_108_sub,
    hostOps1_109_sub, hostOps1_110_sub, hostOps1_111_sub, hostOps1_112_sub, hostOps1_113_sub, hostOps1_114_sub⟩
  | 5 => ⟨hostOps1_115_sub, hostOps1_116_sub, hostOps1_117_sub, hostOps1_118_sub, hostOps1_119_sub,
    hostOps1_120_sub, hostOps1_121_sub, hostOps1_122_sub, hostOps1_123_sub, hostOps1_124_sub,
    hostOps1_125_sub, hostOps1_126_sub, hostOps1_127_sub, hostOps1_128_sub, hostOps1_129_sub,
    hostOps1_130_sub, hostOps1_131_sub, hostOps1_132_sub, hostOps1_133_sub, hostOps1_134_sub,
    hostOps1_135_sub, hostOps1_136_sub, hostOps1_137_sub⟩
  | 6 => ⟨hostOps1_138_sub, hostOps1_139_sub, hostOps1_140_sub, hostOps1_141_sub, hostOps1_142_sub,
    hostOps1_143_sub, hostOps1_144_sub, hostOps1_145_sub, hostOps1_146_sub, hostOps1_147_sub,
    hostOps1_148_sub, hostOps1_149_sub, hostOps1_150_sub, hostOps1_151_sub, hostOps1_152_sub,
    hostOps1_153_sub, hostOps1_154_sub, hostOps1_155_sub, hostOps1_156_sub, hostOps1_157_sub,
    hostOps1_158_sub, hostOps1_159_sub, hostOps1_160_sub⟩
  | 7 => ⟨hostOps1_161_sub, hostOps1_162_sub, hostOps1_163_sub, hostOps1_164_sub, hostOps1_165_sub,
    hostOps1_166_sub, hostOps1_167_sub, hostOps1_168_sub, hostOps1_169_sub, hostOps1_170_sub,
    hostOps1_171_sub, hostOps1_172_sub, hostOps1_173_sub, hostOps1_174_sub, hostOps1_175_sub,
    hostOps1_176_sub, hostOps1_177_sub, hostOps1_178_sub, hostOps1_179_sub, hostOps1_180_sub,
    hostOps1_181_sub, hostOps1_182_sub, hostOps1_183_sub⟩

set_option maxHeartbeats 4000000 in
/-- Each operation of one cloud writes one buffer of the main memory, past the region's arrays. -/
theorem cloud_tame (i : Fin 8) : (cloud (F := F) i).Forall fun ops => ops.Forall (Tame 11) := by
  fin_cases i <;> repeat' first
    | exact Tame.mk rfl ⟨_, rfl, rfl⟩
    | apply And.intro

/-- So do the three last ones. -/
theorem last_tame : (hostOps1_184 (F := F)).Forall (Tame 11) := by
  repeat' first
    | exact Tame.mk rfl ⟨_, rfl, rfl⟩
    | apply And.intro

/-- What holds of every line of each cloud and of the last line holds of every line after the region. -/
theorem opss_all {P : List (HloOp τ sig (Elt F)) → Prop} (h : ∀ i, (cloud (F := F) i).Forall P) (h' : P hostOps1_184) :
    ∀ ops ∈ opss (F := F), P ops := by
  have h := fun i => List.forall_iff_forall_mem.mp (h i)
  intro ops hops
  simp only [opss, List.mem_append, List.mem_singleton] at hops
  rcases hops with e | e | e | e | e | e | e | e | rfl
  · exact h _ _ e
  · exact h _ _ e
  · exact h _ _ e
  · exact h _ _ e
  · exact h _ _ e
  · exact h _ _ e
  · exact h _ _ e
  · exact h _ _ e
  · exact h'

/-- Every operation after the region writes one buffer of the main memory, past the region's arrays. -/
theorem opss_tame : ∀ ops ∈ opss (F := F), ∀ op ∈ ops, Tame 11 op := fun ops hops =>
  List.forall_iff_forall_mem.mp (opss_all cloud_tame last_tame ops hops)

/-- A buffer of the main memory among the first eleven ends as the region leaves it. -/
theorem tail_early (V₀ : Valuation τ sig (Elt F)) (b : Ref sig .tc) (hb : later 11 b = false) :
    StableHlo.after (opss (F := F)).flatten V₀ (Proc.devRef .tc b) = V₀ (Proc.devRef .tc b) :=
  Tame.after_early hb _ V₀ fun op hop => by
    obtain ⟨ops, hops, h⟩ := List.mem_flatten.mp hop
    exact opss_tame ops hops op h

/-! ## @main around the region -/

/-- Core `c`'s buffer contents when the region is entered. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations before the region determine all they write. -/
theorem hostOps0_fresh : (hostOps0 : List (HloOp τ sig (Elt F))).Forall fun op => op.fresh = ∅ := by
  simp only [List.Forall]; repeat' constructor

set_option maxHeartbeats 800000 in
/-- @main is the region, continued by the lines after it. -/
theorem hmain (𝒱₀ : Variants) : Pipeline.HMainK (Ix := Unit) (Name := ℕ) (U := UR sig nD τ) (Lvl := ℕ) cfgs 0 defs₀ 𝒱₀ m
      (main (F := F)) (V m) (fun _ => Pipeline.chain ((opss (F := F)).map StableHlo.seq)) :=
  Pipeline.hmain_around cfgs 0 defs₀ 𝒱₀ m main [hostOps0] opss (by simp only [List.Forall]; exact hostOps0_sub)
    (by simp only [List.Forall]; exact hostOps0_fresh) main_chain

/-- The lines after the region touch unscoped TensorCore buffers only. -/
theorem sfx_sub : ∀ ops ∈ opss (F := F), ∀ op ∈ ops, op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (opss_all cloud_sub hostOps1_184_sub ops hops) op hop)

/-- They allocate nothing. -/
theorem sfx_fresh : ∀ ops ∈ opss (F := F), ∀ op ∈ ops, op.fresh = ∅ :=
  fun ops hops op hop => (opss_tame ops hops op hop).fresh

/-- They write neither array of the region. -/
theorem sfx_keeps : ∀ ops ∈ opss (F := F), ∀ op ∈ ops, ∀ w, Proc.devRef .tc (Pipeline.arrRef spec0 w) ∉ op.writes :=
  fun ops hops op hop w => (opss_tame ops hops op hop).not_mem (by revert w; decide)

/-- No operation before the region writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No operation after the region writes the argument: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) opss c main_arg0 = m ((c : Thread nD τ).loc main_arg0) := by
  unfold Pipeline.afterTail₀
  rw [tail_early _ main_arg0 (by decide), Pipeline.withArrays_of_ne _ c (V0 m c) _ main_arg0 (by decide)]
  exact V_main_arg0 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x4x131072 := Rect.unit (s := S1x4x131072) ![0, 0, 0] S1x4x131072.size inb_S1x4x131072_S1x4x131072_0_0_0
abbrev r0_1 : Rect S1x1x131072 := Rect.unit (s := S1x1x131072) ![0, 0, 0] S1x1x131072.size inb_S1x1x131072_S1x1x131072_0_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S1x4x131072 .f32) : Vec F S1x1x131072 .i32 :=
  View.canon [⟨r0_1, k0_pay1 (k0_pay3 (View.ld x0 r0_0)) (k0_pay4 (View.ld x0 r0_0)) (k0_pay5 (View.ld x0 r0_0)) (k0_pay6 (View.ld x0 r0_0)) 1600#32⟩]

/-- Its stores tile the buffer (checked by evaluation), so they cover it. -/
theorem cover0_1 (p0 : Vec F S1x1x131072 .i32) (y : S1x1x131072.Idx) :
    ∃ pc ∈ ([⟨r0_1, p0⟩] : List (View.Piece (Elt F) S1x1x131072 .i32)), y ∈ pc.1.set :=
  View.cover_of_tiled [⟨r0_1, p0⟩] S1x1x131072.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x4x131072 .f32) (harg1 : arg1.IsWhole) (arg2 : Memref sig .tc .vmem S1x1x131072 .i32) (harg2 : arg2.IsWhole)
    (x0 : Vec F S1x4x131072 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__vid_kernel i arg1 harg1 arg2 harg2) K := by
  simp only [cc0__vid_kernel_eq_skeleton]; unfold cc0__vid_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of @main: it terminates with the region's arrays at what the region computes, every other unscoped buffer as the
    lines after the region leave it, and every semaphore counter at zero. -/
theorem run_main_quiescent : θ_run defs (onTc (τ := τ) (main (F := F))) (s₀ m ρ) (fun r =>
    Pipeline.FramePost cfgs (dats m) 0 (Pipeline.afterTail₀ cfgs (dats m) 0 (V0 m) opss) r ∧ r.2.sem = (fun _ => 0)) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl) (hQ' := fun _ h => h)

/-- The program runs, leaves its argument as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    (h.1 c).2 main_arg0 (Pipeline.mem_restRefs_of main_arg0 (by decide) (by decide)) |>.trans (W_main_arg0 m (dats m) c), h.2⟩)
    (run_main_quiescent m ρ)

end Cert.KernelIdeal.Around

end
-- ==== Proof.Straight.lean ====
module

public import Idealize.ShloMosaic.Lib.StableHlo.Run
public import proofs.«01_k».proof.Proof.Tame

/-! Programs that are straight lines of host operations, and the lines they are. -/

@[expose] public section

namespace Cert

open Idealize.ShloMosaic Idealize.ShloMosaic.StableHlo Idealize.SL.Sem

variable {nD : Nat} {τ : Topo} {sig : RefSig} {Val : EltTy → Type} {Λ : Labels}

/-- An operation that works on TensorCore buffers, writes one of them and allocates nothing. -/
class Fine (op : HloOp τ sig Val) where
  dest : Ref sig .tc
  writes : op.writes = {Proc.devRef .tc dest}
  sub : op.bufs ⊆ tcRefs τ sig
  fresh : op.fresh = ∅

section Kinds

variable {x a b c y : Ref sig .tc}

instance {v : y.ty.Contents Val} {hy} : Fine (nullary (τ := τ) y v hy) := ⟨y, rfl, nullary_bufs_sub .., rfl⟩

instance {f : x.ty.Contents Val → y.ty.Contents Val} {hx hy} : Fine (unary (τ := τ) x y f hx hy) := ⟨y, rfl, unary_bufs_sub .., rfl⟩

instance {f : a.ty.Contents Val → b.ty.Contents Val → y.ty.Contents Val} {ha hb hy} :
    Fine (binary (τ := τ) a b y f ha hb hy) := ⟨y, rfl, binary_bufs_sub .., rfl⟩

instance {f : c.ty.Contents Val → a.ty.Contents Val → b.ty.Contents Val → y.ty.Contents Val} {hc ha hb hy} :
    Fine (ternary (τ := τ) c a b y f hc ha hb hy) := ⟨y, rfl, ternary_bufs_sub .., rfl⟩

instance {he hn hx hy} : Fine (reshape (τ := τ) (Val := Val) x y he hn hx hy) := ⟨y, rfl, reshape_bufs_sub .., rfl⟩

instance {n : Nat} {xs : Fin n → Ref sig .tc} {f : ((k : Fin n) → (xs k).ty.Contents Val) → y.ty.Contents Val} {hxs hy} :
    Fine (nary (τ := τ) xs y f hxs hy) := ⟨y, rfl, nary_bufs_sub .., rfl⟩

variable {Tx Ta Tb Tc Ty : BufTy}

instance {y : TRef sig Ty} {v : Ty.Contents Val} : Fine (TRef.nullary (τ := τ) y v) := ⟨y.ref, rfl, nullary_bufs_sub .., rfl⟩

instance {x : TRef sig Tx} {y : TRef sig Ty} {f : Tx.Contents Val → Ty.Contents Val} : Fine (TRef.unary (τ := τ) x y f) := ⟨y.ref, rfl, unary_bufs_sub .., rfl⟩

instance {a : TRef sig Ta} {b : TRef sig Tb} {y : TRef sig Ty} {f : Ta.Contents Val → Tb.Contents Val → Ty.Contents Val} :
    Fine (TRef.binary (τ := τ) a b y f) := ⟨y.ref, rfl, binary_bufs_sub .., rfl⟩

instance {c : TRef sig Tc} {a : TRef sig Ta} {b : TRef sig Tb} {y : TRef sig Ty}
    {f : Tc.Contents Val → Ta.Contents Val → Tb.Contents Val → Ty.Contents Val} :
    Fine (TRef.ternary (τ := τ) c a b y f) := ⟨y.ref, rfl, ternary_bufs_sub .., rfl⟩

end Kinds

/-- The program `p` runs the host operations `ops` in order; they work on TensorCore buffers, allocate nothing,
    and each writes one buffer of the list `dests`. -/
structure Straight (p : Prog (TpuEff nD τ sig Val Λ .tc) PUnit) (ops : List (HloOp τ sig Val)) (dests : List (Ref sig .tc)) :
    Prop where
  eq : p = seq ops
  sub : ops.Forall fun op => op.bufs ⊆ tcRefs τ sig
  fresh : ∀ op ∈ ops, op.fresh = ∅
  dest : ∀ op ∈ ops, ∃ y ∈ dests, op.writes = {Proc.devRef .tc y}

/-- The program that returns at once runs no operation. -/
theorem Straight.done : Straight (pure ⟨⟩ : Prog (TpuEff nD τ sig Val Λ .tc) PUnit) ([] : List (HloOp τ sig Val)) [] :=
  ⟨rfl, trivial, fun _ h => absurd h List.not_mem_nil, fun _ h => absurd h List.not_mem_nil⟩

/-- Two straight programs in a row. -/
theorem Straight.call {p k : Prog (TpuEff nD τ sig Val Λ .tc) PUnit} {l l' : List (HloOp τ sig Val)} {w w' : List (Ref sig .tc)}
    (h : Straight p l w) (h' : Straight k l' w') : Straight (p >>= fun _ => k) (l ++ l') (w ++ w') where
  eq := by rw [h.eq, h'.eq, seq_append]
  sub := List.forall_append.mpr ⟨h.sub, h'.sub⟩
  fresh op hop := (List.mem_append.mp hop).elim (h.fresh op) (h'.fresh op)
  dest op hop := (List.mem_append.mp hop).elim
    (fun m => (h.dest op m).imp fun _ hy => ⟨List.mem_append_left _ hy.1, hy.2⟩)
    (fun m => (h'.dest op m).imp fun _ hy => ⟨List.mem_append_right _ hy.1, hy.2⟩)

/-- One operation alone. -/
theorem Straight.last {op : HloOp τ sig Val} (ho : Fine op) :
    Straight (hlo rfl op fun _ => .ret (⟨⟩ : PUnit) : Prog (TpuEff nD τ sig Val Λ .tc) PUnit) [op] [ho.dest] where
  eq := rfl
  sub := ho.sub
  fresh op' h := by rw [List.mem_singleton.mp h, ho.fresh]
  dest op' h := by rw [List.mem_singleton.mp h]; exact ⟨_, List.mem_singleton_self _, ho.writes⟩

/-- The operations of a straight program are tame past place `n` if all the places they write are. -/
theorem Straight.tame {p : Prog (TpuEff nD τ sig Val Λ .tc) PUnit} {ops : List (HloOp τ sig Val)} {w : List (Ref sig .tc)}
    (h : Straight p ops w) {n : ℕ} (hw : w.all (later n) = true) : ∀ op ∈ ops, Tame n op := fun op hop => by
  obtain ⟨y, hy, e⟩ := h.dest op hop
  exact ⟨h.fresh op hop, y, e, List.all_eq_true.mp hw y hy⟩

/-- A program together with the line of operations that it is and the buffers these write. -/
class Lined (p : Prog (TpuEff nD τ sig Val Λ .tc) PUnit) where
  ops : List (HloOp τ sig Val)
  dests : List (Ref sig .tc)
  straight : Straight p ops dests

instance Lined.done : Lined (pure ⟨⟩ : Prog (TpuEff nD τ sig Val Λ .tc) PUnit) := ⟨_, _, Straight.done⟩

instance Lined.op {op : HloOp τ sig Val} {k : Prog (TpuEff nD τ sig Val Λ .tc) PUnit} [ho : Fine op] [h : Lined k] :
    Lined ((hlo rfl op fun _ => .ret (⟨⟩ : PUnit)) >>= fun _ => k) :=
  ⟨op :: h.ops, ho.dest :: h.dests, (Straight.last ho).call h.straight⟩

instance Lined.last {op : HloOp τ sig Val} [ho : Fine op] :
    Lined (hlo rfl op fun _ => .ret (⟨⟩ : PUnit) : Prog (TpuEff nD τ sig Val Λ .tc) PUnit) :=
  ⟨[op], [ho.dest], Straight.last ho⟩

instance (priority := low) Lined.call {p k : Prog (TpuEff nD τ sig Val Λ .tc) PUnit} [hp : Lined p] [h : Lined k] :
    Lined (p >>= fun _ => k) := ⟨hp.ops ++ h.ops, hp.dests ++ h.dests, hp.straight.call h.straight⟩

end Cert
-- ==== Proof.RefLine.lean ====
module

public import proofs.«01_k».proof.Proof.Gen.ReferenceIdeal
public import proofs.«01_k».proof.Proof.Straight

/-! The reference program as a straight line of host operations: each function it calls, each part of it, the whole. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-! The called functions. -/

instance where__line (a b c φ) : Lined (fn_where.body (F := F) a b c φ) := by
  delta fn_where.body; infer_instance

instance where__1_line (a b c φ) : Lined (fn_where_1.body (F := F) a b c φ) := by
  delta fn_where_1.body; infer_instance

instance where__2_line (a b c φ) : Lined (fn_where_2.body (F := F) a b c φ) := by
  delta fn_where_2.body; infer_instance

instance argsort_line (a φ) : Lined (fn_argsort.body (F := F) a φ) := by
  delta fn_argsort.body; infer_instance

instance cumsum_0_line (a φ) : Lined (fn_cumsum_0.body (F := F) a φ) := by
  delta fn_cumsum_0.body; infer_instance

instance cumsum_line (a φ) : Lined (fn_cumsum.body (F := F) a φ) := by
  delta fn_cumsum.body; infer_instance

instance cummax_line (a φ) : Lined (fn_cummax.body (F := F) a φ) := by
  delta fn_cummax.body; infer_instance

instance floor_divide_line (a b φ) : Lined (fn_floor_divide.body (F := F) a b φ) := by
  delta fn_floor_divide.body; infer_instance

instance remainder_line (a b φ) : Lined (fn_remainder.body (F := F) a b φ) := by
  delta fn_remainder.body; infer_instance

instance pad_line (a b φ) : Lined (fn_pad.body (F := F) a b φ) := by
  delta fn_pad.body; infer_instance

/-! The parts of the main function. -/

set_option synthInstance.maxHeartbeats 4000000
set_option synthInstance.maxSize 4000
set_option maxHeartbeats 4000000

instance part0 (d : Dev nD) : Lined (main_part0 (F := F) d) := by delta main_part0; infer_instance
instance part1 (d : Dev nD) : Lined (main_part1 (F := F) d) := by delta main_part1; infer_instance
instance part2 (d : Dev nD) : Lined (main_part2 (F := F) d) := by delta main_part2; infer_instance
instance part3 (d : Dev nD) : Lined (main_part3 (F := F) d) := by delta main_part3; infer_instance
instance part4 (d : Dev nD) : Lined (main_part4 (F := F) d) := by delta main_part4; infer_instance
instance part5 (d : Dev nD) : Lined (main_part5 (F := F) d) := by delta main_part5; infer_instance
instance part6 (d : Dev nD) : Lined (main_part6 (F := F) d) := by delta main_part6; infer_instance
instance part7 (d : Dev nD) : Lined (main_part7 (F := F) d) := by delta main_part7; infer_instance
instance part8 (d : Dev nD) : Lined (main_part8 (F := F) d) := by delta main_part8; infer_instance
instance part9 (d : Dev nD) : Lined (main_part9 (F := F) d) := by delta main_part9; infer_instance
instance part10 (d : Dev nD) : Lined (main_part10 (F := F) d) := by delta main_part10; infer_instance
instance part11 (d : Dev nD) : Lined (main_part11 (F := F) d) := by delta main_part11; infer_instance
instance part12 (d : Dev nD) : Lined (main_part12 (F := F) d) := by delta main_part12; infer_instance
instance part13 (d : Dev nD) : Lined (main_part13 (F := F) d) := by delta main_part13; infer_instance
instance part14 (d : Dev nD) : Lined (main_part14 (F := F) d) := by delta main_part14; infer_instance
instance part15 (d : Dev nD) : Lined (main_part15 (F := F) d) := by delta main_part15; infer_instance
instance part16 (d : Dev nD) : Lined (main_part16 (F := F) d) := by delta main_part16; infer_instance
instance part17 (d : Dev nD) : Lined (main_part17 (F := F) d) := by delta main_part17; infer_instance
instance part18 (d : Dev nD) : Lined (main_part18 (F := F) d) := by delta main_part18; infer_instance
instance part19 (d : Dev nD) : Lined (main_part19 (F := F) d) := by delta main_part19; infer_instance
instance part20 (d : Dev nD) : Lined (main_part20 (F := F) d) := by delta main_part20; infer_instance

/-- The reference's whole line. -/
instance whole (d : Dev nD) : Lined (main (F := F) d) := by delta main; infer_instance

end Cert.ReferenceIdeal.Line
-- ==== Proof.RefRun.lean ====
module

public import proofs.«01_k».proof.Proof.RefLine
public import Idealize.ShloMosaic.Lib.Claim

/-! The reference's run. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- No operation of the reference writes its argument. -/
theorem whole_late (d : Dev nD) : (whole (F := F) d).dests.all (later 1) = true := by
  rfl

/-- The reference runs to what its line computes from the launch contents. -/
theorem run_main (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (whole (F := F) d).ops (launchContents m d) (Proc.devRef .tc b) :=
  run_seq (by decide) (by decide) defs main (fun d => (whole d).ops) (fun d => (whole d).straight.eq)
    (fun d => (whole d).straight.sub) m ρ (fun d => (whole d).straight.fresh)

/-- The reference runs and leaves its argument as it was. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c main_arg0).trans
    (Tame.after_early (n := 1) (by decide) _ _ ((whole c).straight.tame (whole_late c))),
    sem_eq_zero_of_no_sems (by decide) r.2⟩) (run_main m ρ)

end Cert.ReferenceIdeal.Line
-- ==== Proof.RefCut.lean ====
module

public import proofs.«01_k».proof.Proof.RefLine
public import proofs.«01_k».proof.Proof.AroundI

/-! The reference's line cut into the stretches that belong to one cloud each. -/

@[expose] public section

set_option maxRecDepth 8192

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F] (d : Dev nD)

/-- The operations that compute one cloud's voxel ids. -/
def seed : Fin 8 → List (HloOp τ sig (Elt F))
  | 0 => (part0 (F := F) d).ops.drop 25 ++ (part1 (F := F) d).ops.take 3
  | 1 => (part2 (F := F) d).ops.drop 132 ++ (part3 (F := F) d).ops.take 35
  | 2 => (part5 (F := F) d).ops.drop 88 ++ (part6 (F := F) d).ops.take 7
  | 3 => ((part8 (F := F) d).ops.drop 2).take 38
  | 4 => (part10 (F := F) d).ops.drop 108 ++ (part11 (F := F) d).ops.take 11
  | 5 => ((part13 (F := F) d).ops.drop 6).take 38
  | 6 => (part15 (F := F) d).ops.drop 112 ++ (part16 (F := F) d).ops.take 15
  | 7 => ((part18 (F := F) d).ops.drop 10).take 38

/-- The operations that voxelize one cloud, given the voxel ids. -/
def body : Fin 8 → List (HloOp τ sig (Elt F))
  | 0 => (part1 (F := F) d).ops.drop 3 ++ (part2 (F := F) d).ops.take 132
  | 1 => (part3 (F := F) d).ops.drop 35 ++ ((part4 (F := F) d).ops ++ (part5 (F := F) d).ops.take 88)
  | 2 => (part6 (F := F) d).ops.drop 7 ++ ((part7 (F := F) d).ops ++ (part8 (F := F) d).ops.take 2)
  | 3 => (part8 (F := F) d).ops.drop 40 ++ ((part9 (F := F) d).ops ++ (part10 (F := F) d).ops.take 108)
  | 4 => (part11 (F := F) d).ops.drop 11 ++ ((part12 (F := F) d).ops ++ (part13 (F := F) d).ops.take 6)
  | 5 => (part13 (F := F) d).ops.drop 44 ++ ((part14 (F := F) d).ops ++ (part15 (F := F) d).ops.take 112)
  | 6 => (part16 (F := F) d).ops.drop 15 ++ ((part17 (F := F) d).ops ++ (part18 (F := F) d).ops.take 10)
  | 7 => (part18 (F := F) d).ops.drop 48 ++ ((part19 (F := F) d).ops ++ (part20 (F := F) d).ops.take 116)

/-- The constants the reference starts with. -/
def first : List (HloOp τ sig (Elt F)) := (part0 (F := F) d).ops.take 25

/-- The three concatenations that give its results. -/
def final : List (HloOp τ sig (Elt F)) := (part20 (F := F) d).ops.drop 116

/-- A list cut once. -/
theorem cut {α : Type*} (n : ℕ) (l m : List α) : l.take n ++ (l.drop n ++ m) = l ++ m := by
  rw [← List.append_assoc, List.take_append_drop]

/-- A list cut twice. -/
theorem cut_twice {α : Type*} (a b : ℕ) (l m : List α) : l.take a ++ ((l.drop a).take b ++ (l.drop (a + b) ++ m)) = l ++ m := by
  rw [← List.drop_drop, cut, cut]

/-- The reference's line is the constants, the eight clouds, the three concatenations. -/
theorem whole_eq : (whole (F := F) d).ops = first d ++ (seed d 0 ++ (body d 0 ++ (seed d 1 ++ (body d 1 ++ (seed d 2 ++
    (body d 2 ++ (seed d 3 ++ (body d 3 ++ (seed d 4 ++ (body d 4 ++ (seed d 5 ++ (body d 5 ++ (seed d 6 ++ (body d 6 ++
    (seed d 7 ++ (body d 7 ++ final d)))))))))))))))) := by
  have h8 := cut_twice 2 38 (part8 (F := F) d).ops
  have h13 := cut_twice 6 38 (part13 (F := F) d).ops
  have h18 := cut_twice 10 38 (part18 (F := F) d).ops
  have e20 := List.take_append_drop 116 (part20 (F := F) d).ops
  simp only [Nat.reduceAdd] at h8 h13 h18
  simp only [first, seed, body, final, List.append_assoc, h8, h13, h18, cut, e20]
  rfl

end Cert.ReferenceIdeal.Line
-- ==== Proof.Sim.lean ====
module

public import Idealize.ShloMosaic.Lib.StableHlo.Run

/-! Two straight lines of host operations run side by side.

The kernel's host lines and the reference's host lines apply the same operations, in the same order, to buffers at
consecutive places of main memory. The relation below says of two memories that a stretch of buffers of the one holds
what a stretch of buffers of the other holds; each pair of equal operations extends the stretch by one. -/

@[expose] public section

namespace Cert.Sim

open Idealize.ShloMosaic Idealize.ShloMosaic.StableHlo

variable {τ τ' : Topo} {sig sig' : RefSig} {Val : EltTy → Type}

/-- A stretch of buffers in main memory: the buffers `lo, lo + 1, …, hi - 1` of the first program stand for the buffers
    `lo', lo' + 1, …` of the second. -/
structure Stretch where
  lo : Nat
  hi : Nat
  lo' : Nat

/-- The stretch pairs buffer `k` of the first program with buffer `k'` of the second. -/
def Stretch.pairs (s : Stretch) (k k' : Nat) : Bool :=
  Nat.ble s.lo k && Nat.blt k s.hi && Nat.beq (k + s.lo') (k' + s.lo)

/-- Some stretch of the list pairs the buffer `x` of the first program with `x'` of the second; both lie in main memory. -/
def pairs (ρ : List Stretch) (x : Ref sig .tc) (x' : Ref sig' .tc) : Bool :=
  decide (x.space = .hbm) && decide (x'.space = .hbm) && ρ.any fun s => s.pairs x.idx.val x'.idx.val

/-- Buffers that the stretches pair have one type and hold the same contents. -/
def Rel (ρ : List Stretch) (V : Valuation τ sig Val) (V' : Valuation τ' sig' Val) : Prop :=
  ∀ (x : Ref sig .tc) (x' : Ref sig' .tc), pairs ρ x x' = true →
    x.ty = x'.ty ∧ HEq (V (Proc.devRef .tc x)) (V' (Proc.devRef .tc x'))

/-- The stretches end before place `k` in the first program and before place `k'` in the second. -/
def before (ρ : List Stretch) (k k' : Nat) : Bool :=
  ρ.all fun s => Nat.ble s.hi k && Nat.ble (s.hi + s.lo') (k' + s.lo)

/-- `y` and `y'` lie in main memory, just after the first stretch and after all the others. -/
def next (s : Stretch) (ρ : List Stretch) (y : Ref sig .tc) (y' : Ref sig' .tc) : Bool :=
  decide (y.space = .hbm) && decide (y'.space = .hbm) && Nat.beq y.idx.val s.hi && Nat.ble s.lo s.hi
    && Nat.beq (y.idx.val + s.lo') (y'.idx.val + s.lo) && before ρ y.idx.val y'.idx.val

/-- Buffers of main memory before place `n` hold in `W` what they hold in `V`. -/
def Kept (n : Nat) (V W : Valuation τ sig Val) : Prop :=
  ∀ x : Ref sig .tc, x.space = .hbm → x.idx.val < n → W (Proc.devRef .tc x) = V (Proc.devRef .tc x)

theorem Kept.refl (n : Nat) (V : Valuation τ sig Val) : Kept n V V := fun _ _ _ => rfl

theorem Kept.trans {n : Nat} {V W X : Valuation τ sig Val} (h : Kept n V W) (k : Kept n W X) : Kept n V X :=
  fun x hx hi => (k x hx hi).trans (h x hx hi)

theorem Kept.mono {n m : Nat} {V W : Valuation τ sig Val} (h : Kept n V W) (hm : m ≤ n) : Kept m V W :=
  fun x hx hi => h x hx (Nat.lt_of_lt_of_le hi hm)

/-- From memories in which the buffers `l … h - 1` of the first program stand for those from `l'` on of the second, and
    the stretches `ρ` as well, the two lines of operations lead to memories in which `l … h₁ - 1` do, and `ρ` still. What
    lies before `l` in the first program and before `l'` in the second is kept. -/
def Sim (l h l' : Nat) (ρ : List Stretch) (ops : List (HloOp τ sig Val)) (ops' : List (HloOp τ' sig' Val)) (h₁ : Nat) : Prop :=
  ∀ V V', Rel (⟨l, h, l'⟩ :: ρ) V V' →
    Rel (⟨l, h₁, l'⟩ :: ρ) (after ops V) (after ops' V') ∧ Kept l V (after ops V) ∧ Kept l' V' (after ops' V')

theorem Sim.nil (l h l' : Nat) (ρ : List Stretch) :
    Sim l h l' ρ ([] : List (HloOp τ sig Val)) ([] : List (HloOp τ' sig' Val)) h :=
  fun V V' hV => ⟨hV, Kept.refl _ V, Kept.refl _ V'⟩

theorem Ref.ext_idx {x y : Ref sig .tc} (hx : x.space = .hbm) (hy : y.space = .hbm) (h : x.idx.val = y.idx.val) : x = y := by
  obtain ⟨sx, ix, nx⟩ := x
  obtain ⟨sy, iy, ny⟩ := y
  cases hx
  cases hy
  have : ix = iy := Fin.ext h
  cases this
  rfl

/-- One pair of operations that write the next buffers, of one type, with the same contents. -/
theorem Rel.write {s : Stretch} {ρ : List Stretch} {op : HloOp τ sig Val} {op' : HloOp τ' sig' Val}
    {V : Valuation τ sig Val} {V' : Valuation τ' sig' Val} (y : Ref sig .tc) (y' : Ref sig' .tc)
    (hV : Rel (s :: ρ) V V') (hn : next s ρ y y' = true) (hty : y.ty = y'.ty)
    (hw : op.writes = {Proc.devRef (τ := τ) .tc y}) (hw' : op'.writes = {Proc.devRef (τ := τ') .tc y'})
    (hv : HEq (op.result V (Proc.devRef .tc y)) (op'.result V' (Proc.devRef .tc y'))) :
    Rel (⟨s.lo, y.idx.val + 1, s.lo'⟩ :: ρ) (op.result V) (op'.result V') := by
  simp only [next, before, Bool.and_eq_true, decide_eq_true_eq, List.all_eq_true, Nat.beq_eq, Nat.ble_eq] at hn
  obtain ⟨⟨⟨⟨⟨hy, hy'⟩, h1⟩, h2⟩, h3⟩, h4⟩ := hn
  intro x x' hx
  simp only [pairs, Stretch.pairs, List.any_cons, List.any_eq_true, Bool.and_eq_true, Bool.or_eq_true,
    decide_eq_true_eq, Nat.beq_eq, Nat.ble_eq, Nat.blt] at hx
  obtain ⟨⟨hxs, hxs'⟩, hx⟩ := hx
  by_cases he : x.idx.val = y.idx.val
  · have hxy : x = y := Ref.ext_idx hxs hy he
    have hi' : x'.idx.val = y'.idx.val := by
      rcases hx with hx | ⟨t, ht, hx⟩
      · omega
      · have := h4 t ht; omega
    have hxy' : x' = y' := Ref.ext_idx hxs' hy' hi'
    subst hxy; subst hxy'
    exact ⟨hty, hv⟩
  · have hne : x ≠ y := fun h => he (by rw [h])
    have hne' : x' ≠ y' := by
      intro h
      have h' : x'.idx.val = y'.idx.val := by rw [h]
      rcases hx with hx | ⟨t, ht, hx⟩
      · omega
      · have := h4 t ht; omega
    rw [result_of_writes_ne op V y x hw hne, result_of_writes_ne op' V' y' x' hw' hne']
    refine hV x x' ?_
    simp only [pairs, Stretch.pairs, List.any_cons, List.any_eq_true, Bool.and_eq_true, Bool.or_eq_true,
      decide_eq_true_eq, Nat.beq_eq, Nat.ble_eq, Nat.blt]
    refine ⟨⟨hxs, hxs'⟩, ?_⟩
    rcases hx with hx | hx
    · left; omega
    · right; exact hx

/-- Stretches that end before the places from which on two lines write stay related. -/
theorem Rel.kept {ρ : List Stretch} {V W : Valuation τ sig Val} {V' W' : Valuation τ' sig' Val} {n n' : Nat}
    (hV : Rel ρ V V') (hb : before ρ n n' = true) (hk : Kept n V W) (hk' : Kept n' V' W') : Rel ρ W W' := by
  simp only [before, List.all_eq_true, Bool.and_eq_true, Nat.ble_eq] at hb
  intro x x' hx
  have hx₀ := hx
  simp only [pairs, Stretch.pairs, List.any_eq_true, Bool.and_eq_true, decide_eq_true_eq, Nat.beq_eq, Nat.ble_eq, Nat.blt] at hx
  obtain ⟨⟨hxs, hxs'⟩, t, ht, hx⟩ := hx
  have := hb t ht
  rw [hk x hxs (by omega), hk' x' hxs' (by omega)]
  exact hV x x' hx₀

/-- Two lists of stretches that relate two memories relate them together. -/
theorem Rel.append {ρ σ : List Stretch} {V : Valuation τ sig Val} {V' : Valuation τ' sig' Val} (h : Rel ρ V V') (k : Rel σ V V') :
    Rel (ρ ++ σ) V V' := by
  intro x x' hx
  simp only [pairs, List.any_append, Bool.and_eq_true, Bool.or_eq_true] at hx
  rcases hx with ⟨hx₀, hx | hx⟩
  · exact h x x' (by simp only [pairs, Bool.and_eq_true]; exact ⟨hx₀, hx⟩)
  · exact k x x' (by simp only [pairs, Bool.and_eq_true]; exact ⟨hx₀, hx⟩)

/-- One pair of operations, then the rest. -/
theorem Sim.step {l h l' h₁ : Nat} {ρ : List Stretch} {ops : List (HloOp τ sig Val)} {ops' : List (HloOp τ' sig' Val)}
    {op : HloOp τ sig Val} {op' : HloOp τ' sig' Val} (y : Ref sig .tc) (y' : Ref sig' .tc)
    (hn : next ⟨l, h, l'⟩ ρ y y' = true) (hty : y.ty = y'.ty)
    (hw : op.writes = {Proc.devRef (τ := τ) .tc y}) (hw' : op'.writes = {Proc.devRef (τ := τ') .tc y'})
    (hv : ∀ V V', Rel (⟨l, h, l'⟩ :: ρ) V V' →
      HEq (op.result V (Proc.devRef .tc y)) (op'.result V' (Proc.devRef .tc y')))
    (k : Sim l (y.idx.val + 1) l' ρ ops ops' h₁) : Sim l h l' ρ (op :: ops) (op' :: ops') h₁ := by
  intro V V' hV
  obtain ⟨k₁, k₂, k₃⟩ := k _ _ (Rel.write y y' hV hn hty hw hw' (hv V V' hV))
  simp only [next, Bool.and_eq_true, decide_eq_true_eq, Nat.beq_eq, Nat.ble_eq] at hn
  refine ⟨k₁, Kept.trans (fun x _ hi => ?_) k₂, Kept.trans (fun x _ hi => ?_) k₃⟩
  · exact result_of_writes_ne op V y x hw fun e => by rw [e] at hi; omega
  · exact result_of_writes_ne op' V' y' x hw' fun e => by rw [e] at hi; omega

section Steps

variable {l h l' h₁ : Nat} {ρ : List Stretch} {ops : List (HloOp τ sig Val)} {ops' : List (HloOp τ' sig' Val)}
variable {a b c y : Ref sig .tc} {a' b' c' y' : Ref sig' .tc}

/-- The next operations are constants. -/
theorem Sim.nullary {v : y.ty.Contents Val} {v' : y'.ty.Contents Val} {hy hy'}
    (hn : next ⟨l, h, l'⟩ ρ y y' = true) (hty : y.ty = y'.ty) (hv : HEq v v') (k : Sim l (y.idx.val + 1) l' ρ ops ops' h₁) :
    Sim l h l' ρ (StableHlo.nullary (τ := τ) y v hy :: ops) (StableHlo.nullary (τ := τ') y' v' hy' :: ops') h₁ := by
  refine Sim.step y y' hn hty rfl rfl (fun V V' hV => ?_) k
  rw [nullary_result, nullary_result]
  exact hv

private theorem heq_app {A A' B B' : BufTy} (hA : A = A') (hB : B = B') {f : A.Contents Val → B.Contents Val}
    {f' : A'.Contents Val → B'.Contents Val} (hf : HEq f f') {u : A.Contents Val} {u' : A'.Contents Val} (hu : HEq u u') :
    HEq (f u) (f' u') := by
  subst hA; subst hB; cases hf; cases hu; rfl

private theorem heq_app₂ {A A' B B' C C' : BufTy} (hA : A = A') (hB : B = B') (hC : C = C')
    {f : A.Contents Val → B.Contents Val → C.Contents Val} {f' : A'.Contents Val → B'.Contents Val → C'.Contents Val}
    (hf : HEq f f') {u : A.Contents Val} {u' : A'.Contents Val} (hu : HEq u u') {w : B.Contents Val} {w' : B'.Contents Val}
    (hw : HEq w w') : HEq (f u w) (f' u' w') := by
  subst hA; subst hB; subst hC; cases hf; cases hu; cases hw; rfl

private theorem heq_app₃ {A A' B B' C C' D D' : BufTy} (hA : A = A') (hB : B = B') (hC : C = C') (hD : D = D')
    {f : A.Contents Val → B.Contents Val → C.Contents Val → D.Contents Val}
    {f' : A'.Contents Val → B'.Contents Val → C'.Contents Val → D'.Contents Val}
    (hf : HEq f f') {u : A.Contents Val} {u' : A'.Contents Val} (hu : HEq u u') {w : B.Contents Val} {w' : B'.Contents Val}
    (hw : HEq w w') {z : C.Contents Val} {z' : C'.Contents Val} (hz : HEq z z') : HEq (f u w z) (f' u' w' z') := by
  subst hA; subst hB; subst hC; subst hD; cases hf; cases hu; cases hw; cases hz; rfl

/-- The next operations take one operand each, the two operands paired. -/
theorem Sim.unary {f : a.ty.Contents Val → y.ty.Contents Val} {f' : a'.ty.Contents Val → y'.ty.Contents Val} {ha hy ha' hy'}
    (hn : next ⟨l, h, l'⟩ ρ y y' = true) (pa : pairs (⟨l, h, l'⟩ :: ρ) a a' = true) (hty : y.ty = y'.ty) (hf : HEq f f')
    (k : Sim l (y.idx.val + 1) l' ρ ops ops' h₁) :
    Sim l h l' ρ (StableHlo.unary (τ := τ) a y f ha hy :: ops) (StableHlo.unary (τ := τ') a' y' f' ha' hy' :: ops') h₁ := by
  refine Sim.step y y' hn hty rfl rfl (fun V V' hV => ?_) k
  rw [unary_result, unary_result]
  exact heq_app (hV _ _ pa).1 hty hf (hV _ _ pa).2

/-- The next operations take two operands each, paired in order. -/
theorem Sim.binary {f : a.ty.Contents Val → b.ty.Contents Val → y.ty.Contents Val}
    {f' : a'.ty.Contents Val → b'.ty.Contents Val → y'.ty.Contents Val} {ha hb hy ha' hb' hy'}
    (hn : next ⟨l, h, l'⟩ ρ y y' = true) (pa : pairs (⟨l, h, l'⟩ :: ρ) a a' = true) (pb : pairs (⟨l, h, l'⟩ :: ρ) b b' = true) (hty : y.ty = y'.ty)
    (hf : HEq f f') (k : Sim l (y.idx.val + 1) l' ρ ops ops' h₁) :
    Sim l h l' ρ (StableHlo.binary (τ := τ) a b y f ha hb hy :: ops)
      (StableHlo.binary (τ := τ') a' b' y' f' ha' hb' hy' :: ops') h₁ := by
  refine Sim.step y y' hn hty rfl rfl (fun V V' hV => ?_) k
  rw [binary_result, binary_result]
  exact heq_app₂ (hV _ _ pa).1 (hV _ _ pb).1 hty hf (hV _ _ pa).2 (hV _ _ pb).2

/-- The next operations take three operands each, paired in order. -/
theorem Sim.ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hn : next ⟨l, h, l'⟩ ρ y y' = true) (pc : pairs (⟨l, h, l'⟩ :: ρ) c c' = true) (pa : pairs (⟨l, h, l'⟩ :: ρ) a a' = true)
    (pb : pairs (⟨l, h, l'⟩ :: ρ) b b' = true) (hty : y.ty = y'.ty) (hf : HEq f f') (k : Sim l (y.idx.val + 1) l' ρ ops ops' h₁) :
    Sim l h l' ρ (StableHlo.ternary (τ := τ) c a b y f hc ha hb hy :: ops)
      (StableHlo.ternary (τ := τ') c' a' b' y' f' hc' ha' hb' hy' :: ops') h₁ := by
  refine Sim.step y y' hn hty rfl rfl (fun V V' hV => ?_) k
  rw [ternary_result, ternary_result]
  exact heq_app₃ (hV _ _ pc).1 (hV _ _ pa).1 (hV _ _ pb).1 hty hf (hV _ _ pc).2 (hV _ _ pa).2 (hV _ _ pb).2

private theorem heq_reshape {A A' B B' : BufTy} (hA : A = A') (hB : B = B') (he : A.elt = B.elt) (he' : A'.elt = B'.elt)
    (hn : A.shape.ShapeCasts B.shape) (hn' : A'.shape.ShapeCasts B'.shape) {u : A.Contents Val} {u' : A'.Contents Val}
    (hu : HEq u u') :
    HEq (fun i => he ▸ shapeCast B.shape u hn i : B.Contents Val) (fun i => he' ▸ shapeCast B'.shape u' hn' i : B'.Contents Val) := by
  subst hA; subst hB; cases hu; rfl

/-- The next operations lay one operand out in another shape. -/
theorem Sim.reshape {he he' hn₀ hn₀' ha hy ha' hy'}
    (hn : next ⟨l, h, l'⟩ ρ y y' = true) (pa : pairs (⟨l, h, l'⟩ :: ρ) a a' = true) (hty : y.ty = y'.ty)
    (k : Sim l (y.idx.val + 1) l' ρ ops ops' h₁) :
    Sim l h l' ρ (StableHlo.reshape (τ := τ) (Val := Val) a y he hn₀ ha hy :: ops)
      (StableHlo.reshape (τ := τ') (Val := Val) a' y' he' hn₀' ha' hy' :: ops') h₁ := by
  refine Sim.step y y' hn hty rfl rfl (fun V V' hV => ?_) k
  rw [reshape_result, reshape_result]
  exact heq_reshape (hV _ _ pa).1 hty he he' hn₀ hn₀' (hV _ _ pa).2

/-- The next operations take a family of operands each, paired in order. -/
theorem Sim.nary {n : Nat} {xs : Fin n → Ref sig .tc} {xs' : Fin n → Ref sig' .tc}
    {f : ((k : Fin n) → (xs k).ty.Contents Val) → y.ty.Contents Val}
    {f' : ((k : Fin n) → (xs' k).ty.Contents Val) → y'.ty.Contents Val} {hxs hy hxs' hy'}
    (hn : next ⟨l, h, l'⟩ ρ y y' = true) (pa : ∀ k, pairs (⟨l, h, l'⟩ :: ρ) (xs k) (xs' k) = true) (hty : y.ty = y'.ty)
    (hf : ∀ u u', (∀ k, HEq (u k) (u' k)) → HEq (f u) (f' u')) (k : Sim l (y.idx.val + 1) l' ρ ops ops' h₁) :
    Sim l h l' ρ (StableHlo.nary (τ := τ) xs y f hxs hy :: ops) (StableHlo.nary (τ := τ') xs' y' f' hxs' hy' :: ops') h₁ := by
  refine Sim.step y y' hn hty rfl rfl (fun V V' hV => ?_) k
  rw [nary_result, nary_result]
  exact hf _ _ fun k => (hV _ _ (pa k)).2

/-! The same for the operations of a called function, whose buffers carry their types. -/

variable {Ta Tb Tc Ty Ta' Tb' Tc' Ty' : BufTy}

/-- The next operations are constants of a called function. -/
theorem Sim.tnullary {y : TRef sig Ty} {y' : TRef sig' Ty'} {v : Ty.Contents Val} {v' : Ty'.Contents Val}
    (hn : next ⟨l, h, l'⟩ ρ y.ref y'.ref = true) (hy : Ty = Ty') (hv : HEq v v')
    (k : Sim l (y.ref.idx.val + 1) l' ρ ops ops' h₁) :
    Sim l h l' ρ (TRef.nullary (τ := τ) y v :: ops) (TRef.nullary (τ := τ') y' v' :: ops') h₁ := by
  obtain ⟨y, rfl, _, _⟩ := y
  obtain ⟨y', rfl, _, _⟩ := y'
  exact Sim.nullary hn hy hv k

/-- The next operations take one operand each, in a called function. -/
theorem Sim.tunary {a : TRef sig Ta} {y : TRef sig Ty} {a' : TRef sig' Ta'} {y' : TRef sig' Ty'}
    {f : Ta.Contents Val → Ty.Contents Val} {f' : Ta'.Contents Val → Ty'.Contents Val}
    (hn : next ⟨l, h, l'⟩ ρ y.ref y'.ref = true) (pa : pairs (⟨l, h, l'⟩ :: ρ) a.ref a'.ref = true) (hy : Ty = Ty') (hf : HEq f f')
    (k : Sim l (y.ref.idx.val + 1) l' ρ ops ops' h₁) :
    Sim l h l' ρ (TRef.unary (τ := τ) a y f :: ops) (TRef.unary (τ := τ') a' y' f' :: ops') h₁ := by
  obtain ⟨a, rfl, _, _⟩ := a
  obtain ⟨a', rfl, _, _⟩ := a'
  obtain ⟨y, rfl, _, _⟩ := y
  obtain ⟨y', rfl, _, _⟩ := y'
  exact Sim.unary hn pa hy hf k

/-- The next operations take two operands each, in a called function. -/
theorem Sim.tbinary {a : TRef sig Ta} {b : TRef sig Tb} {y : TRef sig Ty} {a' : TRef sig' Ta'} {b' : TRef sig' Tb'}
    {y' : TRef sig' Ty'} {f : Ta.Contents Val → Tb.Contents Val → Ty.Contents Val}
    {f' : Ta'.Contents Val → Tb'.Contents Val → Ty'.Contents Val}
    (hn : next ⟨l, h, l'⟩ ρ y.ref y'.ref = true) (pa : pairs (⟨l, h, l'⟩ :: ρ) a.ref a'.ref = true)
    (pb : pairs (⟨l, h, l'⟩ :: ρ) b.ref b'.ref = true) (hy : Ty = Ty') (hf : HEq f f')
    (k : Sim l (y.ref.idx.val + 1) l' ρ ops ops' h₁) :
    Sim l h l' ρ (TRef.binary (τ := τ) a b y f :: ops) (TRef.binary (τ := τ') a' b' y' f' :: ops') h₁ := by
  obtain ⟨a, rfl, _, _⟩ := a
  obtain ⟨a', rfl, _, _⟩ := a'
  obtain ⟨b, rfl, _, _⟩ := b
  obtain ⟨b', rfl, _, _⟩ := b'
  obtain ⟨y, rfl, _, _⟩ := y
  obtain ⟨y', rfl, _, _⟩ := y'
  exact Sim.binary hn pa pb hy hf k

/-- The next operations take three operands each, in a called function. -/
theorem Sim.tternary {c : TRef sig Tc} {a : TRef sig Ta} {b : TRef sig Tb} {y : TRef sig Ty} {c' : TRef sig' Tc'}
    {a' : TRef sig' Ta'} {b' : TRef sig' Tb'} {y' : TRef sig' Ty'}
    {f : Tc.Contents Val → Ta.Contents Val → Tb.Contents Val → Ty.Contents Val}
    {f' : Tc'.Contents Val → Ta'.Contents Val → Tb'.Contents Val → Ty'.Contents Val}
    (hn : next ⟨l, h, l'⟩ ρ y.ref y'.ref = true) (pc : pairs (⟨l, h, l'⟩ :: ρ) c.ref c'.ref = true)
    (pa : pairs (⟨l, h, l'⟩ :: ρ) a.ref a'.ref = true) (pb : pairs (⟨l, h, l'⟩ :: ρ) b.ref b'.ref = true)
    (hy : Ty = Ty') (hf : HEq f f') (k : Sim l (y.ref.idx.val + 1) l' ρ ops ops' h₁) :
    Sim l h l' ρ (TRef.ternary (τ := τ) c a b y f :: ops) (TRef.ternary (τ := τ') c' a' b' y' f' :: ops') h₁ := by
  obtain ⟨c, rfl, _, _⟩ := c
  obtain ⟨c', rfl, _, _⟩ := c'
  obtain ⟨a, rfl, _, _⟩ := a
  obtain ⟨a', rfl, _, _⟩ := a'
  obtain ⟨b, rfl, _, _⟩ := b
  obtain ⟨b', rfl, _, _⟩ := b'
  obtain ⟨y, rfl, _, _⟩ := y
  obtain ⟨y', rfl, _, _⟩ := y'
  exact Sim.ternary hn pc pa pb hy hf k

end Steps

end Cert.Sim

end
-- ==== Proof.Holds.lean ====
module

public import proofs.«01_k».proof.Proof.Sim
public import proofs.«01_k».proof.Proof.Tame
public import Mathlib.Tactic.FinCases

/-! What a buffer, named by its place in main memory, holds. -/

@[expose] public section

namespace Cert.Sim

open Idealize.ShloMosaic Idealize.ShloMosaic.StableHlo

variable {τ τ' : Topo} {sig sig' : RefSig} {Val : EltTy → Type}

/-- What holds of each of the eight clouds, its number given twice, holds of all. -/
theorem fin8 {Q : ℕ → Fin 8 → Prop} (h0 : Q 0 0) (h1 : Q 1 1) (h2 : Q 2 2) (h3 : Q 3 3) (h4 : Q 4 4) (h5 : Q 5 5)
    (h6 : Q 6 6) (h7 : Q 7 7) (i : Fin 8) : Q i.val i := by
  fin_cases i <;> assumption

/-- The buffer at place `n` of main memory has type `T` and holds `a`. -/
def Holds (V : Valuation τ sig Val) (n : ℕ) (T : BufTy) (a : T.Contents Val) : Prop :=
  ∀ x : Ref sig .tc, x.space = .hbm → x.idx.val = n → x.ty = T ∧ HEq (V (Proc.devRef .tc x)) a

/-- It is enough to look at one name of the place. -/
theorem Holds.of {V : Valuation τ sig Val} {n : ℕ} {T : BufTy} {a : T.Contents Val} (y : Ref sig .tc) (hs : y.space = .hbm)
    (hn : y.idx.val = n) (hT : y.ty = T) (hv : HEq (V (Proc.devRef .tc y)) a) : Holds V n T a := by
  intro x hx hi
  have : x = y := Ref.ext_idx hx hs (hi.trans hn.symm)
  subst this
  exact ⟨hT, hv⟩

/-- A place before those a line writes goes on holding what it holds. -/
theorem Holds.kept {V W : Valuation τ sig Val} {n k : ℕ} {T : BufTy} {a : T.Contents Val} (h : Holds V n T a)
    (hk : Kept k V W) (hn : n < k) : Holds W n T a := fun x hx hi => by
  rw [hk x hx (by omega)]
  exact h x hx hi

/-- Two places that hold the same are related. -/
theorem Holds.rel {V : Valuation τ sig Val} {V' : Valuation τ' sig' Val} {n n₁ n' : ℕ} {T : BufTy} {a : T.Contents Val}
    (h : Holds V n T a) (h' : Holds V' n' T a) (hn : n₁ = n + 1) : Rel [⟨n, n₁, n'⟩] V V' := by
  subst hn
  intro x x' hx
  simp only [pairs, Stretch.pairs, List.any_cons, List.any_nil, Bool.or_false, Bool.and_eq_true, decide_eq_true_eq, Nat.beq_eq,
    Nat.ble_eq, Nat.blt] at hx
  obtain ⟨⟨hxs, hxs'⟩, hx⟩ := hx
  have e := h x hxs (by omega)
  have e' := h' x' hxs' (by omega)
  exact ⟨e.1.trans e'.1.symm, e.2.trans e'.2.symm⟩

/-- Memories related by each of some stretches are related by all of them. -/
theorem Rel.all {ρ : List Stretch} {V : Valuation τ sig Val} {V' : Valuation τ' sig' Val} (h : ∀ s ∈ ρ, Rel [s] V V') :
    Rel ρ V V' := by
  intro x x' hx
  simp only [pairs, Bool.and_eq_true, List.any_eq_true] at hx
  obtain ⟨hx₀, s, hs, hx⟩ := hx
  refine h s hs x x' ?_
  simp only [pairs, Bool.and_eq_true, List.any_cons, List.any_nil, Bool.or_false]
  exact ⟨hx₀, hx⟩

/-- … and by each of them. -/
theorem Rel.first {s : Stretch} {ρ : List Stretch} {V : Valuation τ sig Val} {V' : Valuation τ' sig' Val} (h : Rel (s :: ρ) V V') :
    Rel [s] V V' := by
  intro x x' hx
  refine h x x' ?_
  simp only [pairs, Bool.and_eq_true, List.any_cons, List.any_nil, Bool.or_false, Bool.or_eq_true] at hx ⊢
  exact ⟨hx.1, .inl hx.2⟩

/-- A line of operations that all write at place `n` or later keeps what lies before. -/
theorem Kept.of_tame {n : ℕ} {ops : List (HloOp τ sig Val)} (V : Valuation τ sig Val) (h : ops.Forall (Tame n)) :
    Kept n V (after ops V) := fun x hx hi =>
  Tame.after_early (by simp only [later, Bool.and_eq_false_iff]; right; exact Bool.eq_false_iff.mpr fun e => by rw [Nat.ble_eq] at e; omega) ops V (List.forall_iff_forall_mem.mp h)

/-- A line may be read off before it is run. -/
theorem after_off {R L : List (HloOp τ sig Val)} {V : Valuation τ sig Val} {b : Ref sig .tc}
    {x : (Proc.devRef (τ := τ) .tc b).ty.Contents Val} (e : R = L) (h : after L V (Proc.devRef .tc b) = x) :
    after R V (Proc.devRef .tc b) = x := e ▸ h

/-- A line may be read off before its operations are looked at. -/
theorem forall_off {R L : List (HloOp τ sig Val)} {P : HloOp τ sig Val → Prop} (e : R = L) (h : L.Forall P) : R.Forall P :=
  e ▸ h

/-- The first of a line's operations read off. -/
theorem cons_of {α : Type*} {R tl L : List α} {a : α} (e : R = a :: tl) (h : tl = L) : R = a :: L := h ▸ e

end Cert.Sim
-- ==== Proof.Body.lean ====
module

public import proofs.«01_k».proof.Proof.RefCut
public import proofs.«01_k».proof.Proof.Holds

/-! The two programs voxelize a cloud by the same operations. -/

@[expose] public section

set_option maxRecDepth 16384
set_option maxHeartbeats 4000000

noncomputable section

namespace Cert.Sim

open Idealize.ShloMosaic Idealize.ShloMosaic.StableHlo
open Cert.KernelIdeal.Gen

variable {F : FTy → Type} [FloatOps F] (d : Dev Cert.ReferenceIdeal.nD)

/-- A line may be read off before it is compared. -/
theorem Sim.head {τ τ' : Topo} {sig sig' : RefSig} {Val : EltTy → Type} {l h l' h₁ : Nat} {ρ : List Stretch}
    {ops : List (HloOp τ sig Val)} {R R' : List (HloOp τ' sig' Val)} (e : R = R') (k : Sim l h l' ρ ops R' h₁) :
    Sim l h l' ρ ops R h₁ := e ▸ k

/-- A function of three equal arguments. -/
theorem heq_fun3 {A B C D : Type} (f : A → B → C → D) {a a' : A} {b b' : B} {c c' : C} (ha : HEq a a') (hb : HEq b b')
    (hc : HEq c c') : HEq (f a b c) (f a' b' c') := by
  cases ha; cases hb; cases hc; rfl

/-- Given equal points and equal voxel ids, both programs compute equal buffers for a cloud, from the order of the points
    to the cloud's features, coordinates and occupancy. -/
theorem body_sim (i : Fin 8) : Sim (15 + 207 * i.val) (16 + 207 * i.val) (63 + 241 * i.val)
    [⟨13 + 207 * i.val, 14 + 207 * i.val, 27 + 241 * i.val⟩, ⟨1 + i.val, 2 + i.val, 4 + 3 * i.val⟩]
    ((KernelIdeal.Around.cloud (F := F) i).drop 1).flatten (ReferenceIdeal.Line.body d i) (219 + 207 * i.val) := by
  refine fin8 (Q := fun n i => Sim (15 + 207 * n) (16 + 207 * n) (63 + 241 * n)
    [⟨13 + 207 * n, 14 + 207 * n, 27 + 241 * n⟩, ⟨1 + n, 2 + n, 4 + 3 * n⟩]
    ((KernelIdeal.Around.cloud (F := F) i).drop 1).flatten (ReferenceIdeal.Line.body d i) (219 + 207 * n))
    ?_ ?_ ?_ ?_ ?_ ?_ ?_ ?_ i
  all_goals
    simp only [Nat.reduceMul, Nat.reduceAdd]
    simp only [KernelIdeal.Around.cloud, List.drop, List.flatten_cons, List.flatten_nil, List.append_nil, List.cons_append,
      List.nil_append]
    repeat' (refine Sim.head (R' := _ :: _) rfl ?_; first
      | with_reducible refine Sim.tnullary ?_ ?_ ?_ ?_
      | with_reducible refine Sim.tunary ?_ ?_ ?_ ?_ ?_
      | with_reducible refine Sim.tbinary ?_ ?_ ?_ ?_ ?_ ?_
      | with_reducible refine Sim.tternary ?_ ?_ ?_ ?_ ?_ ?_ ?_
      | with_reducible refine Sim.nullary ?_ ?_ ?_ ?_
      | with_reducible refine Sim.unary ?_ ?_ ?_ ?_ ?_
      | with_reducible refine Sim.binary ?_ ?_ ?_ ?_ ?_ ?_
      | with_reducible refine Sim.ternary ?_ ?_ ?_ ?_ ?_ ?_ ?_
      | with_reducible refine Sim.reshape ?_ ?_ ?_ ?_
      | with_reducible refine Sim.nary ?_ ?_ ?_ ?_ ?_)
  all_goals first
    | with_reducible exact (rfl : (_ : BufTy) = _)
    | exact (rfl : (_ : Bool) = _)
    | exact (rfl : (_ : BufTy) = _)
    | with_reducible exact HEq.rfl
    | exact HEq.rfl
    | (intro k; fin_cases k <;> rfl)
    | exact fun u u' hu => heq_fun3 (fun a b c => concatenate KernelIdeal.S131072x3 1 [⟨KernelIdeal.S131072x1, a⟩,
        ⟨KernelIdeal.S131072x1, b⟩, ⟨KernelIdeal.S131072x1, c⟩]
        concatenates_S131072x1_S131072x1_S131072x1_S131072x3_d1) (hu 0) (hu 1) (hu 2)
    | exact Sim.nil _ _ _ _

end Cert.Sim
-- ==== Proof.Vid.lean ====
module

public import proofs.«01_k».proof.Proof.RefLine
public import proofs.«01_k».proof.Proof.AroundI
public import Idealize.ShloMosaic.Lib.Pointwise

/-! The voxel id of one point, and both programs' computations of it. -/

@[expose] public section

set_option maxRecDepth 8192

noncomputable section

namespace Cert.Vid

open Idealize.ShloMosaic

/-- One coordinate's cell: the distance from the grid's lower corner in cells, rounded down, as a signed word. -/
def cell (lo size x : Ideal .f32) : BitVec 32 :=
  FloatOps.fptosi 32 (FloatOps.floor (FloatOps.divf (FloatOps.subf x lo) size))

/-- The cell lies on an axis of `n` cells. -/
def fits (c n : BitVec 32) : BitVec 1 := IntOp.andi (IntOp.cmpi .sge c 0#32) (IntOp.cmpi .slt c n)

/-- The voxel id of cells `a`, `b`, `c` along the three axes of a grid, or `90112000` off the grid. -/
def number (a b c : BitVec 32) (n₀ n₁ n₂ : BitVec 32) : BitVec 32 :=
  Scalar.select (IntOp.andi (IntOp.andi (fits a n₀) (fits b n₁)) (fits c n₂))
    (IntOp.addi (IntOp.muli (IntOp.addi (IntOp.muli c 1600#32) b) 1408#32) a) 90112000#32

theorem and_one (x : BitVec 1) : x &&& 1#1 = x := by
  revert x; decide

section Ref

open Cert.ReferenceIdeal Cert.ReferenceIdeal.Gen

/-- The grid's lower corner, as the reference states it. -/
def lower : FVec Ideal S3 .f32 := fun i => FloatOps.ofBits .f32 (lit0 (S3.rowMajor i))

/-- The sizes of a cell. -/
def sizes : FVec Ideal S3 .f32 := fun i => FloatOps.ofBits .f32 (lit1 (S3.rowMajor i))

/-- The numbers of cells along the axes. -/
def grid : IVec S3 32 := fun i => lit2 (S3.rowMajor i)

/-- The points of cloud `i`. -/
def pts (A : FVec Ideal S8x131072x4 .f32) (i : Fin 8) : FVec Ideal S131072x4 .f32 := fun q => A (ix3 i (q 0) (q 1))

/-- The voxel ids of cloud `i`'s points. -/
def ids (A : FVec Ideal S8x131072x4 .f32) (i : Fin 8) : IVec S131072 32 := fun q =>
  number (cell (FloatOps.ofBits .f32 0x00000000#32) (FloatOps.ofBits .f32 0x3D4CCCCD#32) (A (ix3 i (q 0) 0)))
    (cell (FloatOps.ofBits .f32 0xC2200000#32) (FloatOps.ofBits .f32 0x3D4CCCCD#32) (A (ix3 i (q 0) 1)))
    (cell (FloatOps.ofBits .f32 0xC0400000#32) (FloatOps.ofBits .f32 0x3DCCCCCD#32) (A (ix3 i (q 0) 2)))
    1408#32 1600#32 40#32

/-- The reference's cells of a cloud's points. -/
def refCell (p : FVec Ideal S131072x4 .f32) (lo vs : FVec Ideal S3 .f32) : IVec S131072x3 32 :=
  fptosi 32 (Host.floor (Host.divf (subf (extractStridedSlice S131072x3 ![0, 0] p slices_S131072x4_S131072x3_0_0)
    (broadcastInDim S131072x3 ![0, 1] bcast_S1x3_S131072x3_0_1 (broadcastInDim S1x3 ![1] bcast_S3_S1x3_1 lo)))
    (broadcastInDim S131072x3 ![0, 1] bcast_S1x3_S131072x3_0_1 (broadcastInDim S1x3 ![1] bcast_S3_S1x3_1 vs))))

/-- The reference's voxel ids of cells. -/
def refNum (idx : IVec S131072x3 32) (gr : IVec S3 32) : IVec S131072 32 :=
  select (Host.reduce IntOp.andi (andi (cmpi .sge idx (broadcastInDim S131072x3 ![] bcast_S_S131072x3 (constantI S_ 32 0#32)))
      (cmpi .slt idx (broadcastInDim S131072x3 ![0, 1] bcast_S1x3_S131072x3_0_1 (broadcastInDim S1x3 ![1] bcast_S3_S1x3_1 gr))))
      (constantI S_ 1 1#1) reducesTo_S131072x3_S131072_d1 h_S_)
    (addi (muli (addi (muli (shapeCast S131072 (extractStridedSlice S131072x1 ![0, 2] idx slices_S131072x3_S131072x1_0_2)
      shapeCasts_S131072x1_S131072) (broadcastInDim S131072 ![] bcast_S_S131072 (constantI S_ 32 1600#32)))
      (shapeCast S131072 (extractStridedSlice S131072x1 ![0, 1] idx slices_S131072x3_S131072x1_0_1) shapeCasts_S131072x1_S131072))
      (broadcastInDim S131072 ![] bcast_S_S131072 (constantI S_ 32 1408#32)))
      (shapeCast S131072 (extractStridedSlice S131072x1 ![0, 0] idx slices_S131072x3_S131072x1_0_0) shapeCasts_S131072x1_S131072))
    (broadcastInDim S131072 ![] bcast_S_S131072 (constantI S_ 32 90112000#32))

/-- The reference's voxel ids of a cloud's points, the grid's corner, cell sizes and extents given. -/
def refVid (p : FVec Ideal S131072x4 .f32) (lo vs : FVec Ideal S3 .f32) (gr : IVec S3 32) : IVec S131072 32 :=
  refNum (refCell p lo vs) gr

theorem refCell_apply (p : FVec Ideal S131072x4 .f32) (lo vs : FVec Ideal S3 .f32) (j : Fin 131072) (k : Fin 3) :
    refCell p lo vs (ix2 j k) = cell (lo (ix1 k)) (vs (ix1 k)) (p (ix2 j ⟨k, by omega⟩)) := by
  pointwise [refCell, cell]

theorem refNum_apply (idx : IVec S131072x3 32) (gr : IVec S3 32) (j : Fin 131072) :
    refNum idx gr (ix1 j) = number (idx (ix2 j 0)) (idx (ix2 j 1)) (idx (ix2 j 2)) (gr (ix1 0)) (gr (ix1 1)) (gr (ix1 2)) := by
  pointwise [refNum, number, fits]
  have e : (Finset.univ : Finset (Fin 3)) = {0, 1, 2} := rfl
  rw [e, Finset.fold_insert (by decide), Finset.fold_insert (by decide), Finset.fold_singleton]
  simp only [IntOp.andi, BitVec.and_assoc, and_one]

/-- The reference's voxel ids of cloud `i`'s points are its voxel ids. -/
theorem refVid_pts (A : FVec Ideal S8x131072x4 .f32) (i : Fin 8) : refVid (pts A i) lower sizes grid = ids A i := by
  funext q
  idx_vars q
  rw [refVid, refNum_apply, refCell_apply, refCell_apply, refCell_apply]
  rfl

/-- Cloud `i`'s points are its slice of the clouds, laid out flat. -/
theorem pts_eq (A : FVec Ideal S8x131072x4 .f32) (i : Fin 8) (o : Fin 3 → ℕ) (ho : o = ![i.val, 0, 0])
    (h : S8x131072x4.Slices o S1x131072x4) (h' : S1x131072x4.ShapeCasts S131072x4) :
    shapeCast S131072x4 (extractStridedSlice S1x131072x4 o A h) h' = pts A i := by
  subst ho
  funext q
  idx_vars q
  pointwise [pts]

/-- A row of an array laid out flat. -/
theorem row_eq (v : IVec Cert.KernelIdeal.S8x1x131072 32) (i : Fin 8) (o : Fin 2 → ℕ) (ho : o = ![i.val, 0])
    (h₀ : Cert.KernelIdeal.S8x1x131072.ShapeCasts Cert.KernelIdeal.S8x131072)
    (h : Cert.KernelIdeal.S8x131072.Slices o Cert.KernelIdeal.S1x131072)
    (h' : Cert.KernelIdeal.S1x131072.ShapeCasts S131072) :
    shapeCast S131072 (extractStridedSlice Cert.KernelIdeal.S1x131072 o (shapeCast Cert.KernelIdeal.S8x131072 v h₀) h) h'
      = fun q => v (ix3 i 0 (q 0)) := by
  subst ho
  funext q
  idx_vars q
  pointwise []

end Ref

section Ker

open Cert.KernelIdeal Cert.KernelIdeal.Gen

theorem out_apply (x : Vec Ideal S1x4x131072 .f32) (j : Fin 131072) :
    k0_pay1 (k0_pay3 x) (k0_pay4 x) (k0_pay5 x) (k0_pay6 x) 1600#32 (ix3 0 0 j)
      = number (cell (FloatOps.ofBits .f32 0x00000000#32) (FloatOps.ofBits .f32 0x3D4CCCCD#32) (x (ix3 0 0 j)))
        (cell (FloatOps.ofBits .f32 0xC2200000#32) (FloatOps.ofBits .f32 0x3D4CCCCD#32) (x (ix3 0 1 j)))
        (cell (FloatOps.ofBits .f32 0xC0400000#32) (FloatOps.ofBits .f32 0x3DCCCCCD#32) (x (ix3 0 2 j)))
        1408#32 1600#32 40#32 := by
  pointwise [k0_pay1, k0_pay2, k0_pay3, k0_pay4, k0_pay5, k0_pay6, number, fits, cell]
  simp only [IntOp.andi, BitVec.and_assoc]

end Ker

end Cert.Vid
-- ==== Proof.Region.lean ====
module

public import proofs.«01_k».proof.Proof.Vid
public import Idealize.ShloMosaic.Lib.Pipeline.ValueKit
public import Idealize.ShloMosaic.Lib.Claim

/-! What the kernel's region computes: the voxel ids of every point. -/

@[expose] public section

set_option maxRecDepth 8192

noncomputable section

namespace Cert.KernelIdeal.Around

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The region finds the clouds with the coordinates' axis before the points'. -/
theorem V_main_v0 (c : Dev nD) : V m c main_v0
    = transpose S8x4x131072 [0, 2, 1] (m ((c : Thread nD τ).loc main_arg0)) transposes_S8x131072x4_S8x4x131072_0_2_1 := by
  simp only [V, V0, hostOps0, List.flatten_cons, List.flatten_nil, List.append_nil]
  after_results_simp

/-- Both windows of point `t` are cloud `t`. -/
theorem idx : ∀ t : Fin cfg0.N, win0_0.index t = ![t.val, 0, 0] ∧ win0_1.index t = ![t.val, 0, 0] := by
  decide +kernel

/-- Point `t`'s block of the input, read at a coordinate and a point. -/
theorem block (c : Dev nD) (t : Fin cfg0.N) (a : Fin 8) (ha : a.val = t.val) (k : Fin 4) (j : Fin 131072) :
    iblk m c 0 t (ix3 (0 : Fin 1) k j) = m ((c : Thread nD τ).loc main_arg0) (ix3 a j k) := by
  have e : iblk m c 0 t (ix3 (0 : Fin 1) k j) = V m c main_v0 (ix3 a k j) := by
    unfold iblk
    blk_ext [(idx t).1]
  rw [e, V_main_v0]
  pointwise []

/-- What the body stores of a block that holds cloud `a` are cloud `a`'s voxel ids. -/
theorem out_ids (x : Vec Ideal S1x4x131072 .f32) (A : FVec Ideal S8x131072x4 .f32) (a : Fin 8) (j j' : Fin 131072)
    (hx : ∀ (k : Fin 4) (l : Fin 131072), x (ix3 (0 : Fin 1) k l) = A (ix3 a l k)) (hj : j' = j) :
    k0_pay1 (k0_pay3 x) (k0_pay4 x) (k0_pay5 x) (k0_pay6 x) 1600#32 (ix3 0 0 j) = Cert.Vid.ids A a (ix1 j') := by
  subst hj
  rw [Cert.Vid.out_apply, hx, hx, hx]
  rfl

/-- The region leaves the voxel ids of all clouds in its output. -/
theorem region (c : Dev nD) : (dats m 0 c).arrAt 1 cfg0.N
    = fun y : S8x1x131072.Idx => Cert.Vid.ids (m ((c : Thread nD τ).loc main_arg0)) (y 0) (ix1 (y 2)) := by
  refine (dats m 0 c).arrAt_eq_of_covers 1 _ (by decide +kernel) fun t hf y => ?_
  blk_simp
  rw [after0_1]
  frame_out
  have hy : y = ix3 (0 : Fin 1) (0 : Fin 1) (y 2 : Fin 131072) := by
    funext a
    fin_cases a <;> first | rfl | exact Subsingleton.elim (α := Fin 1) _ _
  generalize hj : (y 2 : Fin 131072) = j at hy
  subst hy
  have h0 : (((cfg0.win 1).blk t).view.emb (ix3 (0 : Fin 1) (0 : Fin 1) j) 0).val = t.val := by
    blk_simp [(idx t).2]
    rfl
  have h2 : (((cfg0.win 1).blk t).view.emb (ix3 (0 : Fin 1) (0 : Fin 1) j) 2) = j := by
    apply Fin.ext
    blk_simp [(idx t).2]
  exact out_ids _ _ _ _ _ (fun k l => block m c t _ h0 k l) h2

end Cert.KernelIdeal.Around
-- ==== Proof.SeedK.lean ====
module

public import proofs.«01_k».proof.Proof.Region
public import proofs.«01_k».proof.Proof.Holds

/-! The kernel's first operations for a cloud: its points and its voxel ids, sliced out of all clouds'. -/

@[expose] public section

set_option maxRecDepth 8192

noncomputable section

namespace Cert.KernelIdeal.Around

open Cert.KernelIdeal Cert.KernelIdeal.Gen Idealize.ShloMosaic Idealize.ShloMosaic.TcCoe Idealize.SL.Sem
open Idealize.ShloMosaic.StableHlo Cert.Sim

/-- The operations that slice out a cloud's points and voxel ids. -/
def seed : Fin 8 → List (HloOp τ sig (Elt Ideal))
  | 0 => hostOps1.drop 1
  | 1 => hostOps1_23
  | 2 => hostOps1_46
  | 3 => hostOps1_69
  | 4 => hostOps1_92
  | 5 => hostOps1_115
  | 6 => hostOps1_138
  | 7 => hostOps1_161

/-- The voxel ids as one row for each cloud. -/
def rows (B : IVec S8x1x131072 32) : IVec S8x131072 32 := shapeCast S8x131072 B shapeCasts_S8x1x131072_S8x131072

theorem seed_pts (V : Valuation τ sig (Elt Ideal)) (A : FVec Ideal S8x131072x4 .f32)
    (h : V (Proc.devRef .tc main_arg0) = A) (i : Fin 8) :
    Holds (after (seed i) V) (13 + 207 * i.val) ⟨S131072x4, .f32⟩ (Vid.pts A i) := by
  refine fin8 (Q := fun n i => Holds (after (seed i) V) (13 + 207 * n) ⟨S131072x4, .f32⟩ (Vid.pts A i))
    (.of main_v4 rfl rfl rfl (heq_of_eq ?_)) (.of main_v94 rfl rfl rfl (heq_of_eq ?_))
    (.of main_v184 rfl rfl rfl (heq_of_eq ?_)) (.of main_v274 rfl rfl rfl (heq_of_eq ?_))
    (.of main_v364 rfl rfl rfl (heq_of_eq ?_)) (.of main_v454 rfl rfl rfl (heq_of_eq ?_))
    (.of main_v544 rfl rfl rfl (heq_of_eq ?_)) (.of main_v634 rfl rfl rfl (heq_of_eq ?_)) i
  all_goals
    simp only [seed, List.drop]
    after_results_simp
    rw [h]
    refine Vid.pts_eq A _ _ ?_ _ _; rfl

theorem seed_ids (V : Valuation τ sig (Elt Ideal)) (B : IVec S8x1x131072 32)
    (h : V (Proc.devRef .tc main_v2) = rows B) (i : Fin 8) :
    Holds (after (seed i) V) (15 + 207 * i.val) ⟨S131072, .i32⟩ (fun q : S131072.Idx => B (ix3 i 0 (q 0))) := by
  refine fin8 (Q := fun n i => Holds (after (seed i) V) (15 + 207 * n) ⟨S131072, .i32⟩ (fun q : S131072.Idx => B (ix3 i 0 (q 0))))
    (.of main_v6 rfl rfl rfl (heq_of_eq ?_)) (.of main_v96 rfl rfl rfl (heq_of_eq ?_))
    (.of main_v186 rfl rfl rfl (heq_of_eq ?_)) (.of main_v276 rfl rfl rfl (heq_of_eq ?_))
    (.of main_v366 rfl rfl rfl (heq_of_eq ?_)) (.of main_v456 rfl rfl rfl (heq_of_eq ?_))
    (.of main_v546 rfl rfl rfl (heq_of_eq ?_)) (.of main_v636 rfl rfl rfl (heq_of_eq ?_)) i
  all_goals
    simp only [seed, List.drop]
    after_results_simp
    rw [h]
    refine Vid.row_eq B _ _ ?_ _ _ _; rfl

theorem seed_tame (i : Fin 8) : (seed i).Forall (Tame (12 + 207 * i.val)) := by
  refine fin8 (Q := fun n i => (seed i).Forall (Tame (12 + 207 * n))) ?_ ?_ ?_ ?_ ?_ ?_ ?_ ?_ i
  all_goals
    simp only [seed, List.drop]
    repeat' first
      | exact Tame.mk rfl ⟨_, rfl, rfl⟩
      | apply And.intro

end Cert.KernelIdeal.Around
-- ==== Proof.StartK.lean ====
module

public import proofs.«01_k».proof.Proof.SeedK

/-! The lines after the kernel's region, and the memory they start from. -/

@[expose] public section

set_option maxRecDepth 8192

noncomputable section

namespace Cert.KernelIdeal.Around

open Cert.KernelIdeal Cert.KernelIdeal.Gen Idealize.ShloMosaic Idealize.ShloMosaic.TcCoe Idealize.SL.Sem
open Idealize.ShloMosaic.StableHlo Cert.Sim
open Idealize.ShloMosaic.Pipeline (Dat)

variable (m : (ℓ : Loc nD τ sig) → Buf (Elt Ideal) ℓ)

/-- A cloud's operations after its seed. -/
def rest (i : Fin 8) : List (HloOp τ sig (Elt Ideal)) := ((cloud i).drop 1).flatten

/-- The first cloud's lines: the ids in rows, the seed, the rest. -/
theorem cloud_zero : (cloud (F := Ideal) 0).flatten = hostOps1.take 1 ++ (seed 0 ++ rest 0) := rfl

/-- A later cloud's lines: the seed, the rest. -/
theorem cloud_later (i : Fin 8) (h : i ≠ 0) : (cloud (F := Ideal) i).flatten = seed i ++ rest i := by
  fin_cases i
  · exact absurd rfl h
  all_goals rfl

/-- The lines after the region, cloud by cloud. -/
theorem opss_eq : (opss (F := Ideal)).flatten = hostOps1.take 1 ++ (seed 0 ++ (rest 0 ++ (seed 1 ++ (rest 1 ++ (seed 2 ++
    (rest 2 ++ (seed 3 ++ (rest 3 ++ (seed 4 ++ (rest 4 ++ (seed 5 ++ (rest 5 ++ (seed 6 ++ (rest 6 ++ (seed 7 ++
    (rest 7 ++ hostOps1_184)))))))))))))))) := by
  simp only [opss, List.flatten_append, cloud_zero, cloud_later _ (by decide : (1 : Fin 8) ≠ 0),
    cloud_later _ (by decide : (2 : Fin 8) ≠ 0), cloud_later _ (by decide : (3 : Fin 8) ≠ 0),
    cloud_later _ (by decide : (4 : Fin 8) ≠ 0), cloud_later _ (by decide : (5 : Fin 8) ≠ 0),
    cloud_later _ (by decide : (6 : Fin 8) ≠ 0), cloud_later _ (by decide : (7 : Fin 8) ≠ 0), List.append_assoc,
    List.flatten_cons, List.flatten_nil, List.append_nil]

/-- The voxel ids of all clouds, as the region lays them out. -/
def allIds (A : FVec Ideal S8x131072x4 .f32) : IVec S8x1x131072 32 := fun y => Vid.ids A (y 0) (ix1 (y 2))

/-- The memory as the region leaves it. -/
def left (c : Dev nD) : Valuation τ sig (Elt Ideal) :=
  Pipeline.withArrays spec0 c (V0 m c) fun w => (dats m 0 c).arrAt w cfg0.N

/-- The memory once the voxel ids stand in rows. -/
def start (c : Dev nD) : Valuation τ sig (Elt Ideal) := after (hostOps1.take 1) (left m c)

theorem left_arg (c : Dev nD) : left m c (Proc.devRef .tc main_arg0) = m ((c : Thread nD τ).loc main_arg0) :=
  (Pipeline.withArrays_of_ne _ c (V0 m c) _ main_arg0 (by decide)).trans (V_main_arg0 m c)

theorem left_ids (c : Dev nD) : left m c (Proc.devRef .tc main_v1) = allIds (m ((c : Thread nD τ).loc main_arg0)) :=
  (Pipeline.withArrays_arr spec0 launch0.win.arr_inj c (V0 m c) (fun w => (dats m 0 c).arrAt w cfg0.N) 1).trans (region m c)

theorem left_true (c : Dev nD) (i : Fin 8) : Holds (left m c) (1 + i.val) ⟨S1, .i1⟩ (constantI S1 1 1#1) := by
  refine fin8 (Q := fun n _ => Holds (left m c) (1 + n) ⟨S1, .i1⟩ (constantI S1 1 1#1))
    (.of main_c rfl rfl rfl (heq_of_eq ?_)) (.of main_c_0 rfl rfl rfl (heq_of_eq ?_))
    (.of main_c_1 rfl rfl rfl (heq_of_eq ?_)) (.of main_c_2 rfl rfl rfl (heq_of_eq ?_))
    (.of main_c_3 rfl rfl rfl (heq_of_eq ?_)) (.of main_c_4 rfl rfl rfl (heq_of_eq ?_))
    (.of main_c_5 rfl rfl rfl (heq_of_eq ?_)) (.of main_c_6 rfl rfl rfl (heq_of_eq ?_)) i
  all_goals
    refine (Pipeline.withArrays_of_ne _ c (V0 m c) _ _ (by decide)).trans ?_
    simp only [V0, hostOps0, List.flatten_cons, List.flatten_nil, List.append_nil]
    after_results_simp

/-- Putting the ids in rows writes one buffer past the region's arrays. -/
theorem start_kept (c : Dev nD) : Kept 11 (left m c) (start m c) :=
  Kept.of_tame _ (n := 11) (by exact Tame.mk rfl ⟨_, rfl, rfl⟩)

theorem start_arg (c : Dev nD) : start m c (Proc.devRef .tc main_arg0) = m ((c : Thread nD τ).loc main_arg0) :=
  (start_kept m c main_arg0 rfl (by decide)).trans (left_arg m c)

theorem start_true (c : Dev nD) (i : Fin 8) : Holds (start m c) (1 + i.val) ⟨S1, .i1⟩ (constantI S1 1 1#1) :=
  (left_true m c i).kept (start_kept m c) (by omega)

theorem start_ids (c : Dev nD) :
    start m c (Proc.devRef .tc main_v2) = rows (allIds (m ((c : Thread nD τ).loc main_arg0))) := by
  rw [← left_ids]
  simp only [start, List.take]
  after_results_simp
  rfl

/-- What @main leaves in a buffer that is no array of the region. -/
theorem tail_eq (c : Dev nD) (b : Ref sig .tc) : Pipeline.afterTail₀ cfgs (dats m) 0 (V0 m) opss c b =
    after hostOps1_184 (after (rest 7) (after (seed 7) (after (rest 6) (after (seed 6) (after (rest 5) (after (seed 5)
      (after (rest 4) (after (seed 4) (after (rest 3) (after (seed 3) (after (rest 2) (after (seed 2) (after (rest 1)
      (after (seed 1) (after (rest 0) (after (seed 0) (start m c))))))))))))))))) (Proc.devRef .tc b) := by
  unfold Pipeline.afterTail₀
  rw [opss_eq]
  simp only [after_append]
  rfl

end Cert.KernelIdeal.Around
-- ==== Proof.SeedR.lean ====
module

public import proofs.«01_k».proof.Proof.Vid
public import proofs.«01_k».proof.Proof.RefCut
public import proofs.«01_k».proof.Proof.Holds

/-! The reference's first operations for a cloud: its points, sliced out of all clouds', and their voxel ids. -/

@[expose] public section

set_option maxRecDepth 16384
set_option maxHeartbeats 4000000

noncomputable section

namespace Cert.ReferenceIdeal.Line

open Cert.ReferenceIdeal Cert.ReferenceIdeal.Gen Idealize.ShloMosaic Idealize.ShloMosaic.TcCoe Idealize.SL.Sem
open Idealize.ShloMosaic.StableHlo Cert.Sim

variable (d : Dev nD)

/-- What the reference's seeds read: the clouds, the sizes of a cell, and each cloud's own copies of the grid's lower corner
    and of its extents. -/
structure Consts (V : Valuation τ sig (Elt Ideal)) (A : FVec Ideal S8x131072x4 .f32) : Prop where
  arg : V (Proc.devRef .tc main_arg0) = A
  size : V (Proc.devRef .tc main_cst_0) = Vid.sizes
  lo0 : V (Proc.devRef .tc main_cst) = Vid.lower
  lo1 : V (Proc.devRef .tc main_cst_2) = Vid.lower
  lo2 : V (Proc.devRef .tc main_cst_5) = Vid.lower
  lo3 : V (Proc.devRef .tc main_cst_8) = Vid.lower
  lo4 : V (Proc.devRef .tc main_cst_11) = Vid.lower
  lo5 : V (Proc.devRef .tc main_cst_14) = Vid.lower
  lo6 : V (Proc.devRef .tc main_cst_17) = Vid.lower
  lo7 : V (Proc.devRef .tc main_cst_20) = Vid.lower
  gr0 : V (Proc.devRef .tc main_c) = Vid.grid
  gr1 : V (Proc.devRef .tc main_c_3) = Vid.grid
  gr2 : V (Proc.devRef .tc main_c_6) = Vid.grid
  gr3 : V (Proc.devRef .tc main_c_9) = Vid.grid
  gr4 : V (Proc.devRef .tc main_c_12) = Vid.grid
  gr5 : V (Proc.devRef .tc main_c_15) = Vid.grid
  gr6 : V (Proc.devRef .tc main_c_18) = Vid.grid
  gr7 : V (Proc.devRef .tc main_c_21) = Vid.grid

/-- Later operations leave them. -/
theorem Consts.kept {V W : Valuation τ sig (Elt Ideal)} {A : FVec Ideal S8x131072x4 .f32} (h : Consts V A) (hk : Kept 26 V W) :
    Consts W A := by
  constructor
  case arg => exact (hk main_arg0 rfl (by decide)).trans h.arg
  case size => exact (hk main_cst_0 rfl (by decide)).trans h.size
  case lo0 => exact (hk main_cst rfl (by decide)).trans h.lo0
  case lo1 => exact (hk main_cst_2 rfl (by decide)).trans h.lo1
  case lo2 => exact (hk main_cst_5 rfl (by decide)).trans h.lo2
  case lo3 => exact (hk main_cst_8 rfl (by decide)).trans h.lo3
  case lo4 => exact (hk main_cst_11 rfl (by decide)).trans h.lo4
  case lo5 => exact (hk main_cst_14 rfl (by decide)).trans h.lo5
  case lo6 => exact (hk main_cst_17 rfl (by decide)).trans h.lo6
  case lo7 => exact (hk main_cst_20 rfl (by decide)).trans h.lo7
  case gr0 => exact (hk main_c rfl (by decide)).trans h.gr0
  case gr1 => exact (hk main_c_3 rfl (by decide)).trans h.gr1
  case gr2 => exact (hk main_c_6 rfl (by decide)).trans h.gr2
  case gr3 => exact (hk main_c_9 rfl (by decide)).trans h.gr3
  case gr4 => exact (hk main_c_12 rfl (by decide)).trans h.gr4
  case gr5 => exact (hk main_c_15 rfl (by decide)).trans h.gr5
  case gr6 => exact (hk main_c_18 rfl (by decide)).trans h.gr6
  case gr7 => exact (hk main_c_21 rfl (by decide)).trans h.gr7

/-- The reference's constants are these. -/
theorem first_consts (V : Valuation τ sig (Elt Ideal)) (A : FVec Ideal S8x131072x4 .f32) (h : V (Proc.devRef .tc main_arg0) = A) :
    Consts (after (first d) V) A := by
  constructor
  all_goals
    apply after_off
    case e =>
      repeat' first
        | exact (rfl : _ = [])
        | apply cons_of rfl
    case h =>
      after_results
      first
        | exact h
        | rfl

/-- The constant `true` of each cloud. -/
theorem first_true (V : Valuation τ sig (Elt Ideal)) (i : Fin 8) :
    Holds (after (first d) V) (4 + 3 * i.val) ⟨S1, .i1⟩ (constantI S1 1 1#1) := by
  refine fin8 (Q := fun n _ => Holds (after (first d) V) (4 + 3 * n) ⟨S1, .i1⟩ (constantI S1 1 1#1))
    (.of main_c_1 rfl rfl rfl (heq_of_eq ?_))
    (.of main_c_4 rfl rfl rfl (heq_of_eq ?_))
    (.of main_c_7 rfl rfl rfl (heq_of_eq ?_))
    (.of main_c_10 rfl rfl rfl (heq_of_eq ?_))
    (.of main_c_13 rfl rfl rfl (heq_of_eq ?_))
    (.of main_c_16 rfl rfl rfl (heq_of_eq ?_))
    (.of main_c_19 rfl rfl rfl (heq_of_eq ?_))
    (.of main_c_22 rfl rfl rfl (heq_of_eq ?_)) i
  all_goals
    apply after_off
    case e =>
      repeat' first
        | exact (rfl : _ = [])
        | apply cons_of rfl
    case h =>
      after_results

/-- A cloud's seed writes from its own place on. -/
theorem seed_tame (i : Fin 8) : (seed (F := Ideal) d i).Forall (Tame (26 + 241 * i.val)) := by
  refine fin8 (Q := fun n i => (seed (F := Ideal) d i).Forall (Tame (26 + 241 * n))) ?_ ?_ ?_ ?_ ?_ ?_ ?_ ?_ i
  all_goals
    apply forall_off
    case e =>
      repeat' first
        | exact (rfl : _ = [])
        | apply cons_of rfl
    case h =>
      repeat' first
        | exact Tame.mk rfl ⟨_, rfl, rfl⟩
        | apply And.intro
        | exact trivial

/-- The reference's points of cloud `i`. -/
theorem seed_pts (V : Valuation τ sig (Elt Ideal)) (A : FVec Ideal S8x131072x4 .f32)
    (h : V (Proc.devRef .tc main_arg0) = A) (i : Fin 8) :
    Holds (after (seed d i) V) (27 + 241 * i.val) ⟨S131072x4, .f32⟩ (Vid.pts A i) := by
  refine fin8 (Q := fun n i => Holds (after (seed d i) V) (27 + 241 * n) ⟨S131072x4, .f32⟩ (Vid.pts A i))
    (.of main_v1 rfl rfl rfl (heq_of_eq ?_)) (.of main_v118 rfl rfl rfl (heq_of_eq ?_))
    (.of main_v235 rfl rfl rfl (heq_of_eq ?_)) (.of main_v352 rfl rfl rfl (heq_of_eq ?_))
    (.of main_v469 rfl rfl rfl (heq_of_eq ?_)) (.of main_v586 rfl rfl rfl (heq_of_eq ?_))
    (.of main_v703 rfl rfl rfl (heq_of_eq ?_)) (.of main_v820 rfl rfl rfl (heq_of_eq ?_)) i
  all_goals
    apply after_off
    case e =>
      repeat' first
        | exact (rfl : _ = [])
        | apply cons_of rfl
    case h =>
      simp only [TRef.binary, TRef.ternary, TRef.unary, TRef.toBuf, TRef.ofBuf, cast_eq]
      after_results_simp
      rw [h]
      refine Vid.pts_eq A _ _ ?_ _ _
      rfl

/-- The reference's voxel ids of cloud `i`. -/
theorem seed_ids (V : Valuation τ sig (Elt Ideal)) (A : FVec Ideal S8x131072x4 .f32) (h : Consts V A) (i : Fin 8) :
    Holds (after (seed d i) V) (63 + 241 * i.val) ⟨S131072, .i32⟩ (Vid.ids A i) := by
  rw [← Vid.refVid_pts]
  refine fin8 (Q := fun n i => Holds (after (seed d i) V) (63 + 241 * n) ⟨S131072, .i32⟩
      (Vid.refVid (Vid.pts A i) Vid.lower Vid.sizes Vid.grid))
    (.of main_v30 rfl rfl rfl (heq_of_eq ?_))
    (.of main_v147 rfl rfl rfl (heq_of_eq ?_))
    (.of main_v264 rfl rfl rfl (heq_of_eq ?_))
    (.of main_v381 rfl rfl rfl (heq_of_eq ?_))
    (.of main_v498 rfl rfl rfl (heq_of_eq ?_))
    (.of main_v615 rfl rfl rfl (heq_of_eq ?_))
    (.of main_v732 rfl rfl rfl (heq_of_eq ?_))
    (.of main_v849 rfl rfl rfl (heq_of_eq ?_)) i
  all_goals
    apply after_off
    case e =>
      repeat' first
        | exact (rfl : _ = [])
        | apply cons_of rfl
    case h =>
      simp only [TRef.binary, TRef.ternary, TRef.unary, TRef.toBuf, TRef.ofBuf, cast_eq]
      after_results_simp
      rw [← Vid.pts_eq A _ _ (by rfl) (by decide) (by decide)]
      simp only [h.arg, h.size, h.lo0, h.lo1, h.lo2, h.lo3, h.lo4, h.lo5, h.lo6, h.lo7,
        h.gr0, h.gr1, h.gr2, h.gr3, h.gr4, h.gr5, h.gr6, h.gr7]
      rfl

end Cert.ReferenceIdeal.Line
-- ==== Proof.Tie.lean ====
module

public import proofs.«01_k».proof.Proof.Body
public import proofs.«01_k».proof.Proof.StartK
public import proofs.«01_k».proof.Proof.SeedR
public import proofs.«01_k».proof.Proof.RefRun
public import proofs.«01_k».proof.Defs

/-! The kernel and the reference, cloud by cloud, up to their results. -/

@[expose] public section

set_option maxRecDepth 16384
set_option maxHeartbeats 4000000

noncomputable section

namespace Cert.Sim

open Idealize.ShloMosaic Idealize.ShloMosaic.StableHlo Idealize.SL.Sem
open Cert.KernelIdeal.Gen
open Cert.KernelIdeal.Around (rest seed allIds rows start)
open Cert.ReferenceIdeal.Line (body first final)

variable (d : Dev Cert.ReferenceIdeal.nD)

/-- Where the two programs keep what they compute for cloud `j`. -/
def mark (j : Fin 8) : Stretch := ⟨15 + 207 * j.val, 219 + 207 * j.val, 63 + 241 * j.val⟩

/-- The two memories once `n` clouds are done: both still hold the clouds `A` and what the seeds read, and they agree on what
    was computed for the clouds done. -/
structure Done (n : ℕ) (A : FVec Ideal KernelIdeal.S8x131072x4 .f32)
    (V : Valuation KernelIdeal.τ KernelIdeal.sig (Elt Ideal)) (V' : Valuation ReferenceIdeal.τ ReferenceIdeal.sig (Elt Ideal)) :
    Prop where
  arg : V (Proc.devRef .tc KernelIdeal.main_arg0) = A
  ids : V (Proc.devRef .tc KernelIdeal.main_v2) = rows (allIds A)
  yes : ∀ i : Fin 8, Holds V (1 + i.val) ⟨KernelIdeal.S1, .i1⟩ (constantI KernelIdeal.S1 1 1#1)
  consts : ReferenceIdeal.Line.Consts V' A
  yes' : ∀ i : Fin 8, Holds V' (4 + 3 * i.val) ⟨KernelIdeal.S1, .i1⟩ (constantI KernelIdeal.S1 1 1#1)
  rel : ∀ j : Fin 8, j.val < n → Rel [mark j] V V'

/-- The ids the region lays out for a cloud are that cloud's. -/
theorem allIds_row (A : FVec Ideal KernelIdeal.S8x131072x4 .f32) (i : Fin 8) :
    (fun q : KernelIdeal.S131072.Idx => allIds A (ix3 i 0 (q 0))) = Vid.ids A i := by
  funext q
  have hq : q = ix1 (q 0) := by
    funext a
    fin_cases a
    rfl
  exact congrArg (Vid.ids A i) hq.symm

/-- The next cloud. -/
theorem Done.step {A : FVec Ideal KernelIdeal.S8x131072x4 .f32} (i : Fin 8)
    {V : Valuation KernelIdeal.τ KernelIdeal.sig (Elt Ideal)} {V' : Valuation ReferenceIdeal.τ ReferenceIdeal.sig (Elt Ideal)}
    (h : Done i.val A V V') :
    Done (i.val + 1) A (after (rest i) (after (seed i) V)) (after (body d i) (after (ReferenceIdeal.Line.seed d i) V')) := by
  have k : Kept (12 + 207 * i.val) V (after (seed i) V) := Kept.of_tame _ (KernelIdeal.Around.seed_tame i)
  have k' : Kept (26 + 241 * i.val) V' (after (ReferenceIdeal.Line.seed d i) V') :=
    Kept.of_tame _ (ReferenceIdeal.Line.seed_tame d i)
  have pts := (KernelIdeal.Around.seed_pts V A h.arg i).rel (ReferenceIdeal.Line.seed_pts d V' A h.consts.arg i)
    (n₁ := 14 + 207 * i.val) (by omega)
  have ids := KernelIdeal.Around.seed_ids V (allIds A) h.ids i
  rw [allIds_row] at ids
  have ids := ids.rel (ReferenceIdeal.Line.seed_ids d V' A h.consts i) (n₁ := 16 + 207 * i.val) (by omega)
  have yes := ((h.yes i).kept k (by omega)).rel ((h.yes' i).kept k' (by omega)) (n₁ := 2 + i.val) (by omega)
  obtain ⟨r, l, l'⟩ := body_sim (F := Ideal) d i _ _ (ids.append (pts.append yes))
  have kw : Kept (12 + 207 * i.val) V (after (rest i) (after (seed i) V)) := k.trans (l.mono (by omega))
  have kw' : Kept (26 + 241 * i.val) V' (after (body d i) (after (ReferenceIdeal.Line.seed d i) V')) :=
    k'.trans (l'.mono (by omega))
  constructor
  case arg => exact (kw KernelIdeal.main_arg0 rfl (Nat.lt_of_lt_of_le (by decide : 0 < 12) (by omega))).trans h.arg
  case ids => exact (kw KernelIdeal.main_v2 rfl (Nat.lt_of_lt_of_le (by decide : 11 < 12) (by omega))).trans h.ids
  case yes => exact fun j => (h.yes j).kept kw (by omega)
  case consts => exact h.consts.kept (kw'.mono (by omega))
  case yes' => exact fun j => (h.yes' j).kept kw' (by omega)
  case rel =>
    intro j hj
    rcases Nat.lt_succ_iff_lt_or_eq.mp hj with hj | hj
    · refine (h.rel j hj).kept ?_ kw kw'
      simp only [before, mark, List.all_cons, List.all_nil, Bool.and_true, Bool.and_eq_true, Nat.ble_eq]
      omega
    · obtain rfl := Fin.ext hj
      exact r.first

/-- A function of eight equal arguments. -/
theorem heq_fun8 {A D : Type} (f : A → A → A → A → A → A → A → A → D) {a0 a1 a2 a3 a4 a5 a6 a7 b0 b1 b2 b3 b4 b5 b6 b7 : A}
    (h0 : HEq a0 b0) (h1 : HEq a1 b1) (h2 : HEq a2 b2) (h3 : HEq a3 b3) (h4 : HEq a4 b4) (h5 : HEq a5 b5) (h6 : HEq a6 b6)
    (h7 : HEq a7 b7) : HEq (f a0 a1 a2 a3 a4 a5 a6 a7) (f b0 b1 b2 b3 b4 b5 b6 b7) := by
  cases h0; cases h1; cases h2; cases h3; cases h4; cases h5; cases h6; cases h7; rfl

/-- Both programs concatenate what they computed for the eight clouds. -/
theorem final_sim : Sim 1668 1668 1954 [mark 0, mark 1, mark 2, mark 3, mark 4, mark 5, mark 6, mark 7]
    (hostOps1_184 (F := Ideal)) (final d) 1671 := by
  repeat' (refine Sim.head (R' := _ :: _) rfl ?_; with_reducible refine Sim.nary ?_ ?_ ?_ ?_ ?_)
  all_goals first
    | exact (rfl : (_ : BufTy) = _)
    | exact (rfl : (_ : Bool) = _)
    | (intro k; fin_cases k <;> rfl)
    | exact fun u u' hu => heq_fun8 (fun a b c d e f g h => concatenate KernelIdeal.S160000x5x4 0 [⟨KernelIdeal.S20000x5x4, a⟩,
        ⟨KernelIdeal.S20000x5x4, b⟩, ⟨KernelIdeal.S20000x5x4, c⟩, ⟨KernelIdeal.S20000x5x4, d⟩, ⟨KernelIdeal.S20000x5x4, e⟩,
        ⟨KernelIdeal.S20000x5x4, f⟩, ⟨KernelIdeal.S20000x5x4, g⟩, ⟨KernelIdeal.S20000x5x4, h⟩]
        concatenates_S20000x5x4_S20000x5x4_S20000x5x4_S20000x5x4_S20000x5x4_S20000x5x4_S20000x5x4_S20000x5x4_S160000x5x4_d0)
        (hu 0) (hu 1) (hu 2) (hu 3) (hu 4) (hu 5) (hu 6) (hu 7)
    | exact fun u u' hu => heq_fun8 (fun a b c d e f g h => concatenate KernelIdeal.S160000x4 0 [⟨KernelIdeal.S20000x4, a⟩,
        ⟨KernelIdeal.S20000x4, b⟩, ⟨KernelIdeal.S20000x4, c⟩, ⟨KernelIdeal.S20000x4, d⟩, ⟨KernelIdeal.S20000x4, e⟩,
        ⟨KernelIdeal.S20000x4, f⟩, ⟨KernelIdeal.S20000x4, g⟩, ⟨KernelIdeal.S20000x4, h⟩]
        concatenates_S20000x4_S20000x4_S20000x4_S20000x4_S20000x4_S20000x4_S20000x4_S20000x4_S160000x4_d0)
        (hu 0) (hu 1) (hu 2) (hu 3) (hu 4) (hu 5) (hu 6) (hu 7)
    | exact fun u u' hu => heq_fun8 (fun a b c d e f g h => concatenate KernelIdeal.S160000 0 [⟨KernelIdeal.S20000, a⟩,
        ⟨KernelIdeal.S20000, b⟩, ⟨KernelIdeal.S20000, c⟩, ⟨KernelIdeal.S20000, d⟩, ⟨KernelIdeal.S20000, e⟩,
        ⟨KernelIdeal.S20000, f⟩, ⟨KernelIdeal.S20000, g⟩, ⟨KernelIdeal.S20000, h⟩]
        concatenates_S20000_S20000_S20000_S20000_S20000_S20000_S20000_S20000_S160000_d0)
        (hu 0) (hu 1) (hu 2) (hu 3) (hu 4) (hu 5) (hu 6) (hu 7)
    | exact Sim.nil _ _ _ _

/-- Once all clouds are done, the two programs' results agree. -/
theorem Done.results {A : FVec Ideal KernelIdeal.S8x131072x4 .f32} {V : Valuation KernelIdeal.τ KernelIdeal.sig (Elt Ideal)}
    {V' : Valuation ReferenceIdeal.τ ReferenceIdeal.sig (Elt Ideal)} (h : Done 8 A V V') :
    Rel [⟨1668, 1671, 1954⟩] (after hostOps1_184 V) (after (final d) V') := by
  refine (final_sim d V V' (Rel.all fun s hs => ?_)).1.first
  simp only [List.mem_cons, List.not_mem_nil, or_false] at hs
  rcases hs with rfl | rfl | rfl | rfl | rfl | rfl | rfl | rfl | rfl
  · intro x x' hx
    simp only [pairs, Stretch.pairs, List.any_cons, List.any_nil, Bool.or_false, Bool.and_eq_true, Nat.ble_eq, Nat.blt] at hx
    omega
  all_goals exact h.rel _ (by decide)

/-- From equal arguments, the two programs' results agree. -/
theorem results (m : (ℓ : Loc KernelIdeal.nD KernelIdeal.τ KernelIdeal.sig) → Buf (Elt Ideal) ℓ)
    (V' : Valuation ReferenceIdeal.τ ReferenceIdeal.sig (Elt Ideal)) (c : Dev KernelIdeal.nD)
    (h : V' (Proc.devRef .tc ReferenceIdeal.main_arg0) = m ((c.tc : Thread KernelIdeal.nD KernelIdeal.τ).loc KernelIdeal.main_arg0))
    (x : Ref KernelIdeal.sig .tc) (x' : Ref ReferenceIdeal.sig .tc) (hx : pairs [⟨1668, 1671, 1954⟩] x x' = true) :
    HEq (Pipeline.afterTail₀ KernelIdeal.cfgs (KernelIdeal.Around.dats m) 0 (KernelIdeal.Around.V0 m) KernelIdeal.Around.opss c x)
      (after (ReferenceIdeal.Line.whole (F := Ideal) d).ops V' (Proc.devRef .tc x')) := by
  have h0 : Done 0 _ (start m c) (after (first d) V') :=
    ⟨KernelIdeal.Around.start_arg m c, KernelIdeal.Around.start_ids m c, KernelIdeal.Around.start_true m c,
      ReferenceIdeal.Line.first_consts d V' _ h, ReferenceIdeal.Line.first_true d V', fun j hj => absurd hj (Nat.not_lt_zero _)⟩
  have h8 : Done 8 _ _ _ := Done.step d 7 (Done.step d 6 (Done.step d 5 (Done.step d 4 (Done.step d 3 (Done.step d 2
    (Done.step d 1 (Done.step d 0 h0)))))))
  rw [KernelIdeal.Around.tail_eq, ReferenceIdeal.Line.whole_eq]
  simp only [after_append]
  exact (h8.results d x x' hx).2

/-- The kernel and the reference, at real arithmetic, run to equal results. -/
theorem algebraic : Cert.algebraic_KernelIdeal_ReferenceIdeal := by
  intro m g m' g' _ hm
  have hc := fun c : Dev KernelIdeal.nD => results c m (launchContents m' c) c (hm c)
  refine ⟨fun c => m ((c.tc : Thread KernelIdeal.nD KernelIdeal.τ).loc KernelIdeal.main_arg0),
    fun c => Pipeline.afterTail₀ KernelIdeal.cfgs (KernelIdeal.Around.dats m) 0 (KernelIdeal.Around.V0 m)
      KernelIdeal.Around.opss c KernelIdeal.main_v723,
    fun c => Pipeline.afterTail₀ KernelIdeal.cfgs (KernelIdeal.Around.dats m) 0 (KernelIdeal.Around.V0 m)
      KernelIdeal.Around.opss c KernelIdeal.main_v724,
    fun c => Pipeline.afterTail₀ KernelIdeal.cfgs (KernelIdeal.Around.dats m) 0 (KernelIdeal.Around.V0 m)
      KernelIdeal.Around.opss c KernelIdeal.main_v725, ?_, ?_⟩
  · refine (θ_run KernelIdeal.defs _ _).mono (fun r h c => ?_) (KernelIdeal.Around.run_main_quiescent m g)
    have ha := ((h.1 c).2 KernelIdeal.main_arg0 (Pipeline.mem_restRefs_of _ (by decide) (by decide))).trans
      (KernelIdeal.Around.W_main_arg0 m (KernelIdeal.Around.dats m) c)
    exact ⟨ha, (h.1 c).2 KernelIdeal.main_v723 (Pipeline.mem_restRefs_of _ (by decide) (by decide)),
      (h.1 c).2 KernelIdeal.main_v724 (Pipeline.mem_restRefs_of _ (by decide) (by decide)),
      (h.1 c).2 KernelIdeal.main_v725 (Pipeline.mem_restRefs_of _ (by decide) (by decide)), ha⟩
  · refine (θ_run ReferenceIdeal.defs _ _).mono (fun r h c => ?_) (ReferenceIdeal.Line.run_main m' g')
    have ha := (h c ReferenceIdeal.main_arg0).trans (Tame.after_early (n := 1) (by decide) _ _
      ((ReferenceIdeal.Line.whole c).straight.tame (ReferenceIdeal.Line.whole_late c)))
    exact ⟨ha.trans (hm c), (h c ReferenceIdeal.main_v936).trans (eq_of_heq (hc c KernelIdeal.main_v723 _ rfl)).symm,
      (h c ReferenceIdeal.main_v937).trans (eq_of_heq (hc c KernelIdeal.main_v724 _ rfl)).symm,
      (h c ReferenceIdeal.main_v938).trans (eq_of_heq (hc c KernelIdeal.main_v725 _ rfl)).symm, ha⟩

end Cert.Sim
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Around
public import proofs.«01_k».proof.Proof.AroundI
public import proofs.«01_k».proof.Proof.RefRun
public import proofs.«01_k».proof.Proof.Tie

/-! The claim, assembled: the three programs' frames, the ideal program's agreement with the kernel, and the equality of the
kernel's and the reference's results. -/

@[expose] public section

noncomputable section

namespace Cert.Proof

open Idealize.ShloMosaic Idealize.SL.Sem

/-- Everything that is claimed of the voxelizer. -/
theorem claim : Cert.Claim :=
  ⟨Cert.Kernel.Gen.facts, Cert.KernelIdeal.Gen.facts, Cert.ReferenceIdeal.Gen.facts,
    fun m ρ _ => Cert.Kernel.Around.frame m ρ,
    fun m ρ _ => Cert.KernelIdeal.Around.frame m ρ,
    fun m ρ _ => Cert.ReferenceIdeal.Line.frame m ρ,
    trivial, Cert.Sim.algebraic⟩

end Cert.Proof

end
